-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_at_most_100 [hPre_scores_at_most_100 : Cert.Pre_scores_at_most_100.Facts] (m : (ℓ : Loc Cert.KernelIdeal.nD Cert.KernelIdeal.τ Cert.KernelIdeal.sig) → Buf (Elt Ideal) ℓ) : Prop :=
  ∀ c : Dev Cert.KernelIdeal.nD,
    (Cert.Pre_scores_at_most_100.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_at_most_100 [hPre_scores_at_most_100 : Cert.Pre_scores_at_most_100.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_at_most_100.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def Pre_InprojPrompt (m : (ℓ : Loc Cert.InprojPrompt.nD Cert.InprojPrompt.τ Cert.InprojPrompt.sig) → Buf (Elt Bits) ℓ) : Prop :=
  True

def Pre_InprojPromptIdeal (m : (ℓ : Loc Cert.InprojPromptIdeal.nD Cert.InprojPromptIdeal.τ Cert.InprojPromptIdeal.sig) → Buf (Elt Ideal) ℓ) : Prop :=
  True

def Pre_InprojPromptReferenceIdeal (m : (ℓ : Loc Cert.InprojPromptReferenceIdeal.nD Cert.InprojPromptReferenceIdeal.τ Cert.InprojPromptReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_at_most_100 [hKernelIdeal : Cert.KernelIdeal.Facts] [hPre_scores_at_most_100 : Cert.Pre_scores_at_most_100.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_at_most_100 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_at_most_100 [hReferenceIdeal : Cert.ReferenceIdeal.Facts] [hPre_scores_at_most_100 : Cert.Pre_scores_at_most_100.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_at_most_100 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4)
      ∧ r.2.mem ((c.tc : Thread Cert.MergeSampleReferenceIdeal.nD Cert.MergeSampleReferenceIdeal.τ).loc Cert.MergeSampleReferenceIdeal.main_arg5) = m ((c.tc : Thread Cert.MergeSampleReferenceIdeal.nD Cert.MergeSampleReferenceIdeal.τ).loc Cert.MergeSampleReferenceIdeal.main_arg5)
      ∧ r.2.mem ((c.tc : Thread Cert.MergeSampleReferenceIdeal.nD Cert.MergeSampleReferenceIdeal.τ).loc Cert.MergeSampleReferenceIdeal.main_arg6) = m ((c.tc : Thread Cert.MergeSampleReferenceIdeal.nD Cert.MergeSampleReferenceIdeal.τ).loc Cert.MergeSampleReferenceIdeal.main_arg6)
      ∧ r.2.mem ((c.tc : Thread Cert.MergeSampleReferenceIdeal.nD Cert.MergeSampleReferenceIdeal.τ).loc Cert.MergeSampleReferenceIdeal.main_arg7) = m ((c.tc : Thread Cert.MergeSampleReferenceIdeal.nD Cert.MergeSampleReferenceIdeal.τ).loc Cert.MergeSampleReferenceIdeal.main_arg7))
      ∧ r.2.sem = fun _ => 0)

def quiescent_InprojPrompt [hInprojPrompt : Cert.InprojPrompt.Facts] : Prop :=
  ∀ (m : (ℓ : Loc Cert.InprojPrompt.nD Cert.InprojPrompt.τ Cert.InprojPrompt.sig) → Buf (Elt Bits) ℓ) (g : Dev Cert.InprojPrompt.nD → PrngReg), Pre_InprojPrompt m →
    θ_run (Cert.InprojPrompt.defs (F := Bits)) (onTc (τ := Cert.InprojPrompt.τ) (Cert.InprojPrompt.main (F := Bits))) ⟨m, fun _ => 0, g⟩ (fun r => (∀ c : Dev Cert.InprojPrompt.nD,
      r.2.mem ((c.tc : Thread Cert.InprojPrompt.nD Cert.InprojPrompt.τ).loc Cert.InprojPrompt.main_arg0) = m ((c.tc : Thread Cert.InprojPrompt.nD Cert.InprojPrompt.τ).loc Cert.InprojPrompt.main_arg0)
      ∧ r.2.mem ((c.tc : Thread Cert.InprojPrompt.nD Cert.InprojPrompt.τ).loc Cert.InprojPrompt.main_arg1) = m ((c.tc : Thread Cert.InprojPrompt.nD Cert.InprojPrompt.τ).loc Cert.InprojPrompt.main_arg1)
      ∧ r.2.mem ((c.tc : Thread Cert.InprojPrompt.nD Cert.InprojPrompt.τ).loc Cert.InprojPrompt.main_arg2) = m ((c.tc : Thread Cert.InprojPrompt.nD Cert.InprojPrompt.τ).loc Cert.InprojPrompt.main_arg2)
      ∧ r.2.mem ((c.tc : Thread Cert.InprojPrompt.nD Cert.InprojPrompt.τ).loc Cert.InprojPrompt.main_arg3) = m ((c.tc : Thread Cert.InprojPrompt.nD Cert.InprojPrompt.τ).loc Cert.InprojPrompt.main_arg3)
      ∧ r.2.mem ((c.tc : Thread Cert.InprojPrompt.nD Cert.InprojPrompt.τ).loc Cert.InprojPrompt.main_arg4) = m ((c.tc : Thread Cert.InprojPrompt.nD Cert.InprojPrompt.τ).loc Cert.InprojPrompt.main_arg4)
      ∧ r.2.mem ((c.tc : Thread Cert.InprojPrompt.nD Cert.InprojPrompt.τ).loc Cert.InprojPrompt.main_arg5) = m ((c.tc : Thread Cert.InprojPrompt.nD Cert.InprojPrompt.τ).loc Cert.InprojPrompt.main_arg5)
      ∧ r.2.mem ((c.tc : Thread Cert.InprojPrompt.nD Cert.InprojPrompt.τ).loc Cert.InprojPrompt.main_arg6) = m ((c.tc : Thread Cert.InprojPrompt.nD Cert.InprojPrompt.τ).loc Cert.InprojPrompt.main_arg6)
      ∧ r.2.mem ((c.tc : Thread Cert.InprojPrompt.nD Cert.InprojPrompt.τ).loc Cert.InprojPrompt.main_arg7) = m ((c.tc : Thread Cert.InprojPrompt.nD Cert.InprojPrompt.τ).loc Cert.InprojPrompt.main_arg7)
      ∧ r.2.mem ((c.tc : Thread Cert.InprojPrompt.nD Cert.InprojPrompt.τ).loc Cert.InprojPrompt.main_arg8) = m ((c.tc : Thread Cert.InprojPrompt.nD Cert.InprojPrompt.τ).loc Cert.InprojPrompt.main_arg8)
      ∧ r.2.mem ((c.tc : Thread Cert.InprojPrompt.nD Cert.InprojPrompt.τ).loc Cert.InprojPrompt.main_arg9) = m ((c.tc : Thread Cert.InprojPrompt.nD Cert.InprojPrompt.τ).loc Cert.InprojPrompt.main_arg9))
      ∧ r.2.sem = fun _ => 0)

def quiescent_InprojPromptIdeal [hInprojPromptIdeal : Cert.InprojPromptIdeal.Facts] : Prop :=
  ∀ (m : (ℓ : Loc Cert.InprojPromptIdeal.nD Cert.InprojPromptIdeal.τ Cert.InprojPromptIdeal.sig) → Buf (Elt Ideal) ℓ) (g : Dev Cert.InprojPromptIdeal.nD → PrngReg), Pre_InprojPromptIdeal m →
    θ_run (Cert.InprojPromptIdeal.defs (F := Ideal)) (onTc (τ := Cert.InprojPromptIdeal.τ) (Cert.InprojPromptIdeal.main (F := Ideal))) ⟨m, fun _ => 0, g⟩ (fun r => (∀ c : Dev Cert.InprojPromptIdeal.nD,
      r.2.mem ((c.tc : Thread Cert.InprojPromptIdeal.nD Cert.InprojPromptIdeal.τ).loc Cert.InprojPromptIdeal.main_arg0) = m ((c.tc : Thread Cert.InprojPromptIdeal.nD Cert.InprojPromptIdeal.τ).loc Cert.InprojPromptIdeal.main_arg0)
      ∧ r.2.mem ((c.tc : Thread Cert.InprojPromptIdeal.nD Cert.InprojPromptIdeal.τ).loc Cert.InprojPromptIdeal.main_arg1) = m ((c.tc : Thread Cert.InprojPromptIdeal.nD Cert.InprojPromptIdeal.τ).loc Cert.InprojPromptIdeal.main_arg1)
      ∧ r.2.mem ((c.tc : Thread Cert.InprojPromptIdeal.nD Cert.InprojPromptIdeal.τ).loc Cert.InprojPromptIdeal.main_arg2) = m ((c.tc : Thread Cert.InprojPromptIdeal.nD Cert.InprojPromptIdeal.τ).loc Cert.InprojPromptIdeal.main_arg2)
      ∧ r.2.mem ((c.tc : Thread Cert.InprojPromptIdeal.nD Cert.InprojPromptIdeal.τ).loc Cert.InprojPromptIdeal.main_arg3) = m ((c.tc : Thread Cert.InprojPromptIdeal.nD Cert.InprojPromptIdeal.τ).loc Cert.InprojPromptIdeal.main_arg3)
      ∧ r.2.mem ((c.tc : Thread Cert.InprojPromptIdeal.nD Cert.InprojPromptIdeal.τ).loc Cert.InprojPromptIdeal.main_arg4) = m ((c.tc : Thread Cert.InprojPromptIdeal.nD Cert.InprojPromptIdeal.τ).loc Cert.InprojPromptIdeal.main_arg4)
      ∧ r.2.mem ((c.tc : Thread Cert.InprojPromptIdeal.nD Cert.InprojPromptIdeal.τ).loc Cert.InprojPromptIdeal.main_arg5) = m ((c.tc : Thread Cert.InprojPromptIdeal.nD Cert.InprojPromptIdeal.τ).loc Cert.InprojPromptIdeal.main_arg5)
      ∧ r.2.mem ((c.tc : Thread Cert.InprojPromptIdeal.nD Cert.InprojPromptIdeal.τ).loc Cert.InprojPromptIdeal.main_arg6) = m ((c.tc : Thread Cert.InprojPromptIdeal.nD Cert.InprojPromptIdeal.τ).loc Cert.InprojPromptIdeal.main_arg6)
      ∧ r.2.mem ((c.tc : Thread Cert.InprojPromptIdeal.nD Cert.InprojPromptIdeal.τ).loc Cert.InprojPromptIdeal.main_arg7) = m ((c.tc : Thread Cert.InprojPromptIdeal.nD Cert.InprojPromptIdeal.τ).loc Cert.InprojPromptIdeal.main_arg7)
      ∧ r.2.mem ((c.tc : Thread Cert.InprojPromptIdeal.nD Cert.InprojPromptIdeal.τ).loc Cert.InprojPromptIdeal.main_arg8) = m ((c.tc : Thread Cert.InprojPromptIdeal.nD Cert.InprojPromptIdeal.τ).loc Cert.InprojPromptIdeal.main_arg8)
      ∧ r.2.mem ((c.tc : Thread Cert.InprojPromptIdeal.nD Cert.InprojPromptIdeal.τ).loc Cert.InprojPromptIdeal.main_arg9) = m ((c.tc : Thread Cert.InprojPromptIdeal.nD Cert.InprojPromptIdeal.τ).loc Cert.InprojPromptIdeal.main_arg9))
      ∧ r.2.sem = fun _ => 0)

def quiescent_InprojPromptReferenceIdeal [hInprojPromptReferenceIdeal : Cert.InprojPromptReferenceIdeal.Facts] : Prop :=
  ∀ (m : (ℓ : Loc Cert.InprojPromptReferenceIdeal.nD Cert.InprojPromptReferenceIdeal.τ Cert.InprojPromptReferenceIdeal.sig) → Buf (Elt Ideal) ℓ) (g : Dev Cert.InprojPromptReferenceIdeal.nD → PrngReg), Pre_InprojPromptReferenceIdeal m →
    θ_run (Cert.InprojPromptReferenceIdeal.defs (F := Ideal)) (onTc (τ := Cert.InprojPromptReferenceIdeal.τ) (Cert.InprojPromptReferenceIdeal.main (F := Ideal))) ⟨m, fun _ => 0, g⟩ (fun r => (∀ c : Dev Cert.InprojPromptReferenceIdeal.nD,
      r.2.mem ((c.tc : Thread Cert.InprojPromptReferenceIdeal.nD Cert.InprojPromptReferenceIdeal.τ).loc Cert.InprojPromptReferenceIdeal.main_arg0) = m ((c.tc : Thread Cert.InprojPromptReferenceIdeal.nD Cert.InprojPromptReferenceIdeal.τ).loc Cert.InprojPromptReferenceIdeal.main_arg0)
      ∧ r.2.mem ((c.tc : Thread Cert.InprojPromptReferenceIdeal.nD Cert.InprojPromptReferenceIdeal.τ).loc Cert.InprojPromptReferenceIdeal.main_arg1) = m ((c.tc : Thread Cert.InprojPromptReferenceIdeal.nD Cert.InprojPromptReferenceIdeal.τ).loc Cert.InprojPromptReferenceIdeal.main_arg1)
      ∧ r.2.mem ((c.tc : Thread Cert.InprojPromptReferenceIdeal.nD Cert.InprojPromptReferenceIdeal.τ).loc Cert.InprojPromptReferenceIdeal.main_arg2) = m ((c.tc : Thread Cert.InprojPromptReferenceIdeal.nD Cert.InprojPromptReferenceIdeal.τ).loc Cert.InprojPromptReferenceIdeal.main_arg2)
      ∧ r.2.mem ((c.tc : Thread Cert.InprojPromptReferenceIdeal.nD Cert.InprojPromptReferenceIdeal.τ).loc Cert.InprojPromptReferenceIdeal.main_arg3) = m ((c.tc : Thread Cert.InprojPromptReferenceIdeal.nD Cert.InprojPromptReferenceIdeal.τ).loc Cert.InprojPromptReferenceIdeal.main_arg3)
      ∧ r.2.mem ((c.tc : Thread Cert.InprojPromptReferenceIdeal.nD Cert.InprojPromptReferenceIdeal.τ).loc Cert.InprojPromptReferenceIdeal.main_arg4) = m ((c.tc : Thread Cert.InprojPromptReferenceIdeal.nD Cert.InprojPromptReferenceIdeal.τ).loc Cert.InprojPromptReferenceIdeal.main_arg4)
      ∧ r.2.mem ((c.tc : Thread Cert.InprojPromptReferenceIdeal.nD Cert.InprojPromptReferenceIdeal.τ).loc Cert.InprojPromptReferenceIdeal.main_arg5) = m ((c.tc : Thread Cert.InprojPromptReferenceIdeal.nD Cert.InprojPromptReferenceIdeal.τ).loc Cert.InprojPromptReferenceIdeal.main_arg5)
      ∧ r.2.mem ((c.tc : Thread Cert.InprojPromptReferenceIdeal.nD Cert.InprojPromptReferenceIdeal.τ).loc Cert.InprojPromptReferenceIdeal.main_arg6) = m ((c.tc : Thread Cert.InprojPromptReferenceIdeal.nD Cert.InprojPromptReferenceIdeal.τ).loc Cert.InprojPromptReferenceIdeal.main_arg6)
      ∧ r.2.mem ((c.tc : Thread Cert.InprojPromptReferenceIdeal.nD Cert.InprojPromptReferenceIdeal.τ).loc Cert.InprojPromptReferenceIdeal.main_arg7) = m ((c.tc : Thread Cert.InprojPromptReferenceIdeal.nD Cert.InprojPromptReferenceIdeal.τ).loc Cert.InprojPromptReferenceIdeal.main_arg7)
      ∧ r.2.mem ((c.tc : Thread Cert.InprojPromptReferenceIdeal.nD Cert.InprojPromptReferenceIdeal.τ).loc Cert.InprojPromptReferenceIdeal.main_arg8) = m ((c.tc : Thread Cert.InprojPromptReferenceIdeal.nD Cert.InprojPromptReferenceIdeal.τ).loc Cert.InprojPromptReferenceIdeal.main_arg8)
      ∧ r.2.mem ((c.tc : Thread Cert.InprojPromptReferenceIdeal.nD Cert.InprojPromptReferenceIdeal.τ).loc Cert.InprojPromptReferenceIdeal.main_arg9) = m ((c.tc : Thread Cert.InprojPromptReferenceIdeal.nD Cert.InprojPromptReferenceIdeal.τ).loc Cert.InprojPromptReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scores_at_most_100 [hKernelIdeal : Cert.KernelIdeal.Facts] [hReferenceIdeal : Cert.ReferenceIdeal.Facts] [hPre_scores_at_most_100 : Cert.Pre_scores_at_most_100.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_at_most_100 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Inproj_InprojIdeal : Prop :=
  IdealRules.named_const.Statement Cert.InprojIdeal.κ "q_scale" .f32 0x3E38AA3B#32 (((Real.log 256)⁻¹ : ℝ) : EReal)

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v23_0)) (v1 : (c : Dev Cert.InprojIdeal.nD) → Buf (Elt Ideal) ((c.tc : Thread Cert.InprojIdeal.nD Cert.InprojIdeal.τ).loc Cert.InprojIdeal.main_v23_1)) (v2 : (c : Dev Cert.InprojIdeal.nD) → Buf (Elt Ideal) ((c.tc : Thread Cert.InprojIdeal.nD Cert.InprojIdeal.τ).loc Cert.InprojIdeal.main_v23_2)) (v3 : (c : Dev Cert.InprojIdeal.nD) → Buf (Elt Ideal) ((c.tc : Thread Cert.InprojIdeal.nD Cert.InprojIdeal.τ).loc Cert.InprojIdeal.main_v23_3)) (v4 : (c : Dev Cert.InprojIdeal.nD) → Buf (Elt Ideal) ((c.tc : Thread Cert.InprojIdeal.nD Cert.InprojIdeal.τ).loc Cert.InprojIdeal.main_v23_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v23_0) = v0 c
          ∧ r.2.mem ((c.tc : Thread Cert.InprojIdeal.nD Cert.InprojIdeal.τ).loc Cert.InprojIdeal.main_v23_1) = v1 c
          ∧ r.2.mem ((c.tc : Thread Cert.InprojIdeal.nD Cert.InprojIdeal.τ).loc Cert.InprojIdeal.main_v23_2) = v2 c
          ∧ r.2.mem ((c.tc : Thread Cert.InprojIdeal.nD Cert.InprojIdeal.τ).loc Cert.InprojIdeal.main_v23_3) = v3 c
          ∧ r.2.mem ((c.tc : Thread Cert.InprojIdeal.nD Cert.InprojIdeal.τ).loc Cert.InprojIdeal.main_v23_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v61) = v0 c
          ∧ r.2.mem ((c.tc : Thread Cert.InprojReferenceIdeal.nD Cert.InprojReferenceIdeal.τ).loc Cert.InprojReferenceIdeal.main_v62) = v1 c
          ∧ r.2.mem ((c.tc : Thread Cert.InprojReferenceIdeal.nD Cert.InprojReferenceIdeal.τ).loc Cert.InprojReferenceIdeal.main_v16) = v2 c
          ∧ r.2.mem ((c.tc : Thread Cert.InprojReferenceIdeal.nD Cert.InprojReferenceIdeal.τ).loc Cert.InprojReferenceIdeal.main_v17) = v3 c
          ∧ r.2.mem ((c.tc : Thread Cert.InprojReferenceIdeal.nD Cert.InprojReferenceIdeal.τ).loc Cert.InprojReferenceIdeal.main_v54) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_MergeSample_MergeSampleIdeal : Prop :=
  True

def algebraic_MergeSampleIdeal_MergeSampleReferenceIdeal [hMergeSampleIdeal : Cert.MergeSampleIdeal.Facts] [hMergeSampleReferenceIdeal : Cert.MergeSampleReferenceIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleIdeal m →
    (∀ c : Dev Cert.MergeSampleIdeal.nD,
      m' ((c.tc : Thread Cert.MergeSampleReferenceIdeal.nD Cert.MergeSampleReferenceIdeal.τ).loc Cert.MergeSampleReferenceIdeal.main_arg0) = m ((c.tc : Thread Cert.MergeSampleIdeal.nD Cert.MergeSampleIdeal.τ).loc Cert.MergeSampleIdeal.main_arg0)
      ∧ m' ((c.tc : Thread Cert.MergeSampleReferenceIdeal.nD Cert.MergeSampleReferenceIdeal.τ).loc Cert.MergeSampleReferenceIdeal.main_arg1) = m ((c.tc : Thread Cert.MergeSampleIdeal.nD Cert.MergeSampleIdeal.τ).loc Cert.MergeSampleIdeal.main_arg1)
      ∧ m' ((c.tc : Thread Cert.MergeSampleReferenceIdeal.nD Cert.MergeSampleReferenceIdeal.τ).loc Cert.MergeSampleReferenceIdeal.main_arg2) = m ((c.tc : Thread Cert.MergeSampleIdeal.nD Cert.MergeSampleIdeal.τ).loc Cert.MergeSampleIdeal.main_arg2)
      ∧ m' ((c.tc : Thread Cert.MergeSampleReferenceIdeal.nD Cert.MergeSampleReferenceIdeal.τ).loc Cert.MergeSampleReferenceIdeal.main_arg3) = m ((c.tc : Thread Cert.MergeSampleIdeal.nD Cert.MergeSampleIdeal.τ).loc Cert.MergeSampleIdeal.main_arg3)
      ∧ m' ((c.tc : Thread Cert.MergeSampleReferenceIdeal.nD Cert.MergeSampleReferenceIdeal.τ).loc Cert.MergeSampleReferenceIdeal.main_arg4) = m ((c.tc : Thread Cert.MergeSampleIdeal.nD Cert.MergeSampleIdeal.τ).loc Cert.MergeSampleIdeal.main_arg4)
      ∧ m' ((c.tc : Thread Cert.MergeSampleReferenceIdeal.nD Cert.MergeSampleReferenceIdeal.τ).loc Cert.MergeSampleReferenceIdeal.main_arg5) = m ((c.tc : Thread Cert.MergeSampleIdeal.nD Cert.MergeSampleIdeal.τ).loc Cert.MergeSampleIdeal.main_arg5)
      ∧ m' ((c.tc : Thread Cert.MergeSampleReferenceIdeal.nD Cert.MergeSampleReferenceIdeal.τ).loc Cert.MergeSampleReferenceIdeal.main_arg6) = m ((c.tc : Thread Cert.MergeSampleIdeal.nD Cert.MergeSampleIdeal.τ).loc Cert.MergeSampleIdeal.main_arg6)
      ∧ m' ((c.tc : Thread Cert.MergeSampleReferenceIdeal.nD Cert.MergeSampleReferenceIdeal.τ).loc Cert.MergeSampleReferenceIdeal.main_arg7) = m ((c.tc : Thread Cert.MergeSampleIdeal.nD Cert.MergeSampleIdeal.τ).loc Cert.MergeSampleIdeal.main_arg7)) →
    ∃ (v0 : (c : Dev Cert.MergeSampleIdeal.nD) → Buf (Elt Ideal) ((c.tc : Thread Cert.MergeSampleIdeal.nD Cert.MergeSampleIdeal.τ).loc Cert.MergeSampleIdeal.main_v0)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v0) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v25) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4)
          ∧ r.2.mem ((c.tc : Thread Cert.MergeSampleReferenceIdeal.nD Cert.MergeSampleReferenceIdeal.τ).loc Cert.MergeSampleReferenceIdeal.main_arg5) = m' ((c.tc : Thread Cert.MergeSampleReferenceIdeal.nD Cert.MergeSampleReferenceIdeal.τ).loc Cert.MergeSampleReferenceIdeal.main_arg5)
          ∧ r.2.mem ((c.tc : Thread Cert.MergeSampleReferenceIdeal.nD Cert.MergeSampleReferenceIdeal.τ).loc Cert.MergeSampleReferenceIdeal.main_arg6) = m' ((c.tc : Thread Cert.MergeSampleReferenceIdeal.nD Cert.MergeSampleReferenceIdeal.τ).loc Cert.MergeSampleReferenceIdeal.main_arg6)
          ∧ r.2.mem ((c.tc : Thread Cert.MergeSampleReferenceIdeal.nD Cert.MergeSampleReferenceIdeal.τ).loc Cert.MergeSampleReferenceIdeal.main_arg7) = m' ((c.tc : Thread Cert.MergeSampleReferenceIdeal.nD Cert.MergeSampleReferenceIdeal.τ).loc Cert.MergeSampleReferenceIdeal.main_arg7))

def preserves_InprojPrompt_InprojPromptIdeal : Prop :=
  IdealRules.named_const.Statement Cert.InprojPromptIdeal.κ "q_scale" .f32 0x3E38AA3B#32 (((Real.log 256)⁻¹ : ℝ) : EReal)

def algebraic_InprojPromptIdeal_InprojPromptReferenceIdeal [hInprojPromptIdeal : Cert.InprojPromptIdeal.Facts] [hInprojPromptReferenceIdeal : Cert.InprojPromptReferenceIdeal.Facts] : Prop :=
  ∀ (m : (ℓ : Loc Cert.InprojPromptIdeal.nD Cert.InprojPromptIdeal.τ Cert.InprojPromptIdeal.sig) → Buf (Elt Ideal) ℓ) (g : Dev Cert.InprojPromptIdeal.nD → PrngReg)
    (m' : (ℓ : Loc Cert.InprojPromptReferenceIdeal.nD Cert.InprojPromptReferenceIdeal.τ Cert.InprojPromptReferenceIdeal.sig) → Buf (Elt Ideal) ℓ) (g' : Dev Cert.InprojPromptReferenceIdeal.nD → PrngReg), Pre_InprojPromptIdeal m →
    (∀ c : Dev Cert.InprojPromptIdeal.nD,
      m' ((c.tc : Thread Cert.InprojPromptReferenceIdeal.nD Cert.InprojPromptReferenceIdeal.τ).loc Cert.InprojPromptReferenceIdeal.main_arg0) = m ((c.tc : Thread Cert.InprojPromptIdeal.nD Cert.InprojPromptIdeal.τ).loc Cert.InprojPromptIdeal.main_arg0)
      ∧ m' ((c.tc : Thread Cert.InprojPromptReferenceIdeal.nD Cert.InprojPromptReferenceIdeal.τ).loc Cert.InprojPromptReferenceIdeal.main_arg1) = m ((c.tc : Thread Cert.InprojPromptIdeal.nD Cert.InprojPromptIdeal.τ).loc Cert.InprojPromptIdeal.main_arg1)
      ∧ m' ((c.tc : Thread Cert.InprojPromptReferenceIdeal.nD Cert.InprojPromptReferenceIdeal.τ).loc Cert.InprojPromptReferenceIdeal.main_arg2) = m ((c.tc : Thread Cert.InprojPromptIdeal.nD Cert.InprojPromptIdeal.τ).loc Cert.InprojPromptIdeal.main_arg2)
      ∧ m' ((c.tc : Thread Cert.InprojPromptReferenceIdeal.nD Cert.InprojPromptReferenceIdeal.τ).loc Cert.InprojPromptReferenceIdeal.main_arg3) = m ((c.tc : Thread Cert.InprojPromptIdeal.nD Cert.InprojPromptIdeal.τ).loc Cert.InprojPromptIdeal.main_arg3)
      ∧ m' ((c.tc : Thread Cert.InprojPromptReferenceIdeal.nD Cert.InprojPromptReferenceIdeal.τ).loc Cert.InprojPromptReferenceIdeal.main_arg4) = m ((c.tc : Thread Cert.InprojPromptIdeal.nD Cert.InprojPromptIdeal.τ).loc Cert.InprojPromptIdeal.main_arg4)
      ∧ m' ((c.tc : Thread Cert.InprojPromptReferenceIdeal.nD Cert.InprojPromptReferenceIdeal.τ).loc Cert.InprojPromptReferenceIdeal.main_arg5) = m ((c.tc : Thread Cert.InprojPromptIdeal.nD Cert.InprojPromptIdeal.τ).loc Cert.InprojPromptIdeal.main_arg5)
      ∧ m' ((c.tc : Thread Cert.InprojPromptReferenceIdeal.nD Cert.InprojPromptReferenceIdeal.τ).loc Cert.InprojPromptReferenceIdeal.main_arg6) = m ((c.tc : Thread Cert.InprojPromptIdeal.nD Cert.InprojPromptIdeal.τ).loc Cert.InprojPromptIdeal.main_arg6)
      ∧ m' ((c.tc : Thread Cert.InprojPromptReferenceIdeal.nD Cert.InprojPromptReferenceIdeal.τ).loc Cert.InprojPromptReferenceIdeal.main_arg7) = m ((c.tc : Thread Cert.InprojPromptIdeal.nD Cert.InprojPromptIdeal.τ).loc Cert.InprojPromptIdeal.main_arg7)
      ∧ m' ((c.tc : Thread Cert.InprojPromptReferenceIdeal.nD Cert.InprojPromptReferenceIdeal.τ).loc Cert.InprojPromptReferenceIdeal.main_arg8) = m ((c.tc : Thread Cert.InprojPromptIdeal.nD Cert.InprojPromptIdeal.τ).loc Cert.InprojPromptIdeal.main_arg8)
      ∧ m' ((c.tc : Thread Cert.InprojPromptReferenceIdeal.nD Cert.InprojPromptReferenceIdeal.τ).loc Cert.InprojPromptReferenceIdeal.main_arg9) = m ((c.tc : Thread Cert.InprojPromptIdeal.nD Cert.InprojPromptIdeal.τ).loc Cert.InprojPromptIdeal.main_arg9)) →
    ∃ (v0 : (c : Dev Cert.InprojPromptIdeal.nD) → Buf (Elt Ideal) ((c.tc : Thread Cert.InprojPromptIdeal.nD Cert.InprojPromptIdeal.τ).loc Cert.InprojPromptIdeal.main_v23_3)) (v1 : (c : Dev Cert.InprojPromptIdeal.nD) → Buf (Elt Ideal) ((c.tc : Thread Cert.InprojPromptIdeal.nD Cert.InprojPromptIdeal.τ).loc Cert.InprojPromptIdeal.main_v23_4)) (v2 : (c : Dev Cert.InprojPromptIdeal.nD) → Buf (Elt Ideal) ((c.tc : Thread Cert.InprojPromptIdeal.nD Cert.InprojPromptIdeal.τ).loc Cert.InprojPromptIdeal.main_v23_5)) (v3 : (c : Dev Cert.InprojPromptIdeal.nD) → Buf (Elt Ideal) ((c.tc : Thread Cert.InprojPromptIdeal.nD Cert.InprojPromptIdeal.τ).loc Cert.InprojPromptIdeal.main_v23_6)),
      θ_run (Cert.InprojPromptIdeal.defs (F := Ideal)) (onTc (τ := Cert.InprojPromptIdeal.τ) (Cert.InprojPromptIdeal.main (F := Ideal))) ⟨m, fun _ => 0, g⟩ (fun r => ∀ c : Dev Cert.InprojPromptIdeal.nD,
          r.2.mem ((c.tc : Thread Cert.InprojPromptIdeal.nD Cert.InprojPromptIdeal.τ).loc Cert.InprojPromptIdeal.main_v23_3) = v0 c
          ∧ r.2.mem ((c.tc : Thread Cert.InprojPromptIdeal.nD Cert.InprojPromptIdeal.τ).loc Cert.InprojPromptIdeal.main_v23_4) = v1 c
          ∧ r.2.mem ((c.tc : Thread Cert.InprojPromptIdeal.nD Cert.InprojPromptIdeal.τ).loc Cert.InprojPromptIdeal.main_v23_5) = v2 c
          ∧ r.2.mem ((c.tc : Thread Cert.InprojPromptIdeal.nD Cert.InprojPromptIdeal.τ).loc Cert.InprojPromptIdeal.main_v23_6) = v3 c
          ∧ r.2.mem ((c.tc : Thread Cert.InprojPromptIdeal.nD Cert.InprojPromptIdeal.τ).loc Cert.InprojPromptIdeal.main_arg0) = m ((c.tc : Thread Cert.InprojPromptIdeal.nD Cert.InprojPromptIdeal.τ).loc Cert.InprojPromptIdeal.main_arg0)
          ∧ r.2.mem ((c.tc : Thread Cert.InprojPromptIdeal.nD Cert.InprojPromptIdeal.τ).loc Cert.InprojPromptIdeal.main_arg1) = m ((c.tc : Thread Cert.InprojPromptIdeal.nD Cert.InprojPromptIdeal.τ).loc Cert.InprojPromptIdeal.main_arg1)
          ∧ r.2.mem ((c.tc : Thread Cert.InprojPromptIdeal.nD Cert.InprojPromptIdeal.τ).loc Cert.InprojPromptIdeal.main_arg2) = m ((c.tc : Thread Cert.InprojPromptIdeal.nD Cert.InprojPromptIdeal.τ).loc Cert.InprojPromptIdeal.main_arg2)
          ∧ r.2.mem ((c.tc : Thread Cert.InprojPromptIdeal.nD Cert.InprojPromptIdeal.τ).loc Cert.InprojPromptIdeal.main_arg3) = m ((c.tc : Thread Cert.InprojPromptIdeal.nD Cert.InprojPromptIdeal.τ).loc Cert.InprojPromptIdeal.main_arg3)
          ∧ r.2.mem ((c.tc : Thread Cert.InprojPromptIdeal.nD Cert.InprojPromptIdeal.τ).loc Cert.InprojPromptIdeal.main_arg4) = m ((c.tc : Thread Cert.InprojPromptIdeal.nD Cert.InprojPromptIdeal.τ).loc Cert.InprojPromptIdeal.main_arg4)
          ∧ r.2.mem ((c.tc : Thread Cert.InprojPromptIdeal.nD Cert.InprojPromptIdeal.τ).loc Cert.InprojPromptIdeal.main_arg5) = m ((c.tc : Thread Cert.InprojPromptIdeal.nD Cert.InprojPromptIdeal.τ).loc Cert.InprojPromptIdeal.main_arg5)
          ∧ r.2.mem ((c.tc : Thread Cert.InprojPromptIdeal.nD Cert.InprojPromptIdeal.τ).loc Cert.InprojPromptIdeal.main_arg6) = m ((c.tc : Thread Cert.InprojPromptIdeal.nD Cert.InprojPromptIdeal.τ).loc Cert.InprojPromptIdeal.main_arg6)
          ∧ r.2.mem ((c.tc : Thread Cert.InprojPromptIdeal.nD Cert.InprojPromptIdeal.τ).loc Cert.InprojPromptIdeal.main_arg7) = m ((c.tc : Thread Cert.InprojPromptIdeal.nD Cert.InprojPromptIdeal.τ).loc Cert.InprojPromptIdeal.main_arg7)
          ∧ r.2.mem ((c.tc : Thread Cert.InprojPromptIdeal.nD Cert.InprojPromptIdeal.τ).loc Cert.InprojPromptIdeal.main_arg8) = m ((c.tc : Thread Cert.InprojPromptIdeal.nD Cert.InprojPromptIdeal.τ).loc Cert.InprojPromptIdeal.main_arg8)
          ∧ r.2.mem ((c.tc : Thread Cert.InprojPromptIdeal.nD Cert.InprojPromptIdeal.τ).loc Cert.InprojPromptIdeal.main_arg9) = m ((c.tc : Thread Cert.InprojPromptIdeal.nD Cert.InprojPromptIdeal.τ).loc Cert.InprojPromptIdeal.main_arg9))
      ∧ θ_run (Cert.InprojPromptReferenceIdeal.defs (F := Ideal)) (onTc (τ := Cert.InprojPromptReferenceIdeal.τ) (Cert.InprojPromptReferenceIdeal.main (F := Ideal))) ⟨m', fun _ => 0, g'⟩ (fun r => ∀ c : Dev Cert.InprojPromptReferenceIdeal.nD,
          r.2.mem ((c.tc : Thread Cert.InprojPromptReferenceIdeal.nD Cert.InprojPromptReferenceIdeal.τ).loc Cert.InprojPromptReferenceIdeal.main_v61) = v0 c
          ∧ r.2.mem ((c.tc : Thread Cert.InprojPromptReferenceIdeal.nD Cert.InprojPromptReferenceIdeal.τ).loc Cert.InprojPromptReferenceIdeal.main_v67) = v1 c
          ∧ r.2.mem ((c.tc : Thread Cert.InprojPromptReferenceIdeal.nD Cert.InprojPromptReferenceIdeal.τ).loc Cert.InprojPromptReferenceIdeal.main_v17) = v2 c
          ∧ r.2.mem ((c.tc : Thread Cert.InprojPromptReferenceIdeal.nD Cert.InprojPromptReferenceIdeal.τ).loc Cert.InprojPromptReferenceIdeal.main_v54) = v3 c
          ∧ r.2.mem ((c.tc : Thread Cert.InprojPromptReferenceIdeal.nD Cert.InprojPromptReferenceIdeal.τ).loc Cert.InprojPromptReferenceIdeal.main_arg0) = m' ((c.tc : Thread Cert.InprojPromptReferenceIdeal.nD Cert.InprojPromptReferenceIdeal.τ).loc Cert.InprojPromptReferenceIdeal.main_arg0)
          ∧ r.2.mem ((c.tc : Thread Cert.InprojPromptReferenceIdeal.nD Cert.InprojPromptReferenceIdeal.τ).loc Cert.InprojPromptReferenceIdeal.main_arg1) = m' ((c.tc : Thread Cert.InprojPromptReferenceIdeal.nD Cert.InprojPromptReferenceIdeal.τ).loc Cert.InprojPromptReferenceIdeal.main_arg1)
          ∧ r.2.mem ((c.tc : Thread Cert.InprojPromptReferenceIdeal.nD Cert.InprojPromptReferenceIdeal.τ).loc Cert.InprojPromptReferenceIdeal.main_arg2) = m' ((c.tc : Thread Cert.InprojPromptReferenceIdeal.nD Cert.InprojPromptReferenceIdeal.τ).loc Cert.InprojPromptReferenceIdeal.main_arg2)
          ∧ r.2.mem ((c.tc : Thread Cert.InprojPromptReferenceIdeal.nD Cert.InprojPromptReferenceIdeal.τ).loc Cert.InprojPromptReferenceIdeal.main_arg3) = m' ((c.tc : Thread Cert.InprojPromptReferenceIdeal.nD Cert.InprojPromptReferenceIdeal.τ).loc Cert.InprojPromptReferenceIdeal.main_arg3)
          ∧ r.2.mem ((c.tc : Thread Cert.InprojPromptReferenceIdeal.nD Cert.InprojPromptReferenceIdeal.τ).loc Cert.InprojPromptReferenceIdeal.main_arg4) = m' ((c.tc : Thread Cert.InprojPromptReferenceIdeal.nD Cert.InprojPromptReferenceIdeal.τ).loc Cert.InprojPromptReferenceIdeal.main_arg4)
          ∧ r.2.mem ((c.tc : Thread Cert.InprojPromptReferenceIdeal.nD Cert.InprojPromptReferenceIdeal.τ).loc Cert.InprojPromptReferenceIdeal.main_arg5) = m' ((c.tc : Thread Cert.InprojPromptReferenceIdeal.nD Cert.InprojPromptReferenceIdeal.τ).loc Cert.InprojPromptReferenceIdeal.main_arg5)
          ∧ r.2.mem ((c.tc : Thread Cert.InprojPromptReferenceIdeal.nD Cert.InprojPromptReferenceIdeal.τ).loc Cert.InprojPromptReferenceIdeal.main_arg6) = m' ((c.tc : Thread Cert.InprojPromptReferenceIdeal.nD Cert.InprojPromptReferenceIdeal.τ).loc Cert.InprojPromptReferenceIdeal.main_arg6)
          ∧ r.2.mem ((c.tc : Thread Cert.InprojPromptReferenceIdeal.nD Cert.InprojPromptReferenceIdeal.τ).loc Cert.InprojPromptReferenceIdeal.main_arg7) = m' ((c.tc : Thread Cert.InprojPromptReferenceIdeal.nD Cert.InprojPromptReferenceIdeal.τ).loc Cert.InprojPromptReferenceIdeal.main_arg7)
          ∧ r.2.mem ((c.tc : Thread Cert.InprojPromptReferenceIdeal.nD Cert.InprojPromptReferenceIdeal.τ).loc Cert.InprojPromptReferenceIdeal.main_arg8) = m' ((c.tc : Thread Cert.InprojPromptReferenceIdeal.nD Cert.InprojPromptReferenceIdeal.τ).loc Cert.InprojPromptReferenceIdeal.main_arg8)
          ∧ r.2.mem ((c.tc : Thread Cert.InprojPromptReferenceIdeal.nD Cert.InprojPromptReferenceIdeal.τ).loc Cert.InprojPromptReferenceIdeal.main_arg9) = m' ((c.tc : Thread Cert.InprojPromptReferenceIdeal.nD Cert.InprojPromptReferenceIdeal.τ).loc Cert.InprojPromptReferenceIdeal.main_arg9))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hInproj : Cert.Inproj.Facts) (hInprojIdeal : Cert.InprojIdeal.Facts) (hInprojReferenceIdeal : Cert.InprojReferenceIdeal.Facts) (hMergeSample : Cert.MergeSample.Facts) (hMergeSampleIdeal : Cert.MergeSampleIdeal.Facts) (hMergeSampleReferenceIdeal : Cert.MergeSampleReferenceIdeal.Facts) (hInprojPrompt : Cert.InprojPrompt.Facts) (hInprojPromptIdeal : Cert.InprojPromptIdeal.Facts) (hInprojPromptReferenceIdeal : Cert.InprojPromptReferenceIdeal.Facts) (hPre_scores_at_most_100 : Cert.Pre_scores_at_most_100.Facts),
    quiescent_Kernel (hKernel := hKernel)
    ∧ quiescent_KernelIdeal (hKernelIdeal := hKernelIdeal)
    ∧ quiescent_KernelIdeal_pre_scores_at_most_100 (hKernelIdeal := hKernelIdeal) (hPre_scores_at_most_100 := hPre_scores_at_most_100)
    ∧ quiescent_ReferenceIdeal (hReferenceIdeal := hReferenceIdeal)
    ∧ quiescent_ReferenceIdeal_pre_scores_at_most_100 (hReferenceIdeal := hReferenceIdeal) (hPre_scores_at_most_100 := hPre_scores_at_most_100)
    ∧ quiescent_Merge (hMerge := hMerge)
    ∧ quiescent_MergeIdeal (hMergeIdeal := hMergeIdeal)
    ∧ quiescent_MergeReferenceIdeal (hMergeReferenceIdeal := hMergeReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_MergeSample (hMergeSample := hMergeSample)
    ∧ quiescent_MergeSampleIdeal (hMergeSampleIdeal := hMergeSampleIdeal)
    ∧ quiescent_MergeSampleReferenceIdeal (hMergeSampleReferenceIdeal := hMergeSampleReferenceIdeal)
    ∧ quiescent_InprojPrompt (hInprojPrompt := hInprojPrompt)
    ∧ quiescent_InprojPromptIdeal (hInprojPromptIdeal := hInprojPromptIdeal)
    ∧ quiescent_InprojPromptReferenceIdeal (hInprojPromptReferenceIdeal := hInprojPromptReferenceIdeal)
    ∧ preserves_Kernel_KernelIdeal
    ∧ algebraic_KernelIdeal_ReferenceIdeal_pre_scores_at_most_100 (hKernelIdeal := hKernelIdeal) (hReferenceIdeal := hReferenceIdeal) (hPre_scores_at_most_100 := hPre_scores_at_most_100)
    ∧ preserves_Merge_MergeIdeal
    ∧ algebraic_MergeIdeal_MergeReferenceIdeal (hMergeIdeal := hMergeIdeal) (hMergeReferenceIdeal := hMergeReferenceIdeal)
    ∧ preserves_Inproj_InprojIdeal
    ∧ algebraic_InprojIdeal_InprojReferenceIdeal (hInprojIdeal := hInprojIdeal) (hInprojReferenceIdeal := hInprojReferenceIdeal)
    ∧ preserves_MergeSample_MergeSampleIdeal
    ∧ algebraic_MergeSampleIdeal_MergeSampleReferenceIdeal (hMergeSampleIdeal := hMergeSampleIdeal) (hMergeSampleReferenceIdeal := hMergeSampleReferenceIdeal)
    ∧ preserves_InprojPrompt_InprojPromptIdeal
    ∧ algebraic_InprojPromptIdeal_InprojPromptReferenceIdeal (hInprojPromptIdeal := hInprojPromptIdeal) (hInprojPromptReferenceIdeal := hInprojPromptReferenceIdeal)
-- ==== Pre_scores_at_most_100.lean ====
abbrev S2x8x128x8192 : Shape := ⟨4, ![2, 8, 128, 8192]⟩
abbrev S2x8x32x256x128 : Shape := ⟨5, ![2, 8, 32, 256, 128]⟩
abbrev S2x8x32x64x256 : Shape := ⟨5, ![2, 8, 32, 64, 256]⟩
abbrev S2x8x8192x128 : Shape := ⟨4, ![2, 8, 8192, 128]⟩
abbrev S2x8x8192x8192 : Shape := ⟨4, ![2, 8, 8192, 8192]⟩
abbrev S_ : Shape := ⟨0, ![]⟩

class Facts : Prop where
  bitsLt_bf16_f32 : FTy.bits .bf16 < FTy.bits .f32
  transposes_S2x8x128x8192_S2x8x8192x128_0_1_3_2 : S2x8x128x8192.Transposes [0, 1, 3, 2] S2x8x8192x128
  shapeCasts_S2x8x32x256x128_S2x8x8192x128 : S2x8x32x256x128.ShapeCasts S2x8x8192x128
  bcast_S_S2x8x8192x8192 : S_.BroadcastsInDim S2x8x8192x8192 (![] : Fin 0 → Fin S2x8x8192x8192.rank)
  dot_S2x8x8192x128_S2x8x8192x128_S2x8x8192x8192_3_3_2_2_01_01_wf : DotDims.WF S2x8x8192x128 S2x8x8192x128 S2x8x8192x8192 [3] [3] [2] [2] [0, 1] [0, 1]

variable [Facts]

def dot_S2x8x8192x128_S2x8x8192x128_S2x8x8192x8192_3_3_2_2_01_01 : DotDims S2x8x8192x128 S2x8x8192x128 S2x8x8192x8192 where
  lhsContracting := [3]
  rhsContracting := [3]
  lhsNonContracting := [2]
  rhsNonContracting := [2]
  lhsBatch := [0, 1]
  rhsBatch := [0, 1]
  wf := dot_S2x8x8192x128_S2x8x8192x128_S2x8x8192x8192_3_3_2_2_01_01_wf
def fn {F : FTy → Type} [FloatOps F] (main_arg0 : FVec F S2x8x128x8192 .bf16) (main_arg1 : FVec F S2x8x32x256x128 .bf16) (main_arg2 : FVec F S2x8x32x64x256 .bf16) : IVec S2x8x8192x8192 1 :=
  let main_v0 : FVec F S2x8x128x8192 .f32 := (extf .f32 · bitsLt_bf16_f32) main_arg0
  let main_v1 : FVec F S2x8x8192x128 .f32 := (transpose S2x8x8192x128 [0, 1, 3, 2] · transposes_S2x8x128x8192_S2x8x8192x128_0_1_3_2) main_v0
  let main_v2 : FVec F S2x8x32x256x128 .f32 := (extf .f32 · bitsLt_bf16_f32) main_arg1
  let main_v3 : FVec F S2x8x8192x128 .f32 := shapeCast S2x8x8192x128 main_v2 shapeCasts_S2x8x32x256x128_S2x8x8192x128
  let main_v4 : FVec F S2x8x8192x8192 .f32 := (fun l r => Host.dotGeneral dot_S2x8x8192x128_S2x8x8192x128_S2x8x8192x8192_3_3_2_2_01_01 none l r) main_v1 main_v3
  let main_cst : FVec F S_ .f32 := constant S_ .f32 0x42C80000#32
  let main_v5 : FVec F S2x8x8192x8192 .f32 := broadcastInDim S2x8x8192x8192 ![] bcast_S_S2x8x8192x8192 main_cst
  let main_v6 : IVec S2x8x8192x8192 1 := cmpf .ole main_v4 main_v5
  main_v6
-- ==== Kernel.lean ====
abbrev S2x8x128x8192 : Shape := ⟨4, ![2, 8, 128, 8192]⟩
abbrev S2x8x32x256x128 : Shape := ⟨5, ![2, 8, 32, 256, 128]⟩
abbrev S2x8x32x64x256 : Shape := ⟨5, ![2, 8, 32, 64, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S2x8x64x8192 : Shape := ⟨4, ![2, 8, 64, 8192]⟩
abbrev S1x8x128x256 : Shape := ⟨4, ![1, 8, 128, 256]⟩
abbrev S1x8x32x256x128 : Shape := ⟨5, ![1, 8, 32, 256, 128]⟩
abbrev S1x8x32x64x256 : Shape := ⟨5, ![1, 8, 32, 64, 256]⟩
abbrev S1x8x64x256 : Shape := ⟨4, ![1, 8, 64, 256]⟩
abbrev S8x1x256 : Shape := ⟨3, ![8, 1, 256]⟩
abbrev S8x256x256 : Shape := ⟨3, ![8, 256, 256]⟩
abbrev S1x1x1x256x128 : Shape := ⟨5, ![1, 1, 1, 256, 128]⟩
abbrev S256x128 : Shape := ⟨2, ![256, 128]⟩
abbrev S1x1x128x256 : Shape := ⟨4, ![1, 1, 128, 256]⟩
abbrev S128x256 : Shape := ⟨2, ![128, 256]⟩
abbrev S1x256x256 : Shape := ⟨3, ![1, 256, 256]⟩
abbrev S1x1x1x64x256 : Shape := ⟨5, ![1, 1, 1, 64, 256]⟩
abbrev S64x256 : Shape := ⟨2, ![64, 256]⟩
abbrev S1x1x64x256 : Shape := ⟨4, ![1, 1, 64, 256]⟩
abbrev S1x1x256 : Shape := ⟨3, ![1, 1, 256]⟩

abbrev nBuf : Space → Nat
  | .hbm => 12
  | .vmem => 10
  | .smem => 0
  | _ => 0

abbrev bufTy : (tb : Table) → Fin (tcTables nBuf tb) → BufTy
  | .hbm, ⟨0, _⟩ => ⟨S2x8x128x8192, .bf16⟩
  | .hbm, ⟨1, _⟩ => ⟨S2x8x32x256x128, .bf16⟩
  | .hbm, ⟨2, _⟩ => ⟨S2x8x32x64x256, .bf16⟩
  | .hbm, ⟨3, _⟩ => ⟨S256, .i32⟩
  | .hbm, ⟨4, _⟩ => ⟨S1x256, .i32⟩
  | .hbm, ⟨5, _⟩ => ⟨S256, .i32⟩
  | .hbm, ⟨6, _⟩ => ⟨S256x1, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S2x8x64x8192, .f32⟩
  | .local _ .vmem, ⟨0, _⟩ => ⟨S1x8x128x256, .bf16⟩
  | .local _ .vmem, ⟨1, _⟩ => ⟨S1x8x128x256, .bf16⟩
  | .local _ .vmem, ⟨2, _⟩ => ⟨S1x8x32x256x128, .bf16⟩
  | .local _ .vmem, ⟨3, _⟩ => ⟨S1x8x32x64x256, .bf16⟩
  | .local _ .vmem, ⟨4, _⟩ => ⟨S256x256, .bf16⟩
  | .local _ .vmem, ⟨5, _⟩ => ⟨S1x8x64x256, .f32⟩
  | .local _ .vmem, ⟨6, _⟩ => ⟨S1x8x64x256, .f32⟩
  | .local _ .vmem, ⟨7, _⟩ => ⟨S8x1x256, .f32⟩
  | .local _ .vmem, ⟨8, _⟩ => ⟨S8x256x256, .f32⟩
  | .local _ .vmem, ⟨9, _⟩ => ⟨S8x256x256, .f32⟩
  | _, _ => ⟨S2x8x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![2, 1, 32], ![false, false, false]⟩

def k0_off1 (i : grid0.Coords) : Fin 5 → Nat :=
  let c0_1 : Index := 0#32
  let c0_2 : Index := 0#32
  let arg2 : BitVec 32 := BitVec.ofNat 32 (i 2).val
  let v2 : Index := Scalar.indexCast arg2
  let c0_3 : Index := 0#32
  let c0_4 : Index := 0#32
  ![0, 0, v2.toNat, 0, 0]
def k0_off2 (i : grid0.Coords) : Fin 5 → Nat :=
  let c0_12 : Index := 0#32
  let c1 : Index := 1#32
  let arg2 : BitVec 32 := BitVec.ofNat 32 (i 2).val
  let v11 : Index := Scalar.indexCast arg2
  let c0_13 : Index := 0#32
  let c0_14 : Index := 0#32
  ![0, 1, v11.toNat, 0, 0]
def k0_off3 (i : grid0.Coords) : Fin 5 → Nat :=
  let c0_23 : Index := 0#32
  let c2 : Index := 2#32
  let arg2 : BitVec 32 := BitVec.ofNat 32 (i 2).val
  let v20 : Index := Scalar.indexCast arg2
  let c0_24 : Index := 0#32
  let c0_25 : Index := 0#32
  ![0, 2, v20.toNat, 0, 0]
def k0_off4 (i : grid0.Coords) : Fin 5 → Nat :=
  let c0_34 : Index := 0#32
  let c3 : Index := 3#32
  let arg2 : BitVec 32 := BitVec.ofNat 32 (i 2).val
  let v29 : Index := Scalar.indexCast arg2
  let c0_35 : Index := 0#32
  let c0_36 : Index := 0#32
  ![0, 3, v29.toNat, 0, 0]
def k0_off5 (i : grid0.Coords) : Fin 5 → Nat :=
  let c0_45 : Index := 0#32
  let c4 : Index := 4#32
  let arg2 : BitVec 32 := BitVec.ofNat 32 (i 2).val
  let v38 : Index := Scalar.indexCast arg2
  let c0_46 : Index := 0#32
  let c0_47 : Index := 0#32
  ![0, 4, v38.toNat, 0, 0]
def k0_off6 (i : grid0.Coords) : Fin 5 → Nat :=
  let c0_56 : Index := 0#32
  let c5 : Index := 5#32
  let arg2 : BitVec 32 := BitVec.ofNat 32 (i 2).val
  let v47 : Index := Scalar.indexCast arg2
  let c0_57 : Index := 0#32
  let c0_58 : Index := 0#32
  ![0, 5, v47.toNat, 0, 0]
def k0_off7 (i : grid0.Coords) : Fin 5 → Nat :=
  let c0_67 : Index := 0#32
  let c6 : Index := 6#32
  let arg2 : BitVec 32 := BitVec.ofNat 32 (i 2).val
  let v56 : Index := Scalar.indexCast arg2
  let c0_68 : Index := 0#32
  let c0_69 : Index := 0#32
  ![0, 6, v56.toNat, 0, 0]
def k0_off8 (i : grid0.Coords) : Fin 5 → Nat :=
  let c0_78 : Index := 0#32
  let c7 : Index := 7#32
  let arg2 : BitVec 32 := BitVec.ofNat 32 (i 2).val
  let v65 : Index := Scalar.indexCast arg2
  let c0_79 : Index := 0#32
  let c0_80 : Index := 0#32
  ![0, 7, v65.toNat, 0, 0]
def k0_off9 (i : grid0.Coords) : Fin 5 → Nat :=
  let c0_89 : Index := 0#32
  let c0_90 : Index := 0#32
  let arg2 : BitVec 32 := BitVec.ofNat 32 (i 2).val
  let c1_i32 : BitVec 32 := 1#32
  let v74 : BitVec 32 := Scalar.subi arg2 c1_i32
  let c0_i32 : BitVec 32 := 0#32
  let v75 : BitVec 32 := Scalar.maxsi v74 c0_i32
  let v76 : Index := Scalar.indexCast v75
  let c0_91 : Index := 0#32
  let c0_92 : Index := 0#32
  ![0, 0, v76.toNat, 0, 0]
def k0_off10 (i : grid0.Coords) : Fin 5 → Nat :=
  let c0_101 : Index := 0#32
  let c1_102 : Index := 1#32
  let arg2 : BitVec 32 := BitVec.ofNat 32 (i 2).val
  let c1_i32 : BitVec 32 := 1#32
  let v74 : BitVec 32 := Scalar.subi arg2 c1_i32
  let c0_i32 : BitVec 32 := 0#32
  let v75 : BitVec 32 := Scalar.maxsi v74 c0_i32
  let v85 : Index := Scalar.indexCast v75
  let c0_103 : Index := 0#32
  let c0_104 : Index := 0#32
  ![0, 1, v85.toNat, 0, 0]
def k0_off11 (i : grid0.Coords) : Fin 5 → Nat :=
  let c0_113 : Index := 0#32
  let c2_114 : Index := 2#32
  let arg2 : BitVec 32 := BitVec.ofNat 32 (i 2).val
  let c1_i32 : BitVec 32 := 1#32
  let v74 : BitVec 32 := Scalar.subi arg2 c1_i32
  let c0_i32 : BitVec 32 := 0#32
  let v75 : BitVec 32 := Scalar.maxsi v74 c0_i32
  let v94 : Index := Scalar.indexCast v75
  let c0_115 : Index := 0#32
  let c0_116 : Index := 0#32
  ![0, 2, v94.toNat, 0, 0]
def k0_off12 (i : grid0.Coords) : Fin 5 → Nat :=
  let c0_125 : Index := 0#32
  let c3_126 : Index := 3#32
  let arg2 : BitVec 32 := BitVec.ofNat 32 (i 2).val
  let c1_i32 : BitVec 32 := 1#32
  let v74 : BitVec 32 := Scalar.subi arg2 c1_i32
  let c0_i32 : BitVec 32 := 0#32
  let v75 : BitVec 32 := Scalar.maxsi v74 c0_i32
  let v103 : Index := Scalar.indexCast v75
  let c0_127 : Index := 0#32
  let c0_128 : Index := 0#32
  ![0, 3, v103.toNat, 0, 0]
def k0_off13 (i : grid0.Coords) : Fin 5 → Nat :=
  let c0_137 : Index := 0#32
  let c4_138 : Index := 4#32
  let arg2 : BitVec 32 := BitVec.ofNat 32 (i 2).val
  let c1_i32 : BitVec 32 := 1#32
  let v74 : BitVec 32 := Scalar.subi arg2 c1_i32
  let c0_i32 : BitVec 32 := 0#32
  let v75 : BitVec 32 := Scalar.maxsi v74 c0_i32
  let v112 : Index := Scalar.indexCast v75
  let c0_139 : Index := 0#32
  let c0_140 : Index := 0#32
  ![0, 4, v112.toNat, 0, 0]
def k0_off14 (i : grid0.Coords) : Fin 5 → Nat :=
  let c0_149 : Index := 0#32
  let c5_150 : Index := 5#32
  let arg2 : BitVec 32 := BitVec.ofNat 32 (i 2).val
  let c1_i32 : BitVec 32 := 1#32
  let v74 : BitVec 32 := Scalar.subi arg2 c1_i32
  let c0_i32 : BitVec 32 := 0#32
  let v75 : BitVec 32 := Scalar.maxsi v74 c0_i32
  let v121 : Index := Scalar.indexCast v75
  let c0_151 : Index := 0#32
  let c0_152 : Index := 0#32
  ![0, 5, v121.toNat, 0, 0]
def k0_off15 (i : grid0.Coords) : Fin 5 → Nat :=
  let c0_161 : Index := 0#32
  let c6_162 : Index := 6#32
  let arg2 : BitVec 32 := BitVec.ofNat 32 (i 2).val
  let c1_i32 : BitVec 32 := 1#32
  let v74 : BitVec 32 := Scalar.subi arg2 c1_i32
  let c0_i32 : BitVec 32 := 0#32
  let v75 : BitVec 32 := Scalar.maxsi v74 c0_i32
  let v130 : Index := Scalar.indexCast v75
  let c0_163 : Index := 0#32
  let c0_164 : Index := 0#32
  ![0, 6, v130.toNat, 0, 0]
def k0_off16 (i : grid0.Coords) : Fin 5 → Nat :=
  let c0_173 : Index := 0#32
  let c7_174 : Index := 7#32
  let arg2 : BitVec 32 := BitVec.ofNat 32 (i 2).val
  let c1_i32 : BitVec 32 := 1#32
  let v74 : BitVec 32 := Scalar.subi arg2 c1_i32
  let c0_i32 : BitVec 32 := 0#32
  let v75 : BitVec 32 := Scalar.maxsi v74 c0_i32
  let v139 : Index := Scalar.indexCast v75
  let c0_175 : Index := 0#32
  let c0_176 : Index := 0#32
  ![0, 7, v139.toNat, 0, 0]
def k0_off17 (i : grid0.Coords) : Fin 5 → Nat :=
  let c0_253 : Index := 0#32
  let c0_254 : Index := 0#32
  let arg2 : BitVec 32 := BitVec.ofNat 32 (i 2).val
  let v277 : Index := Scalar.indexCast arg2
  let c0_255 : Index := 0#32
  let c0_256 : Index := 0#32
  ![0, 0, v277.toNat, 0, 0]
def k0_off18 (i : grid0.Coords) : Fin 5 → Nat :=
  let c0_269 : Index := 0#32
  let c1_270 : Index := 1#32
  let arg2 : BitVec 32 := BitVec.ofNat 32 (i 2).val
  let v295 : Index := Scalar.indexCast arg2
  let c0_271 : Index := 0#32
  let c0_272 : Index := 0#32
  ![0, 1, v295.toNat, 0, 0]
def k0_off19 (i : grid0.Coords) : Fin 5 → Nat :=
  let c0_285 : Index := 0#32
  let c2_286 : Index := 2#32
  let arg2 : BitVec 32 := BitVec.ofNat 32 (i 2).val
  let v313 : Index := Scalar.indexCast arg2
  let c0_287 : Index := 0#32
  let c0_288 : Index := 0#32
  ![0, 2, v313.toNat, 0, 0]
def k0_off20 (i : grid0.Coords) : Fin 5 → Nat :=
  let c0_301 : Index := 0#32
  let c3_302 : Index := 3#32
  let arg2 : BitVec 32 := BitVec.ofNat 32 (i 2).val
  let v331 : Index := Scalar.indexCast arg2
  let c0_303 : Index := 0#32
  let c0_304 : Index := 0#32
  ![0, 3, v331.toNat, 0, 0]
def k0_off21 (i : grid0.Coords) : Fin 5 → Nat :=
  let c0_317 : Index := 0#32
  let c4_318 : Index := 4#32
  let arg2 : BitVec 32 := BitVec.ofNat 32 (i 2).val
  let v349 : Index := Scalar.indexCast arg2
  let c0_319 : Index := 0#32
  let c0_320 : Index := 0#32
  ![0, 4, v349.toNat, 0, 0]
def k0_off22 (i : grid0.Coords) : Fin 5 → Nat :=
  let c0_333 : Index := 0#32
  let c5_334 : Index := 5#32
  let arg2 : BitVec 32 := BitVec.ofNat 32 (i 2).val
  let v367 : Index := Scalar.indexCast arg2
  let c0_335 : Index := 0#32
  let c0_336 : Index := 0#32
  ![0, 5, v367.toNat, 0, 0]
def k0_off23 (i : grid0.Coords) : Fin 5 → Nat :=
  let c0_349 : Index := 0#32
  let c6_350 : Index := 6#32
  let arg2 : BitVec 32 := BitVec.ofNat 32 (i 2).val
  let v385 : Index := Scalar.indexCast arg2
  let c0_351 : Index := 0#32
  let c0_352 : Index := 0#32
  ![0, 6, v385.toNat, 0, 0]
def k0_off24 (i : grid0.Coords) : Fin 5 → Nat :=
  let c0_365 : Index := 0#32
  let c7_366 : Index := 7#32
  let arg2 : BitVec 32 := BitVec.ofNat 32 (i 2).val
  let v403 : Index := Scalar.indexCast arg2
  let c0_367 : Index := 0#32
  let c0_368 : Index := 0#32
  ![0, 7, v403.toNat, 0, 0]
@[reducible] def k0_t1_loop (i : grid0.Coords) : Scf.Loop 32 :=
  let c0_i32_384 : BitVec 32 := 0#32
  let arg2 : BitVec 32 := BitVec.ofNat 32 (i 2).val
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_386 : BitVec 32 := 1#32
  ⟨c0_i32_384, v436, c1_i32_386⟩
def k0_off25 (i : grid0.Coords) (k0_t1 : Fin (k0_t1_loop i).trips) : Fin 5 → Nat :=
  let c0_400 : Index := 0#32
  let c0_401 : Index := 0#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v455 : Index := Scalar.indexCast v454
  let c0_402 : Index := 0#32
  let c0_403 : Index := 0#32
  ![0, 0, v455.toNat, 0, 0]
def k0_off26 (i : grid0.Coords) (k0_t1 : Fin (k0_t1_loop i).trips) : Fin 5 → Nat :=
  let c0_412 : Index := 0#32
  let c1_413 : Index := 1#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v464 : Index := Scalar.indexCast v454
  let c0_414 : Index := 0#32
  let c0_415 : Index := 0#32
  ![0, 1, v464.toNat, 0, 0]
def k0_off27 (i : grid0.Coords) (k0_t1 : Fin (k0_t1_loop i).trips) : Fin 5 → Nat :=
  let c0_424 : Index := 0#32
  let c2_425 : Index := 2#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v473 : Index := Scalar.indexCast v454
  let c0_426 : Index := 0#32
  let c0_427 : Index := 0#32
  ![0, 2, v473.toNat, 0, 0]
def k0_off28 (i : grid0.Coords) (k0_t1 : Fin (k0_t1_loop i).trips) : Fin 5 → Nat :=
  let c0_436 : Index := 0#32
  let c3_437 : Index := 3#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v482 : Index := Scalar.indexCast v454
  let c0_438 : Index := 0#32
  let c0_439 : Index := 0#32
  ![0, 3, v482.toNat, 0, 0]
def k0_off29 (i : grid0.Coords) (k0_t1 : Fin (k0_t1_loop i).trips) : Fin 5 → Nat :=
  let c0_448 : Index := 0#32
  let c4_449 : Index := 4#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v491 : Index := Scalar.indexCast v454
  let c0_450 : Index := 0#32
  let c0_451 : Index := 0#32
  ![0, 4, v491.toNat, 0, 0]
def k0_off30 (i : grid0.Coords) (k0_t1 : Fin (k0_t1_loop i).trips) : Fin 5 → Nat :=
  let c0_460 : Index := 0#32
  let c5_461 : Index := 5#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v500 : Index := Scalar.indexCast v454
  let c0_462 : Index := 0#32
  let c0_463 : Index := 0#32
  ![0, 5, v500.toNat, 0, 0]
def k0_off31 (i : grid0.Coords) (k0_t1 : Fin (k0_t1_loop i).trips) : Fin 5 → Nat :=
  let c0_472 : Index := 0#32
  let c6_473 : Index := 6#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v509 : Index := Scalar.indexCast v454
  let c0_474 : Index := 0#32
  let c0_475 : Index := 0#32
  ![0, 6, v509.toNat, 0, 0]
def k0_off32 (i : grid0.Coords) (k0_t1 : Fin (k0_t1_loop i).trips) : Fin 5 → Nat :=
  let c0_484 : Index := 0#32
  let c7_485 : Index := 7#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v518 : Index := Scalar.indexCast v454
  let c0_486 : Index := 0#32
  let c0_487 : Index := 0#32
  ![0, 7, v518.toNat, 0, 0]
def k0_off33 (i : grid0.Coords) (k0_t1 : Fin (k0_t1_loop i).trips) : Fin 5 → Nat :=
  let c0_555 : Index := 0#32
  let c0_556 : Index := 0#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let v635 : Index := Scalar.indexCast v452
  let c0_557 : Index := 0#32
  let c0_558 : Index := 0#32
  ![0, 0, v635.toNat, 0, 0]
def k0_off34 (i : grid0.Coords) (k0_t1 : Fin (k0_t1_loop i).trips) : Fin 5 → Nat :=
  let c0_578 : Index := 0#32
  let c1_579 : Index := 1#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let v662 : Index := Scalar.indexCast v452
  let c0_580 : Index := 0#32
  let c0_581 : Index := 0#32
  ![0, 1, v662.toNat, 0, 0]
def k0_off35 (i : grid0.Coords) (k0_t1 : Fin (k0_t1_loop i).trips) : Fin 5 → Nat :=
  let c0_601 : Index := 0#32
  let c2_602 : Index := 2#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let v689 : Index := Scalar.indexCast v452
  let c0_603 : Index := 0#32
  let c0_604 : Index := 0#32
  ![0, 2, v689.toNat, 0, 0]
def k0_off36 (i : grid0.Coords) (k0_t1 : Fin (k0_t1_loop i).trips) : Fin 5 → Nat :=
  let c0_624 : Index := 0#32
  let c3_625 : Index := 3#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let v716 : Index := Scalar.indexCast v452
  let c0_626 : Index := 0#32
  let c0_627 : Index := 0#32
  ![0, 3, v716.toNat, 0, 0]
def k0_off37 (i : grid0.Coords) (k0_t1 : Fin (k0_t1_loop i).trips) : Fin 5 → Nat :=
  let c0_647 : Index := 0#32
  let c4_648 : Index := 4#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let v743 : Index := Scalar.indexCast v452
  let c0_649 : Index := 0#32
  let c0_650 : Index := 0#32
  ![0, 4, v743.toNat, 0, 0]
def k0_off38 (i : grid0.Coords) (k0_t1 : Fin (k0_t1_loop i).trips) : Fin 5 → Nat :=
  let c0_670 : Index := 0#32
  let c5_671 : Index := 5#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let v770 : Index := Scalar.indexCast v452
  let c0_672 : Index := 0#32
  let c0_673 : Index := 0#32
  ![0, 5, v770.toNat, 0, 0]
def k0_off39 (i : grid0.Coords) (k0_t1 : Fin (k0_t1_loop i).trips) : Fin 5 → Nat :=
  let c0_693 : Index := 0#32
  let c6_694 : Index := 6#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let v797 : Index := Scalar.indexCast v452
  let c0_695 : Index := 0#32
  let c0_696 : Index := 0#32
  ![0, 6, v797.toNat, 0, 0]
def k0_off40 (i : grid0.Coords) (k0_t1 : Fin (k0_t1_loop i).trips) : Fin 5 → Nat :=
  let c0_716 : Index := 0#32
  let c7_717 : Index := 7#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let v824 : Index := Scalar.indexCast v452
  let c0_718 : Index := 0#32
  let c0_719 : Index := 0#32
  ![0, 7, v824.toNat, 0, 0]
def k0_off41 (i : grid0.Coords) (k0_t1 : Fin (k0_t1_loop i).trips) : Fin 5 → Nat :=
  let c0_739 : Index := 0#32
  let c0_740 : Index := 0#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v850 : Index := Scalar.indexCast v849
  let c0_741 : Index := 0#32
  let c0_742 : Index := 0#32
  ![0, 0, v850.toNat, 0, 0]
def k0_off42 (i : grid0.Coords) (k0_t1 : Fin (k0_t1_loop i).trips) : Fin 5 → Nat :=
  let c0_751 : Index := 0#32
  let c1_752 : Index := 1#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v859 : Index := Scalar.indexCast v849
  let c0_753 : Index := 0#32
  let c0_754 : Index := 0#32
  ![0, 1, v859.toNat, 0, 0]
def k0_off43 (i : grid0.Coords) (k0_t1 : Fin (k0_t1_loop i).trips) : Fin 5 → Nat :=
  let c0_763 : Index := 0#32
  let c2_764 : Index := 2#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v868 : Index := Scalar.indexCast v849
  let c0_765 : Index := 0#32
  let c0_766 : Index := 0#32
  ![0, 2, v868.toNat, 0, 0]
def k0_off44 (i : grid0.Coords) (k0_t1 : Fin (k0_t1_loop i).trips) : Fin 5 → Nat :=
  let c0_775 : Index := 0#32
  let c3_776 : Index := 3#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v877 : Index := Scalar.indexCast v849
  let c0_777 : Index := 0#32
  let c0_778 : Index := 0#32
  ![0, 3, v877.toNat, 0, 0]
def k0_off45 (i : grid0.Coords) (k0_t1 : Fin (k0_t1_loop i).trips) : Fin 5 → Nat :=
  let c0_787 : Index := 0#32
  let c4_788 : Index := 4#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v886 : Index := Scalar.indexCast v849
  let c0_789 : Index := 0#32
  let c0_790 : Index := 0#32
  ![0, 4, v886.toNat, 0, 0]
def k0_off46 (i : grid0.Coords) (k0_t1 : Fin (k0_t1_loop i).trips) : Fin 5 → Nat :=
  let c0_799 : Index := 0#32
  let c5_800 : Index := 5#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v895 : Index := Scalar.indexCast v849
  let c0_801 : Index := 0#32
  let c0_802 : Index := 0#32
  ![0, 5, v895.toNat, 0, 0]
def k0_off47 (i : grid0.Coords) (k0_t1 : Fin (k0_t1_loop i).trips) : Fin 5 → Nat :=
  let c0_811 : Index := 0#32
  let c6_812 : Index := 6#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v904 : Index := Scalar.indexCast v849
  let c0_813 : Index := 0#32
  let c0_814 : Index := 0#32
  ![0, 6, v904.toNat, 0, 0]
def k0_off48 (i : grid0.Coords) (k0_t1 : Fin (k0_t1_loop i).trips) : Fin 5 → Nat :=
  let c0_823 : Index := 0#32
  let c7_824 : Index := 7#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v913 : Index := Scalar.indexCast v849
  let c0_825 : Index := 0#32
  let c0_826 : Index := 0#32
  ![0, 7, v913.toNat, 0, 0]
def k0_off49 (i : grid0.Coords) (k0_t1 : Fin (k0_t1_loop i).trips) : Fin 5 → Nat :=
  let c0_894 : Index := 0#32
  let c0_895 : Index := 0#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let v1030 : Index := Scalar.indexCast v847
  let c0_896 : Index := 0#32
  let c0_897 : Index := 0#32
  ![0, 0, v1030.toNat, 0, 0]
def k0_off50 (i : grid0.Coords) (k0_t1 : Fin (k0_t1_loop i).trips) : Fin 5 → Nat :=
  let c0_917 : Index := 0#32
  let c1_918 : Index := 1#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let v1057 : Index := Scalar.indexCast v847
  let c0_919 : Index := 0#32
  let c0_920 : Index := 0#32
  ![0, 1, v1057.toNat, 0, 0]
def k0_off51 (i : grid0.Coords) (k0_t1 : Fin (k0_t1_loop i).trips) : Fin 5 → Nat :=
  let c0_940 : Index := 0#32
  let c2_941 : Index := 2#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let v1084 : Index := Scalar.indexCast v847
  let c0_942 : Index := 0#32
  let c0_943 : Index := 0#32
  ![0, 2, v1084.toNat, 0, 0]
def k0_off52 (i : grid0.Coords) (k0_t1 : Fin (k0_t1_loop i).trips) : Fin 5 → Nat :=
  let c0_963 : Index := 0#32
  let c3_964 : Index := 3#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let v1111 : Index := Scalar.indexCast v847
  let c0_965 : Index := 0#32
  let c0_966 : Index := 0#32
  ![0, 3, v1111.toNat, 0, 0]
def k0_off53 (i : grid0.Coords) (k0_t1 : Fin (k0_t1_loop i).trips) : Fin 5 → Nat :=
  let c0_986 : Index := 0#32
  let c4_987 : Index := 4#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let v1138 : Index := Scalar.indexCast v847
  let c0_988 : Index := 0#32
  let c0_989 : Index := 0#32
  ![0, 4, v1138.toNat, 0, 0]
def k0_off54 (i : grid0.Coords) (k0_t1 : Fin (k0_t1_loop i).trips) : Fin 5 → Nat :=
  let c0_1009 : Index := 0#32
  let c5_1010 : Index := 5#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let v1165 : Index := Scalar.indexCast v847
  let c0_1011 : Index := 0#32
  let c0_1012 : Index := 0#32
  ![0, 5, v1165.toNat, 0, 0]
def k0_off55 (i : grid0.Coords) (k0_t1 : Fin (k0_t1_loop i).trips) : Fin 5 → Nat :=
  let c0_1032 : Index := 0#32
  let c6_1033 : Index := 6#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let v1192 : Index := Scalar.indexCast v847
  let c0_1034 : Index := 0#32
  let c0_1035 : Index := 0#32
  ![0, 6, v1192.toNat, 0, 0]
def k0_off56 (i : grid0.Coords) (k0_t1 : Fin (k0_t1_loop i).trips) : Fin 5 → Nat :=
  let c0_1055 : Index := 0#32
  let c7_1056 : Index := 7#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c1_i32_386 : BitVec 32 := 1#32
  let arg11 : BitVec 32 := Scf.iv c0_i32_384 c1_i32_386 k0_t1
  let v451 : BitVec 32 := Scalar.muli c2_i32_397 arg11
  let v452 : BitVec 32 := Scalar.subi v450 v451
  let c1_i32_736 : BitVec 32 := 1#32
  let v847 : BitVec 32 := Scalar.subi v452 c1_i32_736
  let v1219 : Index := Scalar.indexCast v847
  let c0_1057 : Index := 0#32
  let c0_1058 : Index := 0#32
  ![0, 7, v1219.toNat, 0, 0]
@[reducible] def k0_t2_loop (i : grid0.Coords) : Scf.Loop 32 :=
  let c0_i32_384 : BitVec 32 := 0#32
  let arg2 : BitVec 32 := BitVec.ofNat 32 (i 2).val
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let v433 : BitVec 32 := Scalar.addi c0_i32_384 v432
  let c1_i32_387 : BitVec 32 := 1#32
  ⟨v436, v433, c1_i32_387⟩
def k0_off57 (i : grid0.Coords) (k0_t2 : Fin (k0_t2_loop i).trips) : Fin 5 → Nat :=
  let c0_400 : Index := 0#32
  let c0_401 : Index := 0#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v455 : Index := Scalar.indexCast v454
  let c0_402 : Index := 0#32
  let c0_403 : Index := 0#32
  ![0, 0, v455.toNat, 0, 0]
def k0_off58 (i : grid0.Coords) (k0_t2 : Fin (k0_t2_loop i).trips) : Fin 5 → Nat :=
  let c0_412 : Index := 0#32
  let c1_413 : Index := 1#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v464 : Index := Scalar.indexCast v454
  let c0_414 : Index := 0#32
  let c0_415 : Index := 0#32
  ![0, 1, v464.toNat, 0, 0]
def k0_off59 (i : grid0.Coords) (k0_t2 : Fin (k0_t2_loop i).trips) : Fin 5 → Nat :=
  let c0_424 : Index := 0#32
  let c2_425 : Index := 2#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v473 : Index := Scalar.indexCast v454
  let c0_426 : Index := 0#32
  let c0_427 : Index := 0#32
  ![0, 2, v473.toNat, 0, 0]
def k0_off60 (i : grid0.Coords) (k0_t2 : Fin (k0_t2_loop i).trips) : Fin 5 → Nat :=
  let c0_436 : Index := 0#32
  let c3_437 : Index := 3#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v482 : Index := Scalar.indexCast v454
  let c0_438 : Index := 0#32
  let c0_439 : Index := 0#32
  ![0, 3, v482.toNat, 0, 0]
def k0_off61 (i : grid0.Coords) (k0_t2 : Fin (k0_t2_loop i).trips) : Fin 5 → Nat :=
  let c0_448 : Index := 0#32
  let c4_449 : Index := 4#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v491 : Index := Scalar.indexCast v454
  let c0_450 : Index := 0#32
  let c0_451 : Index := 0#32
  ![0, 4, v491.toNat, 0, 0]
def k0_off62 (i : grid0.Coords) (k0_t2 : Fin (k0_t2_loop i).trips) : Fin 5 → Nat :=
  let c0_460 : Index := 0#32
  let c5_461 : Index := 5#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v500 : Index := Scalar.indexCast v454
  let c0_462 : Index := 0#32
  let c0_463 : Index := 0#32
  ![0, 5, v500.toNat, 0, 0]
def k0_off63 (i : grid0.Coords) (k0_t2 : Fin (k0_t2_loop i).trips) : Fin 5 → Nat :=
  let c0_472 : Index := 0#32
  let c6_473 : Index := 6#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v509 : Index := Scalar.indexCast v454
  let c0_474 : Index := 0#32
  let c0_475 : Index := 0#32
  ![0, 6, v509.toNat, 0, 0]
def k0_off64 (i : grid0.Coords) (k0_t2 : Fin (k0_t2_loop i).trips) : Fin 5 → Nat :=
  let c0_484 : Index := 0#32
  let c7_485 : Index := 7#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_398 : BitVec 32 := 1#32
  let v453 : BitVec 32 := Scalar.subi v452 c1_i32_398
  let c0_i32_399 : BitVec 32 := 0#32
  let v454 : BitVec 32 := Scalar.maxsi v453 c0_i32_399
  let v518 : Index := Scalar.indexCast v454
  let c0_486 : Index := 0#32
  let c0_487 : Index := 0#32
  ![0, 7, v518.toNat, 0, 0]
def k0_off65 (i : grid0.Coords) (k0_t2 : Fin (k0_t2_loop i).trips) : Fin 5 → Nat :=
  let c0_555 : Index := 0#32
  let c0_556 : Index := 0#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let v635 : Index := Scalar.indexCast v452
  let c0_557 : Index := 0#32
  let c0_558 : Index := 0#32
  ![0, 0, v635.toNat, 0, 0]
def k0_off66 (i : grid0.Coords) (k0_t2 : Fin (k0_t2_loop i).trips) : Fin 5 → Nat :=
  let c0_578 : Index := 0#32
  let c1_579 : Index := 1#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let v662 : Index := Scalar.indexCast v452
  let c0_580 : Index := 0#32
  let c0_581 : Index := 0#32
  ![0, 1, v662.toNat, 0, 0]
def k0_off67 (i : grid0.Coords) (k0_t2 : Fin (k0_t2_loop i).trips) : Fin 5 → Nat :=
  let c0_601 : Index := 0#32
  let c2_602 : Index := 2#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let v689 : Index := Scalar.indexCast v452
  let c0_603 : Index := 0#32
  let c0_604 : Index := 0#32
  ![0, 2, v689.toNat, 0, 0]
def k0_off68 (i : grid0.Coords) (k0_t2 : Fin (k0_t2_loop i).trips) : Fin 5 → Nat :=
  let c0_624 : Index := 0#32
  let c3_625 : Index := 3#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let v716 : Index := Scalar.indexCast v452
  let c0_626 : Index := 0#32
  let c0_627 : Index := 0#32
  ![0, 3, v716.toNat, 0, 0]
def k0_off69 (i : grid0.Coords) (k0_t2 : Fin (k0_t2_loop i).trips) : Fin 5 → Nat :=
  let c0_647 : Index := 0#32
  let c4_648 : Index := 4#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let v743 : Index := Scalar.indexCast v452
  let c0_649 : Index := 0#32
  let c0_650 : Index := 0#32
  ![0, 4, v743.toNat, 0, 0]
def k0_off70 (i : grid0.Coords) (k0_t2 : Fin (k0_t2_loop i).trips) : Fin 5 → Nat :=
  let c0_670 : Index := 0#32
  let c5_671 : Index := 5#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let v770 : Index := Scalar.indexCast v452
  let c0_672 : Index := 0#32
  let c0_673 : Index := 0#32
  ![0, 5, v770.toNat, 0, 0]
def k0_off71 (i : grid0.Coords) (k0_t2 : Fin (k0_t2_loop i).trips) : Fin 5 → Nat :=
  let c0_693 : Index := 0#32
  let c6_694 : Index := 6#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let v797 : Index := Scalar.indexCast v452
  let c0_695 : Index := 0#32
  let c0_696 : Index := 0#32
  ![0, 6, v797.toNat, 0, 0]
def k0_off72 (i : grid0.Coords) (k0_t2 : Fin (k0_t2_loop i).trips) : Fin 5 → Nat :=
  let c0_716 : Index := 0#32
  let c7_717 : Index := 7#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let v824 : Index := Scalar.indexCast v452
  let c0_718 : Index := 0#32
  let c0_719 : Index := 0#32
  ![0, 7, v824.toNat, 0, 0]
def k0_off73 (i : grid0.Coords) (k0_t2 : Fin (k0_t2_loop i).trips) : Fin 5 → Nat :=
  let c0_739 : Index := 0#32
  let c0_740 : Index := 0#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v850 : Index := Scalar.indexCast v849
  let c0_741 : Index := 0#32
  let c0_742 : Index := 0#32
  ![0, 0, v850.toNat, 0, 0]
def k0_off74 (i : grid0.Coords) (k0_t2 : Fin (k0_t2_loop i).trips) : Fin 5 → Nat :=
  let c0_751 : Index := 0#32
  let c1_752 : Index := 1#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v859 : Index := Scalar.indexCast v849
  let c0_753 : Index := 0#32
  let c0_754 : Index := 0#32
  ![0, 1, v859.toNat, 0, 0]
def k0_off75 (i : grid0.Coords) (k0_t2 : Fin (k0_t2_loop i).trips) : Fin 5 → Nat :=
  let c0_763 : Index := 0#32
  let c2_764 : Index := 2#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v868 : Index := Scalar.indexCast v849
  let c0_765 : Index := 0#32
  let c0_766 : Index := 0#32
  ![0, 2, v868.toNat, 0, 0]
def k0_off76 (i : grid0.Coords) (k0_t2 : Fin (k0_t2_loop i).trips) : Fin 5 → Nat :=
  let c0_775 : Index := 0#32
  let c3_776 : Index := 3#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v877 : Index := Scalar.indexCast v849
  let c0_777 : Index := 0#32
  let c0_778 : Index := 0#32
  ![0, 3, v877.toNat, 0, 0]
def k0_off77 (i : grid0.Coords) (k0_t2 : Fin (k0_t2_loop i).trips) : Fin 5 → Nat :=
  let c0_787 : Index := 0#32
  let c4_788 : Index := 4#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v886 : Index := Scalar.indexCast v849
  let c0_789 : Index := 0#32
  let c0_790 : Index := 0#32
  ![0, 4, v886.toNat, 0, 0]
def k0_off78 (i : grid0.Coords) (k0_t2 : Fin (k0_t2_loop i).trips) : Fin 5 → Nat :=
  let c0_799 : Index := 0#32
  let c5_800 : Index := 5#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v895 : Index := Scalar.indexCast v849
  let c0_801 : Index := 0#32
  let c0_802 : Index := 0#32
  ![0, 5, v895.toNat, 0, 0]
def k0_off79 (i : grid0.Coords) (k0_t2 : Fin (k0_t2_loop i).trips) : Fin 5 → Nat :=
  let c0_811 : Index := 0#32
  let c6_812 : Index := 6#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v904 : Index := Scalar.indexCast v849
  let c0_813 : Index := 0#32
  let c0_814 : Index := 0#32
  ![0, 6, v904.toNat, 0, 0]
def k0_off80 (i : grid0.Coords) (k0_t2 : Fin (k0_t2_loop i).trips) : Fin 5 → Nat :=
  let c0_823 : Index := 0#32
  let c7_824 : Index := 7#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let c1_i32_737 : BitVec 32 := 1#32
  let v848 : BitVec 32 := Scalar.subi v847 c1_i32_737
  let c0_i32_738 : BitVec 32 := 0#32
  let v849 : BitVec 32 := Scalar.maxsi v848 c0_i32_738
  let v913 : Index := Scalar.indexCast v849
  let c0_825 : Index := 0#32
  let c0_826 : Index := 0#32
  ![0, 7, v913.toNat, 0, 0]
def k0_off81 (i : grid0.Coords) (k0_t2 : Fin (k0_t2_loop i).trips) : Fin 5 → Nat :=
  let c0_894 : Index := 0#32
  let c0_895 : Index := 0#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let v1030 : Index := Scalar.indexCast v847
  let c0_896 : Index := 0#32
  let c0_897 : Index := 0#32
  ![0, 0, v1030.toNat, 0, 0]
def k0_off82 (i : grid0.Coords) (k0_t2 : Fin (k0_t2_loop i).trips) : Fin 5 → Nat :=
  let c0_917 : Index := 0#32
  let c1_918 : Index := 1#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let v1057 : Index := Scalar.indexCast v847
  let c0_919 : Index := 0#32
  let c0_920 : Index := 0#32
  ![0, 1, v1057.toNat, 0, 0]
def k0_off83 (i : grid0.Coords) (k0_t2 : Fin (k0_t2_loop i).trips) : Fin 5 → Nat :=
  let c0_940 : Index := 0#32
  let c2_941 : Index := 2#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let v1084 : Index := Scalar.indexCast v847
  let c0_942 : Index := 0#32
  let c0_943 : Index := 0#32
  ![0, 2, v1084.toNat, 0, 0]
def k0_off84 (i : grid0.Coords) (k0_t2 : Fin (k0_t2_loop i).trips) : Fin 5 → Nat :=
  let c0_963 : Index := 0#32
  let c3_964 : Index := 3#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let v1111 : Index := Scalar.indexCast v847
  let c0_965 : Index := 0#32
  let c0_966 : Index := 0#32
  ![0, 3, v1111.toNat, 0, 0]
def k0_off85 (i : grid0.Coords) (k0_t2 : Fin (k0_t2_loop i).trips) : Fin 5 → Nat :=
  let c0_986 : Index := 0#32
  let c4_987 : Index := 4#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let v1138 : Index := Scalar.indexCast v847
  let c0_988 : Index := 0#32
  let c0_989 : Index := 0#32
  ![0, 4, v1138.toNat, 0, 0]
def k0_off86 (i : grid0.Coords) (k0_t2 : Fin (k0_t2_loop i).trips) : Fin 5 → Nat :=
  let c0_1009 : Index := 0#32
  let c5_1010 : Index := 5#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let v1165 : Index := Scalar.indexCast v847
  let c0_1011 : Index := 0#32
  let c0_1012 : Index := 0#32
  ![0, 5, v1165.toNat, 0, 0]
def k0_off87 (i : grid0.Coords) (k0_t2 : Fin (k0_t2_loop i).trips) : Fin 5 → Nat :=
  let c0_1032 : Index := 0#32
  let c6_1033 : Index := 6#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let v1192 : Index := Scalar.indexCast v847
  let c0_1034 : Index := 0#32
  let c0_1035 : Index := 0#32
  ![0, 6, v1192.toNat, 0, 0]
def k0_off88 (i : grid0.Coords) (k0_t2 : Fin (k0_t2_loop i).trips) : Fin 5 → Nat :=
  let c0_1055 : Index := 0#32
  let c7_1056 : Index := 7#32
  let arg2 : BitVec 32 := BitVec.ofNat 32 (i 2).val
  let c1_i32_396 : BitVec 32 := 1#32
  let v450 : BitVec 32 := Scalar.subi arg2 c1_i32_396
  let c2_i32_397 : BitVec 32 := 2#32
  let c0_i32_384 : BitVec 32 := 0#32
  let c0_i32_377 : BitVec 32 := 0#32
  let v416 : BitVec 1 := Scalar.cmpi .sgt arg2 c0_i32_377
  let v417 : BitVec 32 := Scalar.extui v416
  let c0_i32_378 : BitVec 32 := 0#32
  let v418 : BitVec 1 := Scalar.cmpi .slt arg2 c0_i32_378
  let v419 : BitVec 32 := Scalar.extui v418
  let v420 : BitVec 32 := Scalar.subi v417 v419
  let c2_i32 : BitVec 32 := 2#32
  let c0_i32_379 : BitVec 32 := 0#32
  let v421 : BitVec 1 := Scalar.cmpi .sgt c2_i32 c0_i32_379
  let v422 : BitVec 32 := Scalar.extui v421
  let c0_i32_380 : BitVec 32 := 0#32
  let v423 : BitVec 1 := Scalar.cmpi .slt c2_i32 c0_i32_380
  let v424 : BitVec 32 := Scalar.extui v423
  let v425 : BitVec 32 := Scalar.subi v422 v424
  let v426 : BitVec 1 := Scalar.cmpi .ne v420 v425
  let v427 : BitVec 32 := Scalar.remsi arg2 c2_i32
  let c0_i32_381 : BitVec 32 := 0#32
  let v428 : BitVec 1 := Scalar.cmpi .ne v427 c0_i32_381
  let v429 : BitVec 1 := Scalar.andi v426 v428
  let v415 : BitVec 32 := Scalar.divsi arg2 c2_i32
  let c1_i32_382 : BitVec 32 := 1#32
  let v430 : BitVec 32 := Scalar.subi v415 c1_i32_382
  let v431 : BitVec 32 := Scalar.select v429 v430 v415
  let v432 : BitVec 32 := Scalar.subi v431 c0_i32_384
  let c1_i32_385 : BitVec 32 := 1#32
  let v434 : BitVec 32 := Scalar.divsi v432 c1_i32_385
  let v435 : BitVec 32 := Scalar.muli v434 c1_i32_385
  let v436 : BitVec 32 := Scalar.addi c0_i32_384 v435
  let c1_i32_387 : BitVec 32 := 1#32
  let arg11 : BitVec 32 := Scf.iv v436 c1_i32_387 k0_t2
  let v451 : BitVec 32 := Scalar.muli c2_i32_397 arg11
  let v452 : BitVec 32 := Scalar.subi v450 v451
  let c1_i32_736 : BitVec 32 := 1#32
  let v847 : BitVec 32 := Scalar.subi v452 c1_i32_736
  let v1219 : Index := Scalar.indexCast v847
  let c0_1057 : Index := 0#32
  let c0_1058 : Index := 0#32
  ![0, 7, v1219.toNat, 0, 0]
def k0_cond1 (i : grid0.Coords) : BitVec 1 :=
  let arg2 : BitVec 32 := BitVec.ofNat 32 (i 2).val
  let c2_i32_388 : BitVec 32 := 2#32
  let c0_i32_389 : BitVec 32 := 0#32
  let v437 : BitVec 1 := Scalar.cmpi .eq c2_i32_388 c0_i32_389
  let c1_i32_390 : BitVec 32 := 1#32
  let v438 : BitVec 32 := Scalar.select v437 c1_i32_390 c2_i32_388
  let v439 : BitVec 32 := Scalar.remsi arg2 v438
  let c0_i32_392 : BitVec 32 := 0#32
  let v441 : BitVec 1 := Scalar.cmpi .slt v439 c0_i32_392
  let c0_i32_393 : BitVec 32 := 0#32
  let v442 : BitVec 1 := Scalar.cmpi .slt v438 c0_i32_393
  let v443 : BitVec 1 := Scalar.xori v441 v442
  let c0_i32_391 : BitVec 32 := 0#32
  let v440 : BitVec 1 := Scalar.cmpi .ne v439 c0_i32_391
  let v444 : BitVec 1 := Scalar.andi v443 v440
  let v445 : BitVec 32 := Scalar.addi v439 v438
  let v446 : BitVec 32 := Scalar.select v444 v445 v439
  let c1_i32_394 : BitVec 32 := 1#32
  let v447 : BitVec 1 := Scalar.cmpi .eq v446 c1_i32_394
  let v448 : BitVec 32 := Scalar.extui v447
  let c0_i32_395 : BitVec 32 := 0#32
  let v449 : BitVec 1 := Scalar.cmpi .ne v448 c0_i32_395
  v449

def k0_off89 : Fin 5 → Nat :=
  let c0_397 : Index := 0#32
  let c0_398 : Index := 0#32
  let c_m1_i32 : BitVec 32 := 4294967295#32
  let c0_i32_396 : BitVec 32 := 0#32
  let v450 : BitVec 32 := Scalar.maxsi c_m1_i32 c0_i32_396
  let v451 : Index := Scalar.indexCast v450
  let c0_399 : Index := 0#32
  let c0_400 : Index := 0#32
  ![0, 0, v451.toNat, 0, 0]
def k0_off90 : Fin 5 → Nat :=
  let c0_409 : Index := 0#32
  let c1_410 : Index := 1#32
  let c_m1_i32 : BitVec 32 := 4294967295#32
  let c0_i32_396 : BitVec 32 := 0#32
  let v450 : BitVec 32 := Scalar.maxsi c_m1_i32 c0_i32_396
  let v460 : Index := Scalar.indexCast v450
  let c0_411 : Index := 0#32
  let c0_412 : Index := 0#32
  ![0, 1, v460.toNat, 0, 0]
def k0_off91 : Fin 5 → Nat :=
  let c0_421 : Index := 0#32
  let c2_422 : Index := 2#32
  let c_m1_i32 : BitVec 32 := 4294967295#32
  let c0_i32_396 : BitVec 32 := 0#32
  let v450 : BitVec 32 := Scalar.maxsi c_m1_i32 c0_i32_396
  let v469 : Index := Scalar.indexCast v450
  let c0_423 : Index := 0#32
  let c0_424 : Index := 0#32
  ![0, 2, v469.toNat, 0, 0]
def k0_off92 : Fin 5 → Nat :=
  let c0_433 : Index := 0#32
  let c3_434 : Index := 3#32
  let c_m1_i32 : BitVec 32 := 4294967295#32
  let c0_i32_396 : BitVec 32 := 0#32
  let v450 : BitVec 32 := Scalar.maxsi c_m1_i32 c0_i32_396
  let v478 : Index := Scalar.indexCast v450
  let c0_435 : Index := 0#32
  let c0_436 : Index := 0#32
  ![0, 3, v478.toNat, 0, 0]
def k0_off93 : Fin 5 → Nat :=
  let c0_445 : Index := 0#32
  let c4_446 : Index := 4#32
  let c_m1_i32 : BitVec 32 := 4294967295#32
  let c0_i32_396 : BitVec 32 := 0#32
  let v450 : BitVec 32 := Scalar.maxsi c_m1_i32 c0_i32_396
  let v487 : Index := Scalar.indexCast v450
  let c0_447 : Index := 0#32
  let c0_448 : Index := 0#32
  ![0, 4, v487.toNat, 0, 0]
def k0_off94 : Fin 5 → Nat :=
  let c0_457 : Index := 0#32
  let c5_458 : Index := 5#32
  let c_m1_i32 : BitVec 32 := 4294967295#32
  let c0_i32_396 : BitVec 32 := 0#32
  let v450 : BitVec 32 := Scalar.maxsi c_m1_i32 c0_i32_396
  let v496 : Index := Scalar.indexCast v450
  let c0_459 : Index := 0#32
  let c0_460 : Index := 0#32
  ![0, 5, v496.toNat, 0, 0]
def k0_off95 : Fin 5 → Nat :=
  let c0_469 : Index := 0#32
  let c6_470 : Index := 6#32
  let c_m1_i32 : BitVec 32 := 4294967295#32
  let c0_i32_396 : BitVec 32 := 0#32
  let v450 : BitVec 32 := Scalar.maxsi c_m1_i32 c0_i32_396
  let v505 : Index := Scalar.indexCast v450
  let c0_471 : Index := 0#32
  let c0_472 : Index := 0#32
  ![0, 6, v505.toNat, 0, 0]
def k0_off96 : Fin 5 → Nat :=
  let c0_481 : Index := 0#32
  let c7_482 : Index := 7#32
  let c_m1_i32 : BitVec 32 := 4294967295#32
  let c0_i32_396 : BitVec 32 := 0#32
  let v450 : BitVec 32 := Scalar.maxsi c_m1_i32 c0_i32_396
  let v514 : Index := Scalar.indexCast v450
  let c0_483 : Index := 0#32
  let c0_484 : Index := 0#32
  ![0, 7, v514.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8x32x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x8x32x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x8x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x8x128x8192 : Shape := ⟨4, ![2, 8, 128, 8192]⟩
abbrev S2x8x32x256x128 : Shape := ⟨5, ![2, 8, 32, 256, 128]⟩
abbrev S2x8x32x64x256 : Shape := ⟨5, ![2, 8, 32, 64, 256]⟩
abbrev S2x8x32x256x64 : Shape := ⟨5, ![2, 8, 32, 256, 64]⟩
abbrev S2x8x8192x64 : Shape := ⟨4, ![2, 8, 8192, 64]⟩
abbrev S2x8x8192x128 : Shape := ⟨4, ![2, 8, 8192, 128]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩

abbrev nBuf : Space → Nat
  | .hbm => 73
  | .vmem => 0
  | .smem => 0
  | _ => 0

abbrev bufTy : (tb : Table) → Fin (tcTables nBuf tb) → BufTy
  | .hbm, ⟨0, _⟩ => ⟨S2x8x128x8192, .bf16⟩
  | .hbm, ⟨1, _⟩ => ⟨S2x8x32x256x128, .bf16⟩
  | .hbm, ⟨2, _⟩ => ⟨S2x8x32x64x256, .bf16⟩
  | .hbm, ⟨3, _⟩ => ⟨S2x8x32x64x256, .f32⟩
  | .hbm, ⟨4, _⟩ => ⟨S2x8x32x256x64, .f32⟩
  | .hbm, ⟨5, _⟩ => ⟨S2x8x8192x64, .f32⟩
  | .hbm, ⟨6, _⟩ => ⟨S2x8x128x8192, .f32⟩
  | .hbm, ⟨7, _⟩ => ⟨S2x8x8192x128, .f32⟩
  | .hbm, ⟨8, _⟩ => ⟨S2x8x32x256x128, .f32⟩
  | .hbm, ⟨9, _⟩ => ⟨S2x8x8192x128, .f32⟩
  | .hbm, ⟨10, _⟩ => ⟨S2x8x8192x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x8x8192x8192, .f32⟩
  | .hbm, ⟨15, _⟩ => ⟨S2x8x8192x8192, .f32⟩
  | .hbm, ⟨16, _⟩ => ⟨S8192, .i32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S2x8x8192x8192, .f32⟩
  | .hbm, ⟨24, _⟩ => ⟨S2x8x8192x8192, .f32⟩
  | .hbm, ⟨25, _⟩ => ⟨S_, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .i1⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S_, .f32⟩
  | .hbm, ⟨42, _⟩ => ⟨S2x8x8192x8192, .i1⟩
  | .hbm, ⟨43, _⟩ => ⟨S2x8x8192x8192, .f32⟩
  | .hbm, ⟨44, _⟩ => ⟨S2x8x8192x8192, .f32⟩
  | .hbm, ⟨45, _⟩ => ⟨S_, .f32⟩
  | .hbm, ⟨46, _⟩ => ⟨S_, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S_, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .i1⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S2x8x8192x8192, .f32⟩
  | .hbm, ⟨67, _⟩ => ⟨S_, .f32⟩
  | .hbm, ⟨68, _⟩ => ⟨S_, .f32⟩
  | .hbm, ⟨69, _⟩ => ⟨S2x8x8192x8192, .i1⟩
  | .hbm, ⟨70, _⟩ => ⟨S2x8x8192x8192, .f32⟩
  | .hbm, ⟨71, _⟩ => ⟨S2x8x8192x8192, .f32⟩
  | .hbm, ⟨72, _⟩ => ⟨S2x8x64x8192, .f32⟩
  | _, _ => ⟨S2x8x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v27 : Ref sig .tc := ⟨.hbm, 71, rfl⟩
abbrev main_v28 : Ref sig .tc := ⟨.hbm, 72, rfl⟩

abbrev nD : Nat := 1
abbrev τ : Topo := Topo.v7x

variable {F : FTy → Type} [FloatOps F]
-- ==== Merge.lean ====
abbrev S16384x1024 : Shape := ⟨2, ![16384, 1024]⟩
abbrev S2x8x64x8192 : Shape := ⟨4, ![2, 8, 64, 8192]⟩
abbrev S16384x256 : Shape := ⟨2, ![16384, 256]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S1x8x64x512 : Shape := ⟨4, ![1, 8, 64, 512]⟩
abbrev S512x256 : Shape := ⟨2, ![512, 256]⟩
abbrev S8x64x512 : Shape := ⟨3, ![8, 64, 512]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x8x64x8192, .f32⟩
  | .hbm, ⟨2, _⟩ => ⟨S16384x256, .bf16⟩
  | .hbm, ⟨3, _⟩ => ⟨S16384x256, .bf16⟩
  | .hbm, ⟨4, _⟩ => ⟨S1024x1024, .bf16⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x8x64x512, .f32⟩
  | .local _ .vmem, ⟨3, _⟩ => ⟨S1x8x64x512, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S16384x1024 : Shape := ⟨2, ![16384, 1024]⟩
abbrev S2x8x64x8192 : Shape := ⟨4, ![2, 8, 64, 8192]⟩
abbrev S16384x256 : Shape := ⟨2, ![16384, 256]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2x8192x8x64 : Shape := ⟨4, ![2, 8192, 8, 64]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8x64x8192, .f32⟩
  | .hbm, ⟨2, _⟩ => ⟨S16384x256, .bf16⟩
  | .hbm, ⟨3, _⟩ => ⟨S16384x256, .bf16⟩
  | .hbm, ⟨4, _⟩ => ⟨S1024x1024, .bf16⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S2x8192x8x64, .f32⟩
  | .hbm, ⟨9, _⟩ => ⟨S16384x512, .f32⟩
  | .hbm, ⟨10, _⟩ => ⟨S16384x256, .f32⟩
  | .hbm, ⟨11, _⟩ => ⟨S16384x256, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Inproj.lean ====
abbrev S32x1024 : Shape := ⟨2, ![32, 1024]⟩
abbrev S1024 : Shape := ⟨1, ![1024]⟩
abbrev S1024x2304 : Shape := ⟨2, ![1024, 2304]⟩
abbrev S64 : Shape := ⟨1, ![64]⟩
abbrev S_ : Shape := ⟨0, ![]⟩
abbrev S8x64x64 : Shape := ⟨3, ![8, 64, 64]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32x512 : Shape := ⟨2, ![32, 512]⟩
abbrev S32x256 : Shape := ⟨2, ![32, 256]⟩
abbrev S32 : Shape := ⟨1, ![32]⟩
abbrev S32x1 : Shape := ⟨2, ![32, 1]⟩
abbrev S32x2304 : Shape := ⟨2, ![32, 2304]⟩

abbrev nBuf : Space → Nat
  | .hbm => 35
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S_, .bf16⟩
  | .hbm, ⟨6, _⟩ => ⟨S8x64x64, .bf16⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .bf16⟩
  | .hbm, ⟨14, _⟩ => ⟨S8x1x8x1, .bf16⟩
  | .hbm, ⟨15, _⟩ => ⟨S8x64x1x64, .bf16⟩
  | .hbm, ⟨16, _⟩ => ⟨S8x64x8x64, .bf16⟩
  | .hbm, ⟨17, _⟩ => ⟨S8x64x8x64, .bf16⟩
  | .hbm, ⟨18, _⟩ => ⟨S8x64x8x64, .bf16⟩
  | .hbm, ⟨19, _⟩ => ⟨S512x512, .bf16⟩
  | .hbm, ⟨20, _⟩ => ⟨S1x1024, .f32⟩
  | .hbm, ⟨21, _⟩ => ⟨S1024x2304, .bf16⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S1x512, .f32⟩
  | .hbm, ⟨30, _⟩ => ⟨S32x512, .f32⟩
  | .hbm, ⟨31, _⟩ => ⟨S32x512, .f32⟩
  | .hbm, ⟨32, _⟩ => ⟨S32x512, .f32⟩
  | .hbm, ⟨33, _⟩ => ⟨S32x256, .f32⟩
  | .hbm, ⟨34, _⟩ => ⟨S32x256, .f32⟩
  | .local _ .vmem, ⟨0, _⟩ => ⟨S32x1024, .f32⟩
  | .local _ .vmem, ⟨1, _⟩ => ⟨S1x1024, .f32⟩
  | .local _ .vmem, ⟨2, _⟩ => ⟨S1024x2304, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x256, .f32⟩
  | .local _ .vmem, ⟨10, _⟩ => ⟨S32x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InprojIdeal.lean ====
variable {F : FTy → Type} [FloatOps F] [Named F]
def κ : String → Option EReal := fun
  | "q_scale" => some (((Real.log 256)⁻¹ : ℝ) : EReal)
  | _ => none
-- ==== InprojReferenceIdeal.lean ====
abbrev S32x1024 : Shape := ⟨2, ![32, 1024]⟩
abbrev S1024 : Shape := ⟨1, ![1024]⟩
abbrev S1024x2304 : Shape := ⟨2, ![1024, 2304]⟩
abbrev S64 : Shape := ⟨1, ![64]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2304 : Shape := ⟨2, ![32, 2304]⟩
abbrev S32x512 : Shape := ⟨2, ![32, 512]⟩
abbrev S32x256 : Shape := ⟨2, ![32, 256]⟩
abbrev S32x8x64 : Shape := ⟨3, ![32, 8, 64]⟩
abbrev S32x8 : Shape := ⟨2, ![32, 8]⟩
abbrev S32x8x1 : Shape := ⟨3, ![32, 8, 1]⟩
abbrev S1x1x64 : Shape := ⟨3, ![1, 1, 64]⟩

abbrev nBuf : Space → Nat
  | .hbm => 81
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S32x2304, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S32x256, .f32⟩
  | .hbm, ⟨26, _⟩ => ⟨S32x256, .f32⟩
  | .hbm, ⟨27, _⟩ => ⟨S32x256, .f32⟩
  | .hbm, ⟨28, _⟩ => ⟨S32x8x64, .f32⟩
  | .hbm, ⟨29, _⟩ => ⟨S32x8x64, .f32⟩
  | .hbm, ⟨30, _⟩ => ⟨S_, .f32⟩
  | .hbm, ⟨31, _⟩ => ⟨S32x8, .f32⟩
  | .hbm, ⟨32, _⟩ => ⟨S32x8x1, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S_, .f32⟩
  | .hbm, ⟨37, _⟩ => ⟨S32x8x1, .f32⟩
  | .hbm, ⟨38, _⟩ => ⟨S32x8x1, .f32⟩
  | .hbm, ⟨39, _⟩ => ⟨S32x8x1, .f32⟩
  | .hbm, ⟨40, _⟩ => ⟨S32x8x64, .f32⟩
  | .hbm, ⟨41, _⟩ => ⟨S32x8x64, .f32⟩
  | .hbm, ⟨42, _⟩ => ⟨S1x1x64, .f32⟩
  | .hbm, ⟨43, _⟩ => ⟨S32x8x64, .f32⟩
  | .hbm, ⟨44, _⟩ => ⟨S32x8x64, .f32⟩
  | .hbm, ⟨45, _⟩ => ⟨S32x8x64, .f32⟩
  | .hbm, ⟨46, _⟩ => ⟨S32x8x64, .f32⟩
  | .hbm, ⟨47, _⟩ => ⟨S_, .f32⟩
  | .hbm, ⟨48, _⟩ => ⟨S32x8, .f32⟩
  | .hbm, ⟨49, _⟩ => ⟨S32x8x1, .f32⟩
  | .hbm, ⟨50, _⟩ => ⟨S_, .f32⟩
  | .hbm, ⟨51, _⟩ => ⟨S32x8x1, .f32⟩
  | .hbm, ⟨52, _⟩ => ⟨S32x8x1, .f32⟩
  | .hbm, ⟨53, _⟩ => ⟨S_, .f32⟩
  | .hbm, ⟨54, _⟩ => ⟨S32x8x1, .f32⟩
  | .hbm, ⟨55, _⟩ => ⟨S32x8x1, .f32⟩
  | .hbm, ⟨56, _⟩ => ⟨S32x8x1, .f32⟩
  | .hbm, ⟨57, _⟩ => ⟨S32x8x64, .f32⟩
  | .hbm, ⟨58, _⟩ => ⟨S32x8x64, .f32⟩
  | .hbm, ⟨59, _⟩ => ⟨S1x1x64, .f32⟩
  | .hbm, ⟨60, _⟩ => ⟨S32x8x64, .f32⟩
  | .hbm, ⟨61, _⟩ => ⟨S32x8x64, .f32⟩
  | .hbm, ⟨62, _⟩ => ⟨S32x256, .f32⟩
  | .hbm, ⟨63, _⟩ => ⟨S32x256, .f32⟩
  | .hbm, ⟨64, _⟩ => ⟨S_, .f32⟩
  | .hbm, ⟨65, _⟩ => ⟨S32x256, .f32⟩
  | .hbm, ⟨66, _⟩ => ⟨S32x256, .f32⟩
  | .hbm, ⟨67, _⟩ => ⟨S_, .f32⟩
  | .hbm, ⟨68, _⟩ => ⟨S32x256, .f32⟩
  | .hbm, ⟨69, _⟩ => ⟨S32x256, .f32⟩
  | .hbm, ⟨70, _⟩ => ⟨S32x256, .f32⟩
  | .hbm, ⟨71, _⟩ => ⟨S32x512, .f32⟩
  | .hbm, ⟨72, _⟩ => ⟨S_, .f32⟩
  | .hbm, ⟨73, _⟩ => ⟨S32x512, .f32⟩
  | .hbm, ⟨74, _⟩ => ⟨S32x512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S32x512, .f32⟩
  | .hbm, ⟨79, _⟩ => ⟨S32x512, .f32⟩
  | .hbm, ⟨80, _⟩ => ⟨S32x512, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== MergeSample.lean ====
abbrev S32x1024 : Shape := ⟨2, ![32, 1024]⟩
abbrev S32x512 : Shape := ⟨2, ![32, 512]⟩
abbrev S32x256 : Shape := ⟨2, ![32, 256]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S256x1024 : Shape := ⟨2, ![256, 1024]⟩
abbrev S32 : Shape := ⟨1, ![32]⟩
abbrev S32x1 : Shape := ⟨2, ![32, 1]⟩

abbrev nBuf : Space → Nat
  | .hbm => 9
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S32x512, .bf16⟩
  | .hbm, ⟨2, _⟩ => ⟨S32x256, .bf16⟩
  | .hbm, ⟨3, _⟩ => ⟨S32x256, .bf16⟩
  | .hbm, ⟨4, _⟩ => ⟨S1024x1024, .bf16⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S32x1024, .f32⟩
  | .local _ .vmem, ⟨0, _⟩ => ⟨S32x1024, .f32⟩
  | .local _ .vmem, ⟨1, _⟩ => ⟨S32x512, .bf16⟩
  | .local _ .vmem, ⟨2, _⟩ => ⟨S32x256, .bf16⟩
  | .local _ .vmem, ⟨3, _⟩ => ⟨S32x256, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MergeSampleReferenceIdeal.lean ====
abbrev S32x1024 : Shape := ⟨2, ![32, 1024]⟩
abbrev S32x512 : Shape := ⟨2, ![32, 512]⟩
abbrev S32x256 : Shape := ⟨2, ![32, 256]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32 : Shape := ⟨1, ![32]⟩
abbrev S32x1 : Shape := ⟨2, ![32, 1]⟩
abbrev S32x4096 : Shape := ⟨2, ![32, 4096]⟩

abbrev nBuf : Space → Nat
  | .hbm => 39
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .bf16⟩
  | .hbm, ⟨2, _⟩ => ⟨S32x256, .bf16⟩
  | .hbm, ⟨3, _⟩ => ⟨S32x256, .bf16⟩
  | .hbm, ⟨4, _⟩ => ⟨S1024x1024, .bf16⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S32x512, .f32⟩
  | .hbm, ⟨9, _⟩ => ⟨S32x256, .f32⟩
  | .hbm, ⟨10, _⟩ => ⟨S32x256, .f32⟩
  | .hbm, ⟨11, _⟩ => ⟨S1024x1024, .f32⟩
  | .hbm, ⟨12, _⟩ => ⟨S1024x4096, .f32⟩
  | .hbm, ⟨13, _⟩ => ⟨S4096x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S_, .f32⟩
  | .hbm, ⟨19, _⟩ => ⟨S32, .f32⟩
  | .hbm, ⟨20, _⟩ => ⟨S32x1, .f32⟩
  | .hbm, ⟨21, _⟩ => ⟨S_, .f32⟩
  | .hbm, ⟨22, _⟩ => ⟨S32x1, .f32⟩
  | .hbm, ⟨23, _⟩ => ⟨S32x1, .f32⟩
  | .hbm, ⟨24, _⟩ => ⟨S_, .f32⟩
  | .hbm, ⟨25, _⟩ => ⟨S32x1, .f32⟩
  | .hbm, ⟨26, _⟩ => ⟨S32x1, .f32⟩
  | .hbm, ⟨27, _⟩ => ⟨S32x1, .f32⟩
  | .hbm, ⟨28, _⟩ => ⟨S32x1024, .f32⟩
  | .hbm, ⟨29, _⟩ => ⟨S32x1024, .f32⟩
  | .hbm, ⟨30, _⟩ => ⟨S32x1024, .f32⟩
  | .hbm, ⟨31, _⟩ => ⟨S32x1024, .f32⟩
  | .hbm, ⟨32, _⟩ => ⟨S32x4096, .f32⟩
  | .hbm, ⟨33, _⟩ => ⟨S_, .f32⟩
  | .hbm, ⟨34, _⟩ => ⟨S32x4096, .f32⟩
  | .hbm, ⟨35, _⟩ => ⟨S32x4096, .f32⟩
  | .hbm, ⟨36, _⟩ => ⟨S32x4096, .f32⟩
  | .hbm, ⟨37, _⟩ => ⟨S32x1024, .f32⟩
  | .hbm, ⟨38, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== InprojPrompt.lean ====
abbrev S2x8192x1024 : Shape := ⟨3, ![2, 8192, 1024]⟩
abbrev S1024 : Shape := ⟨1, ![1024]⟩
abbrev S1024x2304 : Shape := ⟨2, ![1024, 2304]⟩
abbrev S64 : Shape := ⟨1, ![64]⟩
abbrev S512x1024 : Shape := ⟨2, ![512, 1024]⟩
abbrev S1x1024 : Shape := ⟨2, ![1, 1024]⟩
abbrev S64x256 : Shape := ⟨2, ![64, 256]⟩
abbrev S2x2x8x64x8192 : Shape := ⟨5, ![2, 2, 8, 64, 8192]⟩
abbrev S_ : Shape := ⟨0, ![]⟩
abbrev S8x64x64 : Shape := ⟨3, ![8, 64, 64]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x8x128x8192 : Shape := ⟨4, ![2, 8, 128, 8192]⟩
abbrev S2x8x32x256x128 : Shape := ⟨5, ![2, 8, 32, 256, 128]⟩
abbrev S2x8x32x64x256 : Shape := ⟨5, ![2, 8, 32, 64, 256]⟩
abbrev S2x8192x256 : Shape := ⟨3, ![2, 8192, 256]⟩
abbrev S1x256x1024 : Shape := ⟨3, ![1, 256, 1024]⟩
abbrev S1x8x128x256 : Shape := ⟨4, ![1, 8, 128, 256]⟩
abbrev S1x8x1x256x128 : Shape := ⟨5, ![1, 8, 1, 256, 128]⟩
abbrev S1x8x1x64x256 : Shape := ⟨5, ![1, 8, 1, 64, 256]⟩
abbrev S1x1x8x64x256 : Shape := ⟨5, ![1, 1, 8, 64, 256]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x2304 : Shape := ⟨2, ![256, 2304]⟩
abbrev S256x512 : Shape := ⟨2, ![256, 512]⟩
abbrev S256x256 : Shape := ⟨2, ![256, 256]⟩
abbrev S512x256 : Shape := ⟨2, ![512, 256]⟩
abbrev S1x1x64x256 : Shape := ⟨4, ![1, 1, 64, 256]⟩
abbrev S256x128 : Shape := ⟨2, ![256, 128]⟩
abbrev S1x1x1x256x128 : Shape := ⟨5, ![1, 1, 1, 256, 128]⟩
abbrev S1x1x1x64x256 : Shape := ⟨5, ![1, 1, 1, 64, 256]⟩

abbrev nBuf : Space → Nat
  | .hbm => 42
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S512x1024, .bf16⟩
  | .hbm, ⟨6, _⟩ => ⟨S1x1024, .f32⟩
  | .hbm, ⟨7, _⟩ => ⟨S64x256, .bf16⟩
  | .hbm, ⟨8, _⟩ => ⟨S2x2x8x64x8192, .f32⟩
  | .hbm, ⟨9, _⟩ => ⟨S2x2x8x64x8192, .f32⟩
  | .hbm, ⟨10, _⟩ => ⟨S_, .bf16⟩
  | .hbm, ⟨11, _⟩ => ⟨S8x64x64, .bf16⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .bf16⟩
  | .hbm, ⟨19, _⟩ => ⟨S8x1x8x1, .bf16⟩
  | .hbm, ⟨20, _⟩ => ⟨S8x64x1x64, .bf16⟩
  | .hbm, ⟨21, _⟩ => ⟨S8x64x8x64, .bf16⟩
  | .hbm, ⟨22, _⟩ => ⟨S8x64x8x64, .bf16⟩
  | .hbm, ⟨23, _⟩ => ⟨S8x64x8x64, .bf16⟩
  | .hbm, ⟨24, _⟩ => ⟨S512x512, .bf16⟩
  | .hbm, ⟨25, _⟩ => ⟨S1x1024, .f32⟩
  | .hbm, ⟨26, _⟩ => ⟨S1024x2304, .bf16⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S1x512, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S2x8x128x8192, .bf16⟩
  | .hbm, ⟨36, _⟩ => ⟨S2x8x32x256x128, .bf16⟩
  | .hbm, ⟨37, _⟩ => ⟨S2x8x32x64x256, .bf16⟩
  | .hbm, ⟨38, _⟩ => ⟨S2x2x8x64x8192, .f32⟩
  | .hbm, ⟨39, _⟩ => ⟨S2x2x8x64x8192, .f32⟩
  | .hbm, ⟨40, _⟩ => ⟨S2x8192x256, .f32⟩
  | .hbm, ⟨41, _⟩ => ⟨S2x8192x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2304, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x1024, .bf16⟩
  | .local _ .vmem, ⟨8, _⟩ => ⟨S1x1024, .f32⟩
  | .local _ .vmem, ⟨9, _⟩ => ⟨S64x256, .bf16⟩
  | .local _ .vmem, ⟨10, _⟩ => ⟨S1x8x128x256, .bf16⟩
  | .local _ .vmem, ⟨11, _⟩ => ⟨S1x8x128x256, .bf16⟩
  | .local _ .vmem, ⟨12, _⟩ => ⟨S1x8x1x256x128, .bf16⟩
  | .local _ .vmem, ⟨13, _⟩ => ⟨S1x8x1x256x128, .bf16⟩
  | .local _ .vmem, ⟨14, _⟩ => ⟨S1x8x1x64x256, .bf16⟩
  | .local _ .vmem, ⟨15, _⟩ => ⟨S1x8x1x64x256, .bf16⟩
  | .local _ .vmem, ⟨16, _⟩ => ⟨S1x1x8x64x256, .f32⟩
  | .local _ .vmem, ⟨17, _⟩ => ⟨S1x1x8x64x256, .f32⟩
  | .local _ .vmem, ⟨18, _⟩ => ⟨S1x1x8x64x256, .f32⟩
  | .local _ .vmem, ⟨19, _⟩ => ⟨S1x1x8x64x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev main_v23_5 : Ref sig .tc := ⟨.hbm, 40, rfl⟩
abbrev main_v23_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_13 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_14 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  let c0_i32_13 : BitVec 32 := 0#32
  ![c1_i32_10.toNat, v16.toNat, c0_i32_11.toNat, c0_i32_12.toNat, v26.toNat]

def cc0_transform_15 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  let c0_i32_13 : BitVec 32 := 0#32
  ![c1_i32_10.toNat, v16.toNat, c0_i32_11.toNat, c0_i32_12.toNat, v26.toNat]

def cc0_transform_16 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_17 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x8x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x8x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojPromptIdeal.lean ====
variable {F : FTy → Type} [FloatOps F] [Named F]
def κ : String → Option EReal := fun
  | "q_scale" => some (((Real.log 256)⁻¹ : ℝ) : EReal)
  | _ => none
-- ==== InprojPromptReferenceIdeal.lean ====
abbrev S2x8192x1024 : Shape := ⟨3, ![2, 8192, 1024]⟩
abbrev S1024 : Shape := ⟨1, ![1024]⟩
abbrev S1024x2304 : Shape := ⟨2, ![1024, 2304]⟩
abbrev S64 : Shape := ⟨1, ![64]⟩
abbrev S512x1024 : Shape := ⟨2, ![512, 1024]⟩
abbrev S1x1024 : Shape := ⟨2, ![1, 1024]⟩
abbrev S64x256 : Shape := ⟨2, ![64, 256]⟩
abbrev S2x2x8x64x8192 : Shape := ⟨5, ![2, 2, 8, 64, 8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2304 : Shape := ⟨3, ![2, 8192, 2304]⟩
abbrev S2x8192x512 : Shape := ⟨3, ![2, 8192, 512]⟩
abbrev S2x8192x256 : Shape := ⟨3, ![2, 8192, 256]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S1x2x8x64x8192 : Shape := ⟨5, ![1, 2, 8, 64, 8192]⟩
abbrev S2x8x64x8192 : Shape := ⟨4, ![2, 8, 64, 8192]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S512x1024, .bf16⟩
  | .hbm, ⟨6, _⟩ => ⟨S1x1024, .f32⟩
  | .hbm, ⟨7, _⟩ => ⟨S64x256, .bf16⟩
  | .hbm, ⟨8, _⟩ => ⟨S2x2x8x64x8192, .f32⟩
  | .hbm, ⟨9, _⟩ => ⟨S2x2x8x64x8192, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x8192x2304, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x256, .f32⟩
  | .hbm, ⟨31, _⟩ => ⟨S2x8192x256, .f32⟩
  | .hbm, ⟨32, _⟩ => ⟨S2x8192x256, .f32⟩
  | .hbm, ⟨33, _⟩ => ⟨S2x8192x8x64, .f32⟩
  | .hbm, ⟨34, _⟩ => ⟨S2x8192x8x64, .f32⟩
  | .hbm, ⟨35, _⟩ => ⟨S_, .f32⟩
  | .hbm, ⟨36, _⟩ => ⟨S2x8192x8, .f32⟩
  | .hbm, ⟨37, _⟩ => ⟨S2x8192x8x1, .f32⟩
  | .hbm, ⟨38, _⟩ => ⟨S_, .f32⟩
  | .hbm, ⟨39, _⟩ => ⟨S2x8192x8x1, .f32⟩
  | .hbm, ⟨40, _⟩ => ⟨S2x8192x8x1, .f32⟩
  | .hbm, ⟨41, _⟩ => ⟨S_, .f32⟩
  | .hbm, ⟨42, _⟩ => ⟨S2x8192x8x1, .f32⟩
  | .hbm, ⟨43, _⟩ => ⟨S2x8192x8x1, .f32⟩
  | .hbm, ⟨44, _⟩ => ⟨S2x8192x8x1, .f32⟩
  | .hbm, ⟨45, _⟩ => ⟨S2x8192x8x64, .f32⟩
  | .hbm, ⟨46, _⟩ => ⟨S2x8192x8x64, .f32⟩
  | .hbm, ⟨47, _⟩ => ⟨S1x1x1x64, .f32⟩
  | .hbm, ⟨48, _⟩ => ⟨S2x8192x8x64, .f32⟩
  | .hbm, ⟨49, _⟩ => ⟨S2x8192x8x64, .f32⟩
  | .hbm, ⟨50, _⟩ => ⟨S2x8192x8x64, .f32⟩
  | .hbm, ⟨51, _⟩ => ⟨S2x8192x8x64, .f32⟩
  | .hbm, ⟨52, _⟩ => ⟨S_, .f32⟩
  | .hbm, ⟨53, _⟩ => ⟨S2x8192x8, .f32⟩
  | .hbm, ⟨54, _⟩ => ⟨S2x8192x8x1, .f32⟩
  | .hbm, ⟨55, _⟩ => ⟨S_, .f32⟩
  | .hbm, ⟨56, _⟩ => ⟨S2x8192x8x1, .f32⟩
  | .hbm, ⟨57, _⟩ => ⟨S2x8192x8x1, .f32⟩
  | .hbm, ⟨58, _⟩ => ⟨S_, .f32⟩
  | .hbm, ⟨59, _⟩ => ⟨S2x8192x8x1, .f32⟩
  | .hbm, ⟨60, _⟩ => ⟨S2x8192x8x1, .f32⟩
  | .hbm, ⟨61, _⟩ => ⟨S2x8192x8x1, .f32⟩
  | .hbm, ⟨62, _⟩ => ⟨S2x8192x8x64, .f32⟩
  | .hbm, ⟨63, _⟩ => ⟨S2x8192x8x64, .f32⟩
  | .hbm, ⟨64, _⟩ => ⟨S1x1x1x64, .f32⟩
  | .hbm, ⟨65, _⟩ => ⟨S2x8192x8x64, .f32⟩
  | .hbm, ⟨66, _⟩ => ⟨S2x8192x8x64, .f32⟩
  | .hbm, ⟨67, _⟩ => ⟨S2x8192x256, .f32⟩
  | .hbm, ⟨68, _⟩ => ⟨S2x8192x256, .f32⟩
  | .hbm, ⟨69, _⟩ => ⟨S_, .f32⟩
  | .hbm, ⟨70, _⟩ => ⟨S2x8192x256, .f32⟩
  | .hbm, ⟨71, _⟩ => ⟨S2x8192x256, .f32⟩
  | .hbm, ⟨72, _⟩ => ⟨S_, .f32⟩
  | .hbm, ⟨73, _⟩ => ⟨S2x8192x256, .f32⟩
  | .hbm, ⟨74, _⟩ => ⟨S2x8192x256, .f32⟩
  | .hbm, ⟨75, _⟩ => ⟨S2x8192x256, .f32⟩
  | .hbm, ⟨76, _⟩ => ⟨S2x8192x8x64, .f32⟩
  | .hbm, ⟨77, _⟩ => ⟨S1x2x8x64x8192, .f32⟩
  | .hbm, ⟨78, _⟩ => ⟨S2x8x64x8192, .f32⟩
  | .hbm, ⟨79, _⟩ => ⟨S2x8x64x8192, .f32⟩
  | .hbm, ⟨80, _⟩ => ⟨S1x2x8x64x8192, .f32⟩
  | .hbm, ⟨81, _⟩ => ⟨S1x2x8x64x8192, .f32⟩
  | .hbm, ⟨82, _⟩ => ⟨S2x2x8x64x8192, .f32⟩
  | .hbm, ⟨83, _⟩ => ⟨S1x2x8x64x8192, .f32⟩
  | .hbm, ⟨84, _⟩ => ⟨S2x8x64x8192, .f32⟩
  | .hbm, ⟨85, _⟩ => ⟨S2x8x64x8192, .f32⟩
  | .hbm, ⟨86, _⟩ => ⟨S1x2x8x64x8192, .f32⟩
  | .hbm, ⟨87, _⟩ => ⟨S1x2x8x64x8192, .f32⟩
  | .hbm, ⟨88, _⟩ => ⟨S2x2x8x64x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Proof.KernelRunA.lean ====
module

public import proofs.«01_k».proof.Proof.KernelSetup

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1316000 in
/-- The body at an even point runs to its end from whole staging buffers and whole scratch, hands the inputs back as they were, and leaves something in the output block and the scratch. -/
theorem bodyEven (c : Dev nD) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole) (hc0 : ¬cond0_0 i)
    (x0 : Vec F S1x8x128x256 .bf16) (x1 : Vec F S1x8x32x256x128 .bf16) (x2 : Vec F S1x8x32x64x256 .bf16) (x3 : Vec F S256x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10) K := by
    intro E K
    simp only [cc0_attn_prompt_eq_skeleton]; unfold cc0_attn_prompt_skel
    simp only [k0_part77_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelRunB.lean ====
module

public import proofs.«01_k».proof.Proof.KernelRunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1968000 in
/-- The body at an odd point runs to its end from whole staging buffers and whole scratch, hands the inputs back as they were, and leaves something in the output block and the scratch. -/
theorem bodyOdd (c : Dev nD) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole) (hc0 : cond0_0 i)
    (x0 : Vec F S1x8x128x256 .bf16) (x1 : Vec F S1x8x32x256x128 .bf16) (x2 : Vec F S1x8x32x64x256 .bf16) (x3 : Vec F S256x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10) K := by
    intro E K
    simp only [cc0_attn_prompt_eq_skeleton]; unfold cc0_attn_prompt_skel
    simp only [k0_part77_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.lean ====
module

public import Idealize.ShloMosaic.Lib.Claim
public import proofs.«01_k».proof.Proof.KernelRunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 64 := lt_of_lt_of_eq t.isLt (show cfg0.N = 64 from N_0)
  by_cases h0 : t.val % 2 = 1
  · iintro ⟨⟨⟨HS0, HS1, HS2⟩, Hg⟩, Ho, ⟨%d0, H0⟩, ⟨%d1, H1⟩, ⟨%d2, H2⟩, ⟨%d3, H3⟩, ⟨%d4, H4⟩⟩
    iapply ((bodyOdd c (grid0.coords t) _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexact H4
  · iintro ⟨⟨⟨HS0, HS1, HS2⟩, Hg⟩, Ho, ⟨%d0, H0⟩, ⟨%d1, H1⟩, ⟨%d2, H2⟩, ⟨%d3, H3⟩, ⟨%d4, H4⟩⟩
    iapply ((bodyEven c (grid0.coords t) _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that ends at the pipeline's post leaves the three argument arrays as they were. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_of m ρ (fun c => (dats m 0 c).toRForget forgets0) (A_eq m) (run_main m ρ)

/-- The frame: every execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.KernelIdealSetup.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! The launch's set-up: the branch of the body, the staging memrefs, the scratch. -/

/-- The condition of the body's `scf.if` 0 (`k0_h1`), from the grid coordinates (the skeleton's scalar
    chain substituted). -/
abbrev cond0_0 (i : grid0.Coords) : Prop := k0_cond1 i = 1#1
/-- It holds at the points ≡ 1 (mod 2) — decided over the grid. -/
theorem hcond0_0 : ∀ t : Fin cfg0.N, cond0_0 (grid0.coords t) ↔ t.val % 2 = 1 :=
  (by decide +kernel : ∀ t : Fin grid0.N, cond0_0 (grid0.coords t) ↔ t.val % 2 = 1)

/-! ## The kernel body on any staging memrefs: a subtype the run finds -/

/-- Each window's current staging memref at point `t`, spelled as the pipeline passes it (`bodyAt0`), and its wholeness. -/
abbrev ms0_0 (t : Fin cfg0.N) : Memref sig .tc .vmem S1x8x128x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x32x256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x32x64x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x64x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x1x256 .f32 := Memref.whole cc0_scratch0
abbrev scM0_1 : Memref sig .tc .vmem S8x256x256 .f32 := Memref.whole cc0_scratch1
abbrev scM0_2 : Memref sig .tc .vmem S8x256x256 .f32 := Memref.whole cc0_scratch2

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KernelIdealRunA.lean ====
module

public import proofs.«01_k».proof.Proof.KernelIdealSetup

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body runs to its end and leaves in the output block contents that the run finds (`evenRun`), from any contents of the output block and the scratch. -/
def evenRun (c : Dev nD) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole) (hc0 : ¬cond0_0 i)
    (x0 : Vec F S1x8x128x256 .bf16) (x1 : Vec F S1x8x32x256x128 .bf16) (x2 : Vec F S1x8x32x64x256 .bf16) (x3 : Vec F S256x256 .bf16) :
      { W : BufTy.Contents (Elt F) arg7.view.ty → BufTy.Contents (Elt F) arg8.view.ty → BufTy.Contents (Elt F) arg9.view.ty → BufTy.Contents (Elt F) arg10.view.ty → BufTy.Contents (Elt F) arg7.view.ty // ∀ (E : Set ℕ) (K : PUnit → sProp 𝕄) (f7 : BufTy.Contents (Elt F) arg7.view.ty) (f8 : BufTy.Contents (Elt F) arg8.view.ty) (f9 : BufTy.Contents (Elt F) arg9.view.ty) (f10 : BufTy.Contents (Elt F) arg10.view.ty),
        iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} W f7 f8 f9 f10) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10) K } := by
    refine ⟨?_, fun E K f7 f8 f9 f10 => ?run⟩
    case run =>
      simp only [cc0_attn_prompt_eq_skeleton]; unfold cc0_attn_prompt_skel
      simp only [k0_part77_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
      unfold owns
      iintro ⟨⟨%f0, %hf0, H0⟩, ⟨%f1, %hf1, H1⟩, ⟨%f2, %hf2, H2⟩, ⟨%f3, %hf3, H3⟩, H4, HS0, HS1, HS2, Hk⟩
      obtain rfl := harg3.eq_unread hf0; obtain rfl := harg4.eq_unread hf1; obtain rfl := harg5.eq_unread hf2; obtain rfl := harg6.eq_unread hf3
      sl_exec (disch := first | sl_exact hc0)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexact H4
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl

end Cert.KernelIdeal.Hand

end
-- ==== Proof.KernelIdealRunB.lean ====
module

public import proofs.«01_k».proof.Proof.KernelIdealRunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body runs to its end and leaves in the output block contents that the run finds (`oddRun`), from any contents of the output block and the scratch. -/
def oddRun (c : Dev nD) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole) (hc0 : cond0_0 i)
    (x0 : Vec F S1x8x128x256 .bf16) (x1 : Vec F S1x8x32x256x128 .bf16) (x2 : Vec F S1x8x32x64x256 .bf16) (x3 : Vec F S256x256 .bf16) :
      { W : BufTy.Contents (Elt F) arg7.view.ty → BufTy.Contents (Elt F) arg8.view.ty → BufTy.Contents (Elt F) arg9.view.ty → BufTy.Contents (Elt F) arg10.view.ty → BufTy.Contents (Elt F) arg7.view.ty // ∀ (E : Set ℕ) (K : PUnit → sProp 𝕄) (f7 : BufTy.Contents (Elt F) arg7.view.ty) (f8 : BufTy.Contents (Elt F) arg8.view.ty) (f9 : BufTy.Contents (Elt F) arg9.view.ty) (f10 : BufTy.Contents (Elt F) arg10.view.ty),
        iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} W f7 f8 f9 f10) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10) K } := by
    refine ⟨?_, fun E K f7 f8 f9 f10 => ?run⟩
    case run =>
      simp only [cc0_attn_prompt_eq_skeleton]; unfold cc0_attn_prompt_skel
      simp only [k0_part77_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
      unfold owns
      iintro ⟨⟨%f0, %hf0, H0⟩, ⟨%f1, %hf1, H1⟩, ⟨%f2, %hf2, H2⟩, ⟨%f3, %hf3, H3⟩, H4, HS0, HS1, HS2, Hk⟩
      obtain rfl := harg3.eq_unread hf0; obtain rfl := harg4.eq_unread hf1; obtain rfl := harg5.eq_unread hf2; obtain rfl := harg6.eq_unread hf3
      sl_exec (disch := first | sl_exact hc0)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexact H4
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl

end Cert.KernelIdeal.Hand

end
-- ==== Proof.KernelIdealFrame.lean ====
module

public import Idealize.ShloMosaic.Lib.Claim
public import proofs.«01_k».proof.Proof.KernelIdealRunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- What the body leaves in the output block at point `t`: the contents that its run finds. -/
def outBlk (c : Dev nD) (t : Fin cfg0.N) : Vec F S1x8x64x256 .f32 :=
  if h : t.val % 2 = 1 then
    (ms0_4 t).view.read (Elt F) ((oddRun (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h) (iblk m c 0 t) (iblk m c 1 t) (iblk m c 2 t) (iblk m c 3 t)).1 (ms0_4 t).view.junk scM0_0.view.junk scM0_1.view.junk scM0_2.view.junk)
  else
    (ms0_4 t).view.read (Elt F) ((evenRun (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h' => h ((hcond0_0 t).mp h')) (iblk m c 0 t) (iblk m c 1 t) (iblk m c 2 t) (iblk m c 3 t)).1 (ms0_4 t).view.junk scM0_0.view.junk scM0_1.view.junk scM0_2.view.junk)

/-- The proof data of the one pipeline on core `c`: the arrays as the region finds them (`V`); after the body at
    point `t` each input's buffer at its block and the output at `outBlk`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 64 := lt_of_lt_of_eq t.isLt (show cfg0.N = 64 from N_0)
  by_cases h0 : t.val % 2 = 1
  · rw [show outBlk m c t = _ from dif_pos h0]
    have hr := fun K g4 g0 g1 g2 => (oddRun (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)).2 Set.univ K g4 g0 g1 g2
    unfold owns at hr ⊢
    iintro ⟨⟨⟨HS0, HS1, HS2⟩, Hg⟩, Ho, ⟨%d0, H0⟩, ⟨%d1, H1⟩, ⟨%d2, H2⟩, ⟨%d3, H3⟩, ⟨%d4, H4⟩⟩
    icases HS0 with ⟨%e0, HS0⟩
    icases HS1 with ⟨%e1, HS1⟩
    icases HS2 with ⟨%e2, HS2⟩
    icases H4 with ⟨%g4, %hg4, H4⟩
    icases HS0 with ⟨%g0, %hg0, HS0⟩
    icases HS1 with ⟨%g1, %hg1, HS1⟩
    icases HS2 with ⟨%g2, %hg2, HS2⟩
    iapply (hr _ g4 g0 g1 g2)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexists _; isplitr
    · ipureintro; exact rfl
    iexact H4
  · rw [show outBlk m c t = _ from dif_neg h0]
    have hr := fun K g4 g0 g1 g2 => (evenRun (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h' => h0 ((hcond0_0 t).mp h')) (iblk m c 0 t) (iblk m c 1 t) (iblk m c 2 t) (iblk m c 3 t)).2 Set.univ K g4 g0 g1 g2
    unfold owns at hr ⊢
    iintro ⟨⟨⟨HS0, HS1, HS2⟩, Hg⟩, Ho, ⟨%d0, H0⟩, ⟨%d1, H1⟩, ⟨%d2, H2⟩, ⟨%d3, H3⟩, ⟨%d4, H4⟩⟩
    icases HS0 with ⟨%e0, HS0⟩
    icases HS1 with ⟨%e1, HS1⟩
    icases HS2 with ⟨%e2, HS2⟩
    icases H4 with ⟨%g4, %hg4, H4⟩
    icases HS0 with ⟨%g0, %hg0, HS0⟩
    icases HS1 with ⟨%g1, %hg1, HS1⟩
    icases HS2 with ⟨%g2, %hg2, HS2⟩
    iapply (hr _ g4 g0 g1 g2)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexists _; isplitr
    · ipureintro; exact rfl
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every array of the pipeline at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Softplus.lean ====
/- Stick-breaking attention over the extended reals: what the base-two softplus of a score is, and the weight a key receives. No program is named here. -/
module

public import Idealize.ShloMosaic.PureOps.Ideal
public import Idealize.ShloMosaic.Lib.Pointwise

@[expose] public section

noncomputable section

namespace Cert.Attn

open Idealize.ShloMosaic

/-- The larger of two real numbers, as an extended real. -/
theorem coe_max' (a b : ℝ) : ((max a b : ℝ) : EReal) = max (a : EReal) (b : EReal) :=
  EReal.coe_strictMono.monotone.map_max

/-- Two to the power of a score, as a real number: zero at minus infinity. -/
def pw (z : EReal) : ℝ := (Ideal.exp2 z).toReal

/-- The base-two softplus of a score, as a real number. -/
def sp (z : EReal) : ℝ := Real.log (1 + pw z) * (Real.log 2)⁻¹

/-- The base-two softplus as the kernel computes it: the argument of the exponential is held at one hundred, and a maximum taken with the score. -/
def spK (z : EReal) : EReal :=
  max z (Ideal.log (1 + Ideal.exp2 (min z 100)) * (((Real.log 2)⁻¹ : ℝ) : EReal))

/-- The natural softplus as the reference computes it. -/
def splus (x : EReal) : EReal := max x 0 + Ideal.log1p (Ideal.exp (-(max x (-x))))

theorem pw_coe (r : ℝ) : pw (r : EReal) = (2 : ℝ) ^ r := rfl

theorem pw_bot : pw ⊥ = 0 := rfl

theorem pw_nonneg (z : EReal) : 0 ≤ pw z := by
  induction z with
  | bot => simp [pw_bot]
  | coe r => rw [pw_coe]; positivity
  | top => simp [pw]

/-- Two to a score that is not plus infinity is a real number. -/
theorem exp2_eq {z : EReal} (hz : z ≠ ⊤) : Ideal.exp2 z = (pw z : EReal) := by
  induction z with
  | bot => simp [pw_bot]
  | coe r => rfl
  | top => exact absurd rfl hz

theorem log2_pos : 0 < Real.log 2 := Real.log_pos (by norm_num)

theorem sp_nonneg (z : EReal) : 0 ≤ sp z :=
  mul_nonneg (Real.log_nonneg (by linarith [pw_nonneg z])) (inv_nonneg.2 log2_pos.le)

theorem two_rpow_eq_exp (x : ℝ) : (2 : ℝ) ^ x = Real.exp (Real.log 2 * x) :=
  Real.rpow_def_of_pos (by norm_num) x

/-- A score is at most its softplus. -/
theorem le_sp (r : ℝ) : r ≤ sp (r : EReal) := by
  unfold sp
  rw [pw_coe, ← div_eq_mul_inv, le_div_iff₀ log2_pos]
  calc r * Real.log 2 = Real.log ((2 : ℝ) ^ r) := by rw [Real.log_rpow (by norm_num)]
    _ ≤ _ := Real.log_le_log (by positivity) (by linarith)

/-- At a score of at most one hundred the kernel's softplus is the softplus. -/
theorem spK_eq {z : EReal} (hz : z ≤ 100) : spK z = (sp z : EReal) := by
  unfold spK
  rw [min_eq_left hz]
  induction z with
  | bot =>
    rw [Ideal.exp2_bot, show (1 + 0 : EReal) = ((1 : ℝ) : EReal) by simp, Ideal.log_coe, if_neg (by norm_num)]
    simp [sp, pw_bot]
  | coe r =>
    rw [Ideal.exp2_coe, show (1 + ((Real.rpow 2 r : ℝ) : EReal)) = ((1 + (2 : ℝ) ^ r : ℝ) : EReal) by
        rw [EReal.coe_add]; rfl,
      Ideal.log_coe, if_neg (by have : (0 : ℝ) < 2 ^ r := by positivity
                                linarith), ← EReal.coe_mul]
    exact max_eq_right (EReal.coe_le_coe_iff.2 (le_sp r))
  | top => exact absurd hz (by
      rw [not_le]; exact EReal.coe_lt_top 100)

theorem ne_top_of_le {z : EReal} (hz : z ≤ 100) : z ≠ ⊤ := by
  rintro rfl
  exact absurd hz (by rw [not_le]; exact EReal.coe_lt_top 100)

/-- Two to a score less a real number. -/
theorem exp2_sub {z : EReal} (hz : z ≠ ⊤) (a : ℝ) :
    Ideal.exp2 (z - (a : EReal)) = ((pw z * (2 : ℝ) ^ (-a) : ℝ) : EReal) := by
  induction z with
  | bot => simp [pw_bot]
  | coe r =>
    rw [← EReal.coe_sub, Ideal.exp2_coe, pw_coe, ← Real.rpow_add (by norm_num)]
    rfl
  | top => exact absurd rfl hz

/-- Two to the opposite of a real number. -/
theorem exp2_neg (a : ℝ) : Ideal.exp2 (-(a : EReal)) = (((2 : ℝ) ^ (-a) : ℝ) : EReal) := by
  rw [← EReal.coe_neg]; rfl

/-- The natural softplus of a score in natural units is the base-two softplus times log 2. -/
theorem splus_eq {z : EReal} (hz : z ≠ ⊤) :
    splus (z * ((Real.log 2 : ℝ) : EReal)) = ((Real.log 2 * sp z : ℝ) : EReal) := by
  have hl := log2_pos
  induction z with
  | bot =>
    have : (⊥ : EReal) * ((Real.log 2 : ℝ) : EReal) = ⊥ := EReal.bot_mul_coe_of_pos hl
    rw [this]
    unfold splus Ideal.log1p
    simp only [EReal.neg_bot, max_eq_right (bot_le : (⊥ : EReal) ≤ _), EReal.neg_top, Ideal.exp_bot]
    rw [show (1 + 0 : EReal) = ((1 : ℝ) : EReal) by simp, Ideal.log_coe, if_neg (by norm_num)]
    simp [sp, pw_bot]
  | coe r =>
    unfold splus Ideal.log1p sp
    rw [pw_coe, ← EReal.coe_mul, ← EReal.coe_neg, ← coe_max', ← EReal.coe_neg, Ideal.exp_coe, ← EReal.coe_zero, ← coe_max',
      ← EReal.coe_one, ← EReal.coe_add, Ideal.log_coe, if_neg (by have := Real.exp_pos (-(max (r * Real.log 2) (-(r * Real.log 2)))); linarith),
      ← EReal.coe_add]
    congr 1
    rw [mul_left_comm, mul_inv_cancel₀ hl.ne', mul_one, two_rpow_eq_exp, mul_comm (Real.log 2) r]
    generalize r * Real.log 2 = x
    rcases le_total 0 x with h | h
    · rw [max_eq_left h, max_eq_left (by linarith), show 1 + Real.exp x = Real.exp x * (1 + Real.exp (-x)) by
        rw [mul_add, ← Real.exp_add]; simp [add_comm], Real.log_mul (Real.exp_pos x).ne' (by have := Real.exp_pos (-x); linarith), Real.log_exp]
    · rw [max_eq_right h, max_eq_right (by linarith)]
      simp
  | top => exact absurd rfl hz

/-- The exponential of the log-sigmoid of a score, shifted by a real number: the weight with the softplus of its own key and of the later ones taken off. -/
theorem exp_logsig {z : EReal} (hz : z ≠ ⊤) (b : ℝ) :
    Ideal.exp (-(splus (-(z * ((Real.log 2 : ℝ) : EReal)))) + ((-(Real.log 2 * b) : ℝ) : EReal)) = ((pw z * (2 : ℝ) ^ (-(sp z + b)) : ℝ) : EReal) := by
  have hl := log2_pos
  induction z with
  | bot =>
    have : (⊥ : EReal) * ((Real.log 2 : ℝ) : EReal) = ⊥ := EReal.bot_mul_coe_of_pos hl
    rw [this, EReal.neg_bot]
    have h2 : splus ⊤ = ⊤ := by
      unfold splus Ideal.log1p
      simp only [EReal.neg_top, max_eq_left (le_top : _ ≤ (⊤ : EReal)), Ideal.exp_bot]
      rw [show (1 + 0 : EReal) = ((1 : ℝ) : EReal) by simp, Ideal.log_coe, if_neg (by norm_num)]
      simp
    rw [h2, EReal.neg_top, EReal.bot_add, Ideal.exp_bot, pw_bot, zero_mul, EReal.coe_zero]
  | coe r =>
    have h1 : splus (-((r : EReal) * ((Real.log 2 : ℝ) : EReal))) = ((Real.log 2 * sp ((-r : ℝ) : EReal) : ℝ) : EReal) := by
      rw [← splus_eq (EReal.coe_ne_top _), EReal.coe_neg, EReal.neg_mul]
    have h2 : sp ((-r : ℝ) : EReal) = sp (r : EReal) - r := by
      unfold sp
      rw [pw_coe, pw_coe, eq_sub_iff_add_eq, show Real.log (1 + 2 ^ (-r)) * (Real.log 2)⁻¹ + r = (Real.log (1 + 2 ^ (-r)) + r * Real.log 2) * (Real.log 2)⁻¹ by
        rw [add_mul, mul_assoc, mul_inv_cancel₀ hl.ne', mul_one], ← Real.log_rpow (by norm_num), ← Real.log_mul (by positivity) (by positivity)]
      congr 2
      rw [add_mul, ← Real.rpow_add (by norm_num)]
      simp [add_comm]
    rw [h1, h2, ← EReal.coe_neg, ← EReal.coe_add, Ideal.exp_coe, pw_coe, ← Real.rpow_add (by norm_num), two_rpow_eq_exp]
    congr 2
    ring
  | top => exact absurd rfl hz

end Cert.Attn

end
-- ==== Proof.Stick.lean ====
/- Stick-breaking attention over the extended reals, key block by key block: the state a query carries from one block of keys to the one before it, and what it is when no block is left. No program is named here. -/
module

public import proofs.«01_k».proof.Proof.Softplus

@[expose] public section

noncomputable section

namespace Cert.Attn

open Idealize.ShloMosaic

/-- A finite sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real factor that is not negative goes into a finite sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h, EReal.right_distrib_of_nonneg_of_ne_top (EReal.coe_nonneg.2 hc) (EReal.coe_ne_top _), ih]

/-- The sum over a block of 256 consecutive keys. -/
theorem sum_block {M : Type} [AddCommMonoid M] (f : ℕ → M) (a : ℕ) :
    ∑ k : Fin 256, f (a + k.val) = ∑ s ∈ Finset.Ico a (a + 256), f s := by
  rw [Finset.sum_Ico_eq_sum_range, Nat.add_sub_cancel_left, Fin.sum_univ_eq_sum_range (fun k => f (a + k)) 256]

/-- What the keys from `s` up to the query `t` take off, in units of log 2. -/
def mass (z : ℕ → EReal) (t s : ℕ) : ℝ := ∑ u ∈ Finset.Ico s t, sp (z u)

/-- The weight query `t` gives key `s`: none unless the key is before the query. -/
def wt (z : ℕ → EReal) (t s : ℕ) : ℝ := if s < t then pw (z s) * (2 : ℝ) ^ (-(mass z t s)) else 0

/-- The weighted sum of the values of the keys from `a` up to `b`. -/
def part (v z : ℕ → EReal) (t a b : ℕ) : EReal := ∑ s ∈ Finset.Ico a b, v s * (wt z t s : EReal)

theorem wt_nonneg (z : ℕ → EReal) (t s : ℕ) : 0 ≤ wt z t s := by
  unfold wt
  split
  · exact mul_nonneg (pw_nonneg _) (by positivity)
  · exact le_rfl

/-- Keys at or after the query give nothing, so the sum may stop anywhere past the query. -/
theorem part_stop (v z : ℕ → EReal) (t : ℕ) {b n : ℕ} (hb : t ≤ b) (hn : b ≤ n) : part v z t 0 n = part v z t 0 b := by
  unfold part
  rw [← Finset.sum_Ico_consecutive _ (Nat.zero_le b) hn, Finset.sum_eq_zero (s := Finset.Ico b n), add_zero]
  intro s hs
  have := (Finset.mem_Ico.1 hs).1
  rw [wt, if_neg (by omega), EReal.coe_zero, mul_zero]

/-! ## One block of keys, as the kernel takes it -/

/-- The softpluses of a block from key `k` of the block to its end, summed against the triangle of ones. -/
def sfx (zb : Fin 256 → EReal) (k : Fin 256) : EReal := ∑ k' : Fin 256, (if k ≤ k' then 1 else 0) * spK (zb k')

/-- The output after one more block, from the output and the row's sum before it. -/
def stepO (vb zb : Fin 256 → EReal) (o r : EReal) : EReal :=
  o + (∑ k : Fin 256, vb k * Ideal.exp2 (zb k - sfx zb k)) * Ideal.exp2 (-r)

/-- The row's sum after one more block. -/
def stepR (zb : Fin 256 → EReal) (r : EReal) : EReal := r + sfx zb 0

/-- The query's own block: the softpluses of the keys before the query `q` of the block, from key `k` on. -/
def diagS (q : Fin 256) (zb : Fin 256 → EReal) (k : Fin 256) : EReal :=
  ∑ k' : Fin 256, (if k ≤ k' then 1 else 0) * (if k' < q then spK (zb k') else 0)

/-- The output after the query's own block. -/
def diagO (q : Fin 256) (vb zb : Fin 256 → EReal) : EReal :=
  ∑ k : Fin 256, vb k * (if k < q then Ideal.exp2 (zb k - diagS q zb k) else 0)

/-- Sums over the keys of a block from key `k` on. -/
theorem sum_from (f : ℕ → ℝ) (a : ℕ) (k : Fin 256) :
    ∑ k' : Fin 256, (if k ≤ k' then (1 : EReal) else 0) * (f (a + k'.val) : EReal)
      = ((∑ u ∈ Finset.Ico (a + k.val) (a + 256), f u : ℝ) : EReal) := by
  have h1 : ∀ k' : Fin 256, (if k ≤ k' then (1 : EReal) else 0) * (f (a + k'.val) : EReal)
      = (((fun u => if a + k.val ≤ u then f u else 0) (a + k'.val) : ℝ) : EReal) := by
    intro k'
    by_cases h : k ≤ k'
    · have h2 : k.val ≤ k'.val := h
      rw [if_pos h, one_mul]
      simp only [if_pos (Nat.add_le_add_left h2 a)]
    · have h2 : ¬ k.val ≤ k'.val := h
      rw [if_neg h, zero_mul]
      simp only [if_neg (show ¬ (a + k.val ≤ a + k'.val) by omega), EReal.coe_zero]
  rw [Finset.sum_congr rfl fun k' _ => h1 k', ← coe_sum, sum_block (fun u => if a + k.val ≤ u then f u else 0), ← Finset.sum_filter]
  congr 2
  ext u
  simp only [Finset.mem_filter, Finset.mem_Ico]
  omega

theorem sfx_eq (z : ℕ → EReal) (hz : ∀ s, z s ≤ 100) (a : ℕ) (k : Fin 256) :
    sfx (fun k => z (a + k.val)) k = ((∑ u ∈ Finset.Ico (a + k.val) (a + 256), sp (z u) : ℝ) : EReal) := by
  unfold sfx
  rw [← sum_from]
  exact Finset.sum_congr rfl fun k' _ => by rw [spK_eq (hz _)]

theorem mass_split (z : ℕ → EReal) {t a b : ℕ} (h1 : a ≤ b) (h2 : b ≤ t) :
    mass z t a = ∑ u ∈ Finset.Ico a b, sp (z u) + mass z t b := by
  unfold mass
  rw [Finset.sum_Ico_consecutive _ h1 h2]

/-- One more block: the row's sum. -/
theorem stepR_eq (z : ℕ → EReal) (hz : ∀ s, z s ≤ 100) (t a : ℕ) (h : a + 256 ≤ t) :
    stepR (fun k => z (a + k.val)) ((mass z t (a + 256) : ℝ) : EReal) = ((mass z t a : ℝ) : EReal) := by
  unfold stepR
  rw [sfx_eq z hz, ← EReal.coe_add, mass_split z (show a ≤ a + 256 by omega) h, add_comm]
  rfl

/-- One more block: the output. -/
theorem stepO_eq (v z : ℕ → EReal) (hz : ∀ s, z s ≤ 100) (t a b : ℕ) (h : a + 256 ≤ t) (hb : a + 256 ≤ b) :
    stepO (fun k => v (a + k.val)) (fun k => z (a + k.val)) (part v z t (a + 256) b) ((mass z t (a + 256) : ℝ) : EReal)
      = part v z t a b := by
  unfold stepO
  rw [exp2_neg, sum_mul_coe _ _ (by positivity), add_comm]
  have h1 : ∀ k : Fin 256, v (a + k.val) * Ideal.exp2 (z (a + k.val) - sfx (fun k => z (a + k.val)) k) * (((2 : ℝ) ^ (-(mass z t (a + 256))) : ℝ) : EReal)
      = (fun s => v s * (wt z t s : EReal)) (a + k.val) := by
    intro k
    have hk := k.isLt
    rw [sfx_eq z hz, exp2_sub (ne_top_of_le (hz _)), mul_assoc, ← EReal.coe_mul, mul_assoc, ← Real.rpow_add (by norm_num)]
    show _ = v (a + k.val) * (wt z t (a + k.val) : EReal)
    rw [wt, if_pos (by omega), mass_split z (show a + k.val ≤ a + 256 by omega) h, neg_add]
  rw [Finset.sum_congr rfl fun k _ => h1 k, sum_block (fun s => v s * (wt z t s : EReal))]
  exact Finset.sum_Ico_consecutive _ (by omega) hb

theorem diagS_eq (z : ℕ → EReal) (hz : ∀ s, z s ≤ 100) (a : ℕ) (q k : Fin 256) :
    diagS q (fun k => z (a + k.val)) k = ((mass z (a + q.val) (a + k.val) : ℝ) : EReal) := by
  unfold diagS mass
  have hq := q.isLt
  have h1 : ∀ k' : Fin 256, (if k' < q then spK (z (a + k'.val)) else 0)
      = (((fun u => if u < a + q.val then sp (z u) else 0) (a + k'.val) : ℝ) : EReal) := by
    intro k'
    by_cases h : k' < q
    · have h2 : k'.val < q.val := h
      simp only [if_pos h, if_pos (Nat.add_lt_add_left h2 a), spK_eq (hz _)]
    · have h2 : ¬ k'.val < q.val := h
      simp only [if_neg h, if_neg (show ¬ (a + k'.val < a + q.val) by omega), EReal.coe_zero]
  rw [Finset.sum_congr rfl fun k' _ => by rw [h1 k'], sum_from (fun u => if u < a + q.val then sp (z u) else 0), ← Finset.sum_filter]
  congr 2
  ext u
  simp only [Finset.mem_filter, Finset.mem_Ico]
  omega

/-- The query's own block: the row's sum. -/
theorem diagR_eq (z : ℕ → EReal) (hz : ∀ s, z s ≤ 100) (a : ℕ) (q : Fin 256) :
    diagS q (fun k => z (a + k.val)) 0 = ((mass z (a + q.val) a : ℝ) : EReal) :=
  diagS_eq z hz a q 0

/-- The query's own block: the output. -/
theorem diagO_eq (v z : ℕ → EReal) (hz : ∀ s, z s ≤ 100) (a : ℕ) (q : Fin 256) :
    diagO q (fun k => v (a + k.val)) (fun k => z (a + k.val)) = part v z (a + q.val) a (a + 256) := by
  unfold diagO part
  rw [← sum_block (fun s => v s * (wt z (a + q.val) s : EReal))]
  refine Finset.sum_congr rfl fun k _ => ?_
  congr 1
  unfold wt
  by_cases h : k < q
  · have h2 : k.val < q.val := h
    rw [if_pos h, if_pos (by omega), diagS_eq z hz, exp2_sub (ne_top_of_le (hz _))]
  · have h2 : ¬ k.val < q.val := h
    rw [if_neg h, if_neg (by omega), EReal.coe_zero]

/-! ## The weight as the reference writes it -/

/-- The logarithm of what query `t` passes by at key `u`. -/
def logKeep (z : ℕ → EReal) (t u : ℕ) : EReal := if u < t then -(splus (z u * ((Real.log 2 : ℝ) : EReal))) else 0

theorem logKeep_eq (z : ℕ → EReal) (hz : ∀ s, z s ≤ 100) (t u : ℕ) :
    logKeep z t u = ((if u < t then -(Real.log 2 * sp (z u)) else 0 : ℝ) : EReal) := by
  unfold logKeep
  split
  · rw [splus_eq (ne_top_of_le (hz _)), EReal.coe_neg]
  · rw [EReal.coe_zero]

/-- The reference's weight, from the running sum of the logarithms over the keys from `s` up to `n`. -/
theorem ref_wt (z : ℕ → EReal) (hz : ∀ s, z s ≤ 100) (t s n : ℕ) (ht : t ≤ n) (hs : s < t) :
    Ideal.exp (-(splus (-(z s * ((Real.log 2 : ℝ) : EReal)))) + (∑ u ∈ Finset.Ico s n, logKeep z t u - logKeep z t s)) = (wt z t s : EReal) := by
  have h1 : ∑ u ∈ Finset.Ico s n, logKeep z t u - logKeep z t s = ((-(Real.log 2 * mass z t (s + 1)) : ℝ) : EReal) := by
    rw [Finset.sum_congr rfl fun u _ => logKeep_eq z hz t u, logKeep_eq z hz, ← coe_sum, ← EReal.coe_sub]
    congr 1
    rw [← Finset.sum_filter, Finset.sum_neg_distrib, ← Finset.mul_sum, if_pos hs]
    have h2 : (Finset.Ico s n).filter (fun u => u < t) = Finset.Ico s t := by
      ext u
      simp only [Finset.mem_filter, Finset.mem_Ico]
      omega
    rw [h2, Finset.sum_eq_sum_Ico_succ_bot hs]
    unfold mass
    ring
  rw [h1, exp_logsig (ne_top_of_le (hz _)), wt, if_pos hs]
  congr 3
  unfold mass
  rw [Finset.sum_eq_sum_Ico_succ_bot hs]

end Cert.Attn

end
-- ==== Proof.Attend.lean ====
module

public import proofs.«01_k».proof.Proof.Stick
public import Idealize.ShloMosaic.Lib.Pointwise

@[expose] public section

noncomputable section

namespace Cert.Attn

open Idealize.ShloMosaic

/-! The attention of one query, from the three argument arrays. -/

variable (q : Vec Ideal ⟨4, ![2, 8, 128, 8192]⟩ .bf16) (k : Vec Ideal ⟨5, ![2, 8, 32, 256, 128]⟩ .bf16) (v : Vec Ideal ⟨5, ![2, 8, 32, 64, 256]⟩ .bf16)

/-- The score of the query `t` with each key, in units of log 2. -/
def zA (b : Fin 2) (h : Fin 8) (t : Fin 8192) (s : ℕ) : EReal :=
  if hs : s < 8192 then ∑ d : Fin 128, (k (ix5 b h ⟨s / 256, by omega⟩ ⟨s % 256, by omega⟩ d) : EReal) * q (ix4 b h d t) else 0

/-- The value of each key in column `d`. -/
def vA (b : Fin 2) (h : Fin 8) (d : Fin 64) (s : ℕ) : EReal :=
  if hs : s < 8192 then v (ix5 b h ⟨s / 256, by omega⟩ d ⟨s % 256, by omega⟩) else 0

/-- The attention's result at query `t` and column `d`. -/
def attend (b : Fin 2) (h : Fin 8) (d : Fin 64) (t : Fin 8192) : EReal := part (vA v b h d) (zA q k b h t) t.val 0 8192

/-- Every score is at most 100. -/
def AtMost100 : Prop := ∀ (b : Fin 2) (h : Fin 8) (t : Fin 8192) (s : ℕ), zA q k b h t s ≤ 100

end Cert.Attn

end
-- ==== Proof.Heads.lean ====
module

public import Idealize.ShloMosaic.Lib.WordCmp
public import proofs.«01_k».proof.Proof.Gen.KernelIdeal.Skeleton
public import proofs.«01_k».proof.Proof.Stick
public import Idealize.ShloMosaic.Lib.Pointwise

@[expose] public section

set_option maxRecDepth 16384

noncomputable section

namespace Cert.KernelIdeal.Hand

open Idealize.ShloMosaic Idealize.SL.Sem
open Cert.KernelIdeal.Gen

/-! One head of one block, as the kernel computes it from the blocks it loads, and each value at an index. -/

section Vectors
variable {F : FTy → Type} [FloatOps F] [Named F]

/-- The scores of one head: keys times queries. -/
def scoreV (kb : Vec F S1x1x1x256x128 .bf16) (q : Vec F S1x1x128x256 .bf16) : FVec F S1x256x256 .f32 :=
  shapeCast S1x256x256 (matmul dot_S256x128_S128x256_S256x256_1_0_0_1_n_n none
    (shapeCast S256x128 kb shapeCasts_S1x1x1x256x128_S256x128) (shapeCast S128x256 q shapeCasts_S1x1x128x256_S128x256)
    (constant S256x256 .f32 0x00000000#32)) shapeCasts_S256x256_S1x256x256

/-- The base-2 softplus of a block of scores, clamped as the kernel clamps it. -/
def softV (z : Vec F S1x256x256 .f32) : FVec F S256x256 .f32 :=
  maximumf (shapeCast S256x256 z shapeCasts_S1x256x256_S256x256)
    (mulf (log (addf (broadcast S256x256 (Scalar.ofBits .f32 0x3F800000#32))
      (exp2 (minimumf (shapeCast S256x256 z shapeCasts_S1x256x256_S256x256) (broadcast S256x256 (Scalar.ofBits .f32 0x42C80000#32))))))
      (broadcast S256x256 (Named.named κ "log2e" 0x3FB8AA3B#32)))

/-- The sums of the softplus from each key of the block to its end. -/
def sufV (v1 : FVec F S256x256 .bf16) (z : Vec F S1x256x256 .f32) : FVec F S256x256 .f32 :=
  matmul dot_S256x256_S256x256_S256x256_1_0_0_1_n_n none v1 (truncf .bf16 (softV z) bitsLt_bf16_f32)
    (constant S256x256 .f32 0x00000000#32)

/-- The output of one head after a block below the diagonal. -/
def outV (v1 : FVec F S256x256 .bf16) (vb : Vec F S1x1x1x64x256 .bf16) (z : Vec F S1x256x256 .f32)
    (o : Vec F S1x1x64x256 .f32) (r : Vec F S1x1x256 .f32) : FVec F S1x1x64x256 .f32 :=
  shapeCast S1x1x64x256 (addf (shapeCast S64x256 o shapeCasts_S1x1x64x256_S64x256)
    (mulf (matmul dot_S64x256_S256x256_S64x256_1_0_0_1_n_n none (shapeCast S64x256 vb shapeCasts_S1x1x1x64x256_S64x256)
        (truncf .bf16 (exp2 (subf (shapeCast S256x256 z shapeCasts_S1x256x256_S256x256) (sufV v1 z))) bitsLt_bf16_f32)
        (constant S64x256 .f32 0x00000000#32))
      (broadcastTo S64x256 (exp2 (subf (broadcast S1x256 (Scalar.ofBits .f32 0x00000000#32))
        (shapeCast S1x256 r shapeCasts_S1x1x256_S1x256))) broadcasts_S1x256_S64x256))) shapeCasts_S64x256_S1x1x64x256

/-- What one head carries after a block below the diagonal. -/
def carryV (v1 : FVec F S256x256 .bf16) (z : Vec F S1x256x256 .f32) (r : Vec F S1x1x256 .f32) : FVec F S1x1x256 .f32 :=
  shapeCast S1x1x256 (addf (shapeCast S1x256 r shapeCasts_S1x1x256_S1x256)
    (extractStridedSlice S1x256 ![0, 0] (sufV v1 z) slices_S256x256_o0_0_S1x256)) shapeCasts_S1x256_S1x1x256

/-- The keys of a diagonal block that a query sees. -/
def seenV : IVec S256x256 1 :=
  cmpi .slt (iota .tc S256x256 32 [0] iota_S256x256_d0_w32) (iota .tc S256x256 32 [1] iota_S256x256_d1_w32)

/-- The sums of the softplus over the keys seen of a diagonal block. -/
def diagSufV (v1 : FVec F S256x256 .bf16) (z : Vec F S1x256x256 .f32) : FVec F S256x256 .f32 :=
  matmul dot_S256x256_S256x256_S256x256_1_0_0_1_n_n none v1
    (truncf .bf16 (select seenV (softV z) (broadcast S256x256 (Scalar.ofBits .f32 0x00000000#32))) bitsLt_bf16_f32)
    (constant S256x256 .f32 0x00000000#32)

/-- The output of one head of the diagonal block. -/
def diagOutV (v1 : FVec F S256x256 .bf16) (vb : Vec F S1x1x1x64x256 .bf16) (z : Vec F S1x256x256 .f32) : FVec F S1x1x64x256 .f32 :=
  shapeCast S1x1x64x256 (matmul dot_S64x256_S256x256_S64x256_1_0_0_1_n_n none (shapeCast S64x256 vb shapeCasts_S1x1x1x64x256_S64x256)
        (truncf .bf16 (select seenV (exp2 (subf (shapeCast S256x256 z shapeCasts_S1x256x256_S256x256) (diagSufV v1 z)))
          (broadcast S256x256 (Scalar.ofBits .f32 0x00000000#32))) bitsLt_bf16_f32)
        (constant S64x256 .f32 0x00000000#32)) shapeCasts_S64x256_S1x1x64x256

/-- What one head carries after the diagonal block. -/
def diagCarryV (v1 : FVec F S256x256 .bf16) (z : Vec F S1x256x256 .f32) : FVec F S1x1x256 .f32 :=
  shapeCast S1x1x256 (extractStridedSlice S1x256 ![0, 0] (diagSufV v1 z) slices_S256x256_o0_0_S1x256) shapeCasts_S1x256_S1x1x256

end Vectors

/-- The named constant at the extended reals. -/
theorem named_log2e : Named.named (F := Ideal) κ "log2e" (φ := .f32) 0x3FB8AA3B#32 = (((Real.log 2)⁻¹ : ℝ) : EReal) := by
  rfl

/-- The triangle matrix holds one where the row is at most the column. -/
def IsTri (v1 : FVec Ideal S256x256 .bf16) : Prop := ∀ a b : Fin 256, v1 (ix2 a b) = if a ≤ b then (1 : EReal) else 0

variable (v1 : FVec Ideal S256x256 .bf16)

theorem scoreV_apply (kb : Vec Ideal S1x1x1x256x128 .bf16) (q : Vec Ideal S1x1x128x256 .bf16) (s τ : Fin 256) :
    scoreV kb q (ix3 0 s τ) = ∑ d : Fin 128, (kb (ix5 0 0 0 s d) : EReal) * q (ix4 0 0 d τ) := by
  pointwise [scoreV]

theorem ofBits_hundred : Ideal.ofBits .f32 0x42C80000#32 = (100 : EReal) := by
  have h : Ideal.ofBits .f32 0x42C80000#32 = ((100 : ℝ) : EReal) := by
    simp [Ideal.ofBits, Ideal.ieee, -EReal.coe_mul]; norm_num
  rw [h]; rfl

theorem softV_apply (z : Vec Ideal S1x256x256 .f32) (s τ : Fin 256) :
    softV z (ix2 s τ) = Cert.Attn.spK (z (ix3 0 s τ)) := by
  pointwise [softV, named_log2e, Cert.Attn.spK]
  rw [ofBits_hundred]; rfl

theorem fexp2_eq (x : EReal) : FloatOps.exp2 (F := Ideal) (φ := .f32) x = Ideal.exp2 x := rfl

/-- The mask keeps the keys before the query. -/
theorem select_seen (k τ : Fin 256) (x y : EReal) :
    Scalar.select (IntOp.cmpi .slt (BitVec.ofNat 32 k) (BitVec.ofNat 32 τ)) x y = if k < τ then x else y := by
  rw [WordCmp.cmpi_slt_ofNat (by omega) (by omega), Scalar.select]
  by_cases h : k < τ
  · simp [h]
  · have : ¬ k.val < τ.val := h
    simp [h, this]

theorem mul_select (c : BitVec 1) (a x : EReal) : a * Scalar.select c x (0 : EReal) = Scalar.select c (a * x) 0 := by
  unfold Scalar.select; split <;> simp

theorem sufV_apply (h1 : IsTri v1) (z : Vec Ideal S1x256x256 .f32) (s τ : Fin 256) :
    sufV v1 z (ix2 s τ) = Cert.Attn.sfx (fun k => z (ix3 0 k τ)) s := by
  pointwise [sufV]
  simp only [softV_apply, h1 _ _, Cert.Attn.sfx]

theorem outV_apply (h1 : IsTri v1) (vb : Vec Ideal S1x1x1x64x256 .bf16) (z : Vec Ideal S1x256x256 .f32)
    (o : Vec Ideal S1x1x64x256 .f32) (r : Vec Ideal S1x1x256 .f32) (d : Fin 64) (τ : Fin 256) :
    outV v1 vb z o r (ix4 0 0 d τ) = Cert.Attn.stepO (fun k => vb (ix5 0 0 0 d k)) (fun k => z (ix3 0 k τ))
      (o (ix4 0 0 d τ)) (r (ix3 0 0 τ)) := by
  pointwise [outV]
  simp only [sufV_apply v1 h1, Cert.Attn.stepO, fexp2_eq, zero_sub]

theorem carryV_apply (h1 : IsTri v1) (z : Vec Ideal S1x256x256 .f32) (r : Vec Ideal S1x1x256 .f32) (τ : Fin 256) :
    carryV v1 z r (ix3 0 0 τ) = Cert.Attn.stepR (fun k => z (ix3 0 k τ)) (r (ix3 0 0 τ)) := by
  pointwise [carryV]
  simp only [sufV_apply v1 h1, Cert.Attn.stepR]

theorem diagSufV_apply (h1 : IsTri v1) (z : Vec Ideal S1x256x256 .f32) (s τ : Fin 256) :
    diagSufV v1 z (ix2 s τ) = Cert.Attn.diagS τ (fun k => z (ix3 0 k τ)) s := by
  pointwise [diagSufV, seenV]
  simp only [softV_apply, h1 _ _, Cert.Attn.diagS, select_seen, mul_ite, mul_zero]

theorem diagOutV_apply (h1 : IsTri v1) (vb : Vec Ideal S1x1x1x64x256 .bf16) (z : Vec Ideal S1x256x256 .f32)
    (d : Fin 64) (τ : Fin 256) :
    diagOutV v1 vb z (ix4 0 0 d τ) = Cert.Attn.diagO τ (fun k => vb (ix5 0 0 0 d k)) (fun k => z (ix3 0 k τ)) := by
  pointwise [diagOutV, seenV]
  simp only [diagSufV_apply v1 h1, Cert.Attn.diagO, fexp2_eq, select_seen, mul_ite, mul_zero]

theorem diagCarryV_apply (h1 : IsTri v1) (z : Vec Ideal S1x256x256 .f32) (τ : Fin 256) :
    diagCarryV v1 z (ix3 0 0 τ) = Cert.Attn.diagS τ (fun k => z (ix3 0 k τ)) 0 := by
  pointwise [diagCarryV]
  simp only [diagSufV_apply v1 h1]

end Cert.KernelIdeal.Hand

end
-- ==== Proof.Loads.lean ====
module

public import proofs.«01_k».proof.Proof.Heads
public import Idealize.ShloMosaic.Lib.Pipeline.ReadBack

@[expose] public section

set_option maxRecDepth 16384

noncomputable section

namespace Cert.KernelIdeal.Hand

open Idealize.ShloMosaic Idealize.SL.Sem
open Cert.KernelIdeal.Gen

/-! A buffer of eight heads is written and read head by head. -/

section Pieces
variable {sig' : RefSig} {κ' : Kind} {sp : Space} {s : Shape} {e : EltTy} {Val : EltTy → Type} [∀ e, Nonempty (Val e)]

/-- Eight heads written one after another, the last first. -/
def heads (rect : Fin 8 → Rect s) (P : (h : Fin 8) → (rect h).shape.Idx → Val e) : List (View.Piece Val s e) :=
  [⟨rect 7, P 7⟩, ⟨rect 6, P 6⟩, ⟨rect 5, P 5⟩, ⟨rect 4, P 4⟩, ⟨rect 3, P 3⟩, ⟨rect 2, P 2⟩, ⟨rect 1, P 1⟩, ⟨rect 0, P 0⟩]

/-- A load of one head after writes of which none meets it but the last of that head. -/
theorem readCov_heads (v : View sig' κ' sp s e) (rect : Fin 8 → Rect s)
    (hd : ∀ a b : Fin 8, a ≠ b → LoadRect.disj (rect a) (rect b).toLoadRect = true)
    (P : (h : Fin 8) → (rect h).shape.Idx → Val e) (L : List (View.Piece Val s e)) (h : Fin 8) :
    v.readCov (heads rect P ++ L) (rect h).toLoadRect = P h := by
  have key : ∀ (a b : Fin 8) (L : List (View.Piece Val s e)), v.readCov (⟨rect a, P a⟩ :: L) (rect b).toLoadRect
      = if e : a = b then e ▸ P a else v.readCov L (rect b).toLoadRect := by
    intro a b L
    split
    · next e => subst e; exact View.readCov_cons_toLoadRect v _ _ _
    · next e => exact View.readCov_skip v _ _ _ _ (hd a b e)
  simp only [heads, List.cons_append, key]
  fin_cases h <;> rfl

/-- What a view reads of one head after the eight were written. -/
theorem read_heads (v : View sig' κ' sp s e) (f : v.ty.Contents Val) (rect : Fin 8 → Rect s)
    (hd : ∀ a b : Fin 8, a ≠ b → LoadRect.disj (rect a) (rect b).toLoadRect = true)
    (P : (h : Fin 8) → (rect h).shape.Idx → Val e) (L : List (View.Piece Val s e)) (h : Fin 8) :
    (fun x => v.read Val (v.writes Val f (heads rect P ++ L)) ((rect h).emb x)) = P h := by
  rw [← readCov_heads v rect hd P L h]
  funext x
  refine View.read_writes_apply_eq v f v v.junk _ _ ⟨⟨rect h, P h⟩, ?_, (rect h).idx_mem x⟩
  fin_cases h <;> simp [heads]

/-- Eight writes in front of others, head by head. -/
theorem heads_congr (rect : Fin 8 → Rect s) {P : (h : Fin 8) → (rect h).shape.Idx → Val e} {L L' : List (View.Piece Val s e)}
    {p0 : (rect 0).shape.Idx → Val e} {p1 : (rect 1).shape.Idx → Val e} {p2 : (rect 2).shape.Idx → Val e}
    {p3 : (rect 3).shape.Idx → Val e} {p4 : (rect 4).shape.Idx → Val e} {p5 : (rect 5).shape.Idx → Val e}
    {p6 : (rect 6).shape.Idx → Val e} {p7 : (rect 7).shape.Idx → Val e}
    (h0 : p0 = P 0) (h1 : p1 = P 1) (h2 : p2 = P 2) (h3 : p3 = P 3) (h4 : p4 = P 4) (h5 : p5 = P 5) (h6 : p6 = P 6) (h7 : p7 = P 7)
    (hL : L = L') :
    (⟨rect 7, p7⟩ :: ⟨rect 6, p6⟩ :: ⟨rect 5, p5⟩ :: ⟨rect 4, p4⟩ :: ⟨rect 3, p3⟩ :: ⟨rect 2, p2⟩ :: ⟨rect 1, p1⟩ :: ⟨rect 0, p0⟩ :: L
      : List (View.Piece Val s e)) = heads rect P ++ L' := by
  subst h0 h1 h2 h3 h4 h5 h6 h7 hL; rfl

end Pieces

/-- Head `h` of the output block. -/
def oRect (h : Fin 8) : Rect S1x8x64x256 := Rect.unit ![0, h.val, 0, 0] S1x1x64x256.size (by revert h; decide)
/-- Head `h` of the carried sums. -/
def rRect (h : Fin 8) : Rect S8x1x256 := Rect.unit ![h.val, 0, 0] S1x1x256.size (by revert h; decide)
/-- Head `h` of the scores. -/
def zRect (h : Fin 8) : Rect S8x256x256 := Rect.unit ![h.val, 0, 0] S1x256x256.size (by revert h; decide)
/-- Head `h` of the queries. -/
def qRect (h : Fin 8) : Rect S1x8x128x256 := Rect.unit ![0, h.val, 0, 0] S1x1x128x256.size (by revert h; decide)
/-- Block `j` of head `h` of the keys. -/
def kRect (h : Fin 8) (j : Fin 32) : Rect S1x8x32x256x128 :=
  Rect.unit ![0, h.val, j.val, 0, 0] S1x1x1x256x128.size (by intro a; fin_cases a <;> simp <;> omega)
/-- Block `j` of head `h` of the values. -/
def vRect (h : Fin 8) (j : Fin 32) : Rect S1x8x32x64x256 :=
  Rect.unit ![0, h.val, j.val, 0, 0] S1x1x1x64x256.size (by intro a; fin_cases a <;> simp <;> omega)

theorem oRect_disj : ∀ a b : Fin 8, a ≠ b → LoadRect.disj (oRect a) (oRect b).toLoadRect = true := by decide
theorem rRect_disj : ∀ a b : Fin 8, a ≠ b → LoadRect.disj (rRect a) (rRect b).toLoadRect = true := by decide
theorem zRect_disj : ∀ a b : Fin 8, a ≠ b → LoadRect.disj (zRect a) (zRect b).toLoadRect = true := by decide

theorem emb_val {s : Shape} (r : Rect s) (x : r.shape.Idx) (a : Fin s.rank) : ((r.emb x a : Fin _) : ℕ) = r.off a + r.stride a * (x a : ℕ) := rfl

theorem oRect_emb (h : Fin 8) (d : Fin 64) (τ : Fin 256) : (oRect h).emb (ix4 0 0 d τ : S1x1x64x256.Idx) = ix4 0 h d τ := by
  funext a; fin_cases a <;> refine Fin.ext ((emb_val _ _ _).trans ?_) <;> simp [oRect, Rect.unit]
theorem rRect_emb (h : Fin 8) (τ : Fin 256) : (rRect h).emb (ix3 0 0 τ : S1x1x256.Idx) = ix3 h 0 τ := by
  funext a; fin_cases a <;> refine Fin.ext ((emb_val _ _ _).trans ?_) <;> simp [rRect, Rect.unit]
theorem zRect_emb (h : Fin 8) (s τ : Fin 256) : (zRect h).emb (ix3 0 s τ : S1x256x256.Idx) = ix3 h s τ := by
  funext a; fin_cases a <;> refine Fin.ext ((emb_val _ _ _).trans ?_) <;> simp [zRect, Rect.unit]
theorem qRect_emb (h : Fin 8) (d : Fin 128) (τ : Fin 256) : (qRect h).emb (ix4 0 0 d τ : S1x1x128x256.Idx) = ix4 0 h d τ := by
  funext a; fin_cases a <;> refine Fin.ext ((emb_val _ _ _).trans ?_) <;> simp [qRect, Rect.unit]
theorem kRect_emb (h : Fin 8) (j : Fin 32) (s : Fin 256) (d : Fin 128) :
    (kRect h j).emb (ix5 0 0 0 s d : S1x1x1x256x128.Idx) = ix5 0 h j s d := by
  funext a; fin_cases a <;> refine Fin.ext ((emb_val _ _ _).trans ?_) <;> simp [kRect, Rect.unit]
theorem vRect_emb (h : Fin 8) (j : Fin 32) (d : Fin 64) (s : Fin 256) :
    (vRect h j).emb (ix5 0 0 0 d s : S1x1x1x64x256.Idx) = ix5 0 h j d s := by
  funext a; fin_cases a <;> refine Fin.ext ((emb_val _ _ _).trans ?_) <;> simp [vRect, Rect.unit]

section Blocks
variable {F : FTy → Type}

/-- Head `h` of an output block. -/
def headO (x : Vec F S1x8x64x256 .f32) (h : Fin 8) : Vec F S1x1x64x256 .f32 := fun y => x ((oRect h).emb y)
/-- Head `h` of the carried sums. -/
def headR (x : Vec F S8x1x256 .f32) (h : Fin 8) : Vec F S1x1x256 .f32 := fun y => x ((rRect h).emb y)
/-- Head `h` of a block of scores. -/
def headZ (x : Vec F S8x256x256 .f32) (h : Fin 8) : Vec F S1x256x256 .f32 := fun y => x ((zRect h).emb y)
/-- Head `h` of a block of queries. -/
def headQ (x : Vec F S1x8x128x256 .bf16) (h : Fin 8) : Vec F S1x1x128x256 .bf16 := fun y => x ((qRect h).emb y)
/-- Block `j` of head `h` of the keys. -/
def blkK (x : Vec F S1x8x32x256x128 .bf16) (h : Fin 8) (j : Fin 32) : Vec F S1x1x1x256x128 .bf16 := fun y => x ((kRect h j).emb y)
/-- Block `j` of head `h` of the values. -/
def blkV (x : Vec F S1x8x32x64x256 .bf16) (h : Fin 8) (j : Fin 32) : Vec F S1x1x1x64x256 .bf16 := fun y => x ((vRect h j).emb y)

theorem load_K (v : View sig .tc .vmem S1x8x32x256x128 .bf16) (f : v.ty.Contents (Elt F)) (h : Fin 8) (j : Fin 32)
    {off : Fin 5 → ℕ} (e : off = ![0, h.val, j.val, 0, 0]) (inb : ∀ a, off a + S1x1x1x256x128.size a ≤ S1x8x32x256x128.size a) :
    v.readAt (Elt F) (Rect.unit (s := S1x8x32x256x128) off S1x1x1x256x128.size inb).toLoadRect f = blkK (v.read (Elt F) f) h j := by
  subst e; rfl

theorem load_V (v : View sig .tc .vmem S1x8x32x64x256 .bf16) (f : v.ty.Contents (Elt F)) (h : Fin 8) (j : Fin 32)
    {off : Fin 5 → ℕ} (e : off = ![0, h.val, j.val, 0, 0]) (inb : ∀ a, off a + S1x1x1x64x256.size a ≤ S1x8x32x64x256.size a) :
    v.readAt (Elt F) (Rect.unit (s := S1x8x32x64x256) off S1x1x1x64x256.size inb).toLoadRect f = blkV (v.read (Elt F) f) h j := by
  subst e; rfl

end Blocks

/-! The block indices that the kernel computes in 32-bit words. -/

/-- The block of a trip's first half. -/
def jw (i : grid0.Coords) (k : ℕ) : BitVec 32 :=
  Scalar.subi (Scalar.subi (BitVec.ofNat 32 (i 2).val) 1#32) (Scalar.muli 2#32 (Scf.iv 0#32 1#32 k))

theorem jw_nat : ∀ (a : Fin 32) (k : Fin 16), 2 * k.val + 2 ≤ a.val →
    let w := Scalar.subi (Scalar.subi (BitVec.ofNat 32 a.val) 1#32) (Scalar.muli 2#32 (Scf.iv 0#32 1#32 k.val))
    w.toNat = a.val - 1 - 2 * k.val ∧ (Scalar.maxsi (Scalar.subi w 1#32) 0#32).toNat = a.val - 2 - 2 * k.val
    ∧ (Scalar.subi w 1#32).toNat = a.val - 2 - 2 * k.val
    ∧ (Scalar.maxsi (Scalar.subi (Scalar.subi w 1#32) 1#32) 0#32).toNat = a.val - 3 - 2 * k.val := by
  decide

theorem trips_t1 (i : grid0.Coords) : (k0_t1_loop i).trips = (i 2).val / 2 := by
  have h : ∀ a : Fin 32, ∀ i : grid0.Coords, i 2 = a → (k0_t1_loop i).trips = a.val / 2 := by
    intro a i e
    unfold k0_t1_loop; rw [e]; clear e i; revert a; decide
  exact h (i 2) i rfl

theorem trips_t2 (i : grid0.Coords) : (k0_t2_loop i).trips = 0 := by
  have h : ∀ a : Fin 32, ∀ i : grid0.Coords, i 2 = a → (k0_t2_loop i).trips = 0 := by
    intro a i e
    unfold k0_t2_loop; rw [e]; clear e i; revert a; decide
  exact h (i 2) i rfl

end Cert.KernelIdeal.Hand

end
-- ==== Proof.Trip.lean ====
module

public import proofs.«01_k».proof.Proof.Loads
public import proofs.«01_k».proof.Proof.Gen.KernelIdeal.Loops

@[expose] public section

set_option maxRecDepth 16384

noncomputable section

namespace Cert.KernelIdeal.Hand

open Idealize.ShloMosaic Idealize.SL.Sem
open Cert.KernelIdeal.Gen

/-! One trip of the loop: two blocks below the diagonal, and the scores of the two blocks after them. -/

variable {F : FTy → Type} [FloatOps F] [Named F]

/-- The output of every head after a block below the diagonal. -/
def outF (v1 : FVec F S256x256 .bf16) (V : Vec F S1x8x32x64x256 .bf16) (j : Fin 32) (Z : Fin 8 → Vec F S1x256x256 .f32)
    (O : Fin 8 → Vec F S1x1x64x256 .f32) (R : Fin 8 → Vec F S1x1x256 .f32) (h : Fin 8) : Vec F S1x1x64x256 .f32 :=
  outV v1 (blkV V h j) (Z h) (O h) (R h)

/-- What every head carries after a block below the diagonal. -/
def carryF (v1 : FVec F S256x256 .bf16) (Z : Fin 8 → Vec F S1x256x256 .f32) (R : Fin 8 → Vec F S1x1x256 .f32) (h : Fin 8) :
    Vec F S1x1x256 .f32 := carryV v1 (Z h) (R h)

/-- The scores of every head against one block of keys. -/
def scoreF (K : Vec F S1x8x32x256x128 .bf16) (Q : Vec F S1x8x128x256 .bf16) (j : Fin 32) (h : Fin 8) : Vec F S1x256x256 .f32 :=
  scoreV (blkK K h j) (headQ Q h)

theorem outV_congr {v1 : FVec F S256x256 .bf16} {vb vb' : Vec F S1x1x1x64x256 .bf16} {z z' : Vec F S1x256x256 .f32}
    {o o' : Vec F S1x1x64x256 .f32} {r r' : Vec F S1x1x256 .f32} (hv : vb = vb') (hz : z = z') (ho : o = o') (hr : r = r') :
    outV v1 vb z o r = outV v1 vb' z' o' r' := by rw [hv, hz, ho, hr]

theorem carryV_congr {v1 : FVec F S256x256 .bf16} {z z' : Vec F S1x256x256 .f32} {r r' : Vec F S1x1x256 .f32} (hz : z = z') (hr : r = r') :
    carryV v1 z r = carryV v1 z' r' := by rw [hz, hr]

theorem scoreV_congr {kb kb' : Vec F S1x1x1x256x128 .bf16} {q q' : Vec F S1x1x128x256 .bf16} (hk : kb = kb') (hq : q = q') :
    scoreV kb q = scoreV kb' q' := by rw [hk, hq]

variable (𝒱 : Variants) (c : Dev nD) (bd : Option 𝒱.V) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole) (arg2 : BitVec 32) (v1 : FVec F S256x256 .bf16) (X_arg3 : BufTy.Contents (Elt F) arg3.view.ty) (X_arg4 : BufTy.Contents (Elt F) arg4.view.ty) (X_arg5 : BufTy.Contents (Elt F) arg5.view.ty) (k : Fin (k0_t1_loop i).trips)
  (f7 : BufTy.Contents (Elt F) arg7.view.ty) (f8 : BufTy.Contents (Elt F) arg8.view.ty) (f9 : BufTy.Contents (Elt F) arg9.view.ty) (f10 : BufTy.Contents (Elt F) arg10.view.ty)

set_option maxHeartbeats 4000000 in
/-- The scores that a trip writes second. -/
theorem trip_scores2 (j2 : Fin 32) (hj : (Scalar.maxsi (Scalar.subi (Scalar.subi (jw i k.val) 1#32) 1#32) 0#32).toNat = j2.val) :
    (trip_k0_t1 (F := F) 𝒱 c bd i arg3 harg3 arg4 harg4 arg5 harg5 arg6 harg6 arg7 harg7 arg8 harg8 arg9 harg9 arg10 harg10 arg2 v1 X_arg3 X_arg4 X_arg5 k).2.2.2.1 f7 f8 f9 f10 = heads zRect (scoreF (arg4.view.read (Elt F) X_arg4) (arg3.view.read (Elt F) X_arg3) j2) ++ [] := by
  unfold trip_k0_t1
  dsimp only
  refine heads_congr (Val := Elt F) (e := .f32) zRect (P := scoreF (arg4.view.read (Elt F) X_arg4) (arg3.view.read (Elt F) X_arg3) _) (L := []) (L' := []) ?_ ?_ ?_ ?_ ?_ ?_ ?_ ?_ rfl <;>
    exact scoreV_congr (load_K _ _ _ j2 (by rw [← hj]; rfl) _) rfl

set_option maxHeartbeats 4000000 in
/-- The scores that a trip writes first. -/
theorem trip_scores1 (j1 : Fin 32) (hj : (Scalar.maxsi (Scalar.subi (jw i k.val) 1#32) 0#32).toNat = j1.val) :
    trip_k0_t1.sl.HW_arg9_8 i arg3 arg4 X_arg3 X_arg4 k = heads zRect (scoreF (arg4.view.read (Elt F) X_arg4) (arg3.view.read (Elt F) X_arg3) j1) ++ [] := by
  refine heads_congr (Val := Elt F) (e := .f32) zRect (P := scoreF (arg4.view.read (Elt F) X_arg4) (arg3.view.read (Elt F) X_arg3) _) (L := []) (L' := []) ?_ ?_ ?_ ?_ ?_ ?_ ?_ ?_ rfl <;>
    exact scoreV_congr (load_K _ _ _ j1 (by rw [← hj]; rfl) _) rfl

set_option maxHeartbeats 4000000 in
/-- The pieces of the output that the first half of a trip writes. -/
theorem trip_out1 (j : Fin 32) (hj : (jw i k.val).toNat = j.val) :
    trip_k0_t1.sl.HW_arg7_8 i arg5 arg7 arg8 arg10 v1 X_arg5 k f7 f8 f10 = heads oRect (outF v1 (arg5.view.read (Elt F) X_arg5) j
      (headZ (arg10.view.read (Elt F) f10)) (headO (arg7.view.read (Elt F) f7)) (headR (arg8.view.read (Elt F) f8))) ++ [] := by
  refine heads_congr (Val := Elt F) (e := .f32) oRect (P := outF v1 (arg5.view.read (Elt F) X_arg5) j
      (headZ (arg10.view.read (Elt F) f10)) (headO (arg7.view.read (Elt F) f7)) (headR (arg8.view.read (Elt F) f8)))
      (L := []) (L' := []) ?_ ?_ ?_ ?_ ?_ ?_ ?_ ?_ rfl <;>
    exact outV_congr (load_V _ _ _ j (by rw [← hj]; rfl) _) rfl rfl rfl

set_option maxHeartbeats 4000000 in
/-- The pieces of the carried sums that the first half of a trip writes. -/
theorem trip_carry1 :
    trip_k0_t1.sl.HW_arg8_8 arg8 arg10 v1 f8 f10 = heads rRect (carryF v1
      (headZ (arg10.view.read (Elt F) f10)) (headR (arg8.view.read (Elt F) f8))) ++ [] := by
  refine heads_congr (Val := Elt F) (e := .f32) rRect (P := carryF v1
      (headZ (arg10.view.read (Elt F) f10)) (headR (arg8.view.read (Elt F) f8)))
      (L := []) (L' := []) ?_ ?_ ?_ ?_ ?_ ?_ ?_ ?_ rfl <;>
    rfl

set_option maxHeartbeats 8000000 in
/-- The pieces of the carried sums that a trip writes: two blocks, one after the other. -/
theorem trip_carry (j1 : Fin 32) (hj1 : (Scalar.maxsi (Scalar.subi (jw i k.val) 1#32) 0#32).toNat = j1.val) :
    (trip_k0_t1 (F := F) 𝒱 c bd i arg3 harg3 arg4 harg4 arg5 harg5 arg6 harg6 arg7 harg7 arg8 harg8 arg9 harg9 arg10 harg10 arg2 v1 X_arg3 X_arg4 X_arg5 k).2.1 f7 f8 f9 f10 = heads rRect (carryF v1 (scoreF (arg4.view.read (Elt F) X_arg4) (arg3.view.read (Elt F) X_arg3) j1) (carryF v1 (headZ (arg10.view.read (Elt F) f10)) (headR (arg8.view.read (Elt F) f8)))) ++ (heads rRect (carryF v1 (headZ (arg10.view.read (Elt F) f10)) (headR (arg8.view.read (Elt F) f8))) ++ []) := by
  have cZ : ∀ h : Fin 8, arg9.view.readCov (trip_k0_t1.sl.HW_arg9_8 i arg3 arg4 X_arg3 X_arg4 k) (zRect h).toLoadRect = (scoreF (arg4.view.read (Elt F) X_arg4) (arg3.view.read (Elt F) X_arg3) j1) h := fun h => by
    rw [trip_scores1 i arg3 arg4 X_arg3 X_arg4 k j1 hj1]; exact readCov_heads _ zRect zRect_disj _ _ h
  have cR : ∀ h : Fin 8, arg8.view.readCov (trip_k0_t1.sl.HW_arg8_8 arg8 arg10 v1 f8 f10) (rRect h).toLoadRect = (carryF v1 (headZ (arg10.view.read (Elt F) f10)) (headR (arg8.view.read (Elt F) f8))) h := fun h => by
    rw [trip_carry1 arg8 arg10 v1 f8 f10]; exact readCov_heads _ rRect rRect_disj _ _ h
  unfold trip_k0_t1
  dsimp only
  refine heads_congr (Val := Elt F) (e := .f32) rRect (P := (carryF v1 (scoreF (arg4.view.read (Elt F) X_arg4) (arg3.view.read (Elt F) X_arg3) j1) (carryF v1 (headZ (arg10.view.read (Elt F) f10)) (headR (arg8.view.read (Elt F) f8))))) (L' := heads rRect (carryF v1 (headZ (arg10.view.read (Elt F) f10)) (headR (arg8.view.read (Elt F) f8))) ++ []) ?_ ?_ ?_ ?_ ?_ ?_ ?_ ?_ (trip_carry1 arg8 arg10 v1 f8 f10)
  · exact carryV_congr (F := F) (cZ 0) (cR 0)
  · exact carryV_congr (F := F) (cZ 1) ((View.readCov_skip _ _ _ _ _ (by decide)).trans (cR 1))
  · exact carryV_congr (F := F) (cZ 2) ((View.readCov_skip _ _ _ _ _ (by decide)).trans ((View.readCov_skip _ _ _ _ _ (by decide)).trans (cR 2)))
  · exact carryV_congr (F := F) (cZ 3) ((View.readCov_skip _ _ _ _ _ (by decide)).trans ((View.readCov_skip _ _ _ _ _ (by decide)).trans ((View.readCov_skip _ _ _ _ _ (by decide)).trans (cR 3))))
  · exact carryV_congr (F := F) (cZ 4) ((View.readCov_skip _ _ _ _ _ (by decide)).trans ((View.readCov_skip _ _ _ _ _ (by decide)).trans ((View.readCov_skip _ _ _ _ _ (by decide)).trans ((View.readCov_skip _ _ _ _ _ (by decide)).trans (cR 4)))))
  · exact carryV_congr (F := F) (cZ 5) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cR 5))))))
  · exact carryV_congr (F := F) (cZ 6) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cR 6)))))))
  · exact carryV_congr (F := F) (cZ 7) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cR 7))))))))

set_option maxHeartbeats 8000000 in
/-- The pieces of the output that a trip writes: two blocks, one after the other. -/
theorem trip_out (j j1 : Fin 32) (hj : (jw i k.val).toNat = j.val) (hj1 : (Scalar.maxsi (Scalar.subi (jw i k.val) 1#32) 0#32).toNat = j1.val)
    (hj1' : (Scalar.subi (jw i k.val) 1#32).toNat = j1.val) :
    (trip_k0_t1 (F := F) 𝒱 c bd i arg3 harg3 arg4 harg4 arg5 harg5 arg6 harg6 arg7 harg7 arg8 harg8 arg9 harg9 arg10 harg10 arg2 v1 X_arg3 X_arg4 X_arg5 k).1 f7 f8 f9 f10 = heads oRect (outF v1 (arg5.view.read (Elt F) X_arg5) j1 (scoreF (arg4.view.read (Elt F) X_arg4) (arg3.view.read (Elt F) X_arg3) j1) (outF v1 (arg5.view.read (Elt F) X_arg5) j (headZ (arg10.view.read (Elt F) f10)) (headO (arg7.view.read (Elt F) f7)) (headR (arg8.view.read (Elt F) f8))) (carryF v1 (headZ (arg10.view.read (Elt F) f10)) (headR (arg8.view.read (Elt F) f8)))) ++ (heads oRect (outF v1 (arg5.view.read (Elt F) X_arg5) j (headZ (arg10.view.read (Elt F) f10)) (headO (arg7.view.read (Elt F) f7)) (headR (arg8.view.read (Elt F) f8))) ++ []) := by
  have cZ : ∀ h : Fin 8, arg9.view.readCov (trip_k0_t1.sl.HW_arg9_8 i arg3 arg4 X_arg3 X_arg4 k) (zRect h).toLoadRect = (scoreF (arg4.view.read (Elt F) X_arg4) (arg3.view.read (Elt F) X_arg3) j1) h := fun h => by
    rw [trip_scores1 i arg3 arg4 X_arg3 X_arg4 k j1 hj1]; exact readCov_heads _ zRect zRect_disj _ _ h
  have cR : ∀ h : Fin 8, arg8.view.readCov (trip_k0_t1.sl.HW_arg8_8 arg8 arg10 v1 f8 f10) (rRect h).toLoadRect = (carryF v1 (headZ (arg10.view.read (Elt F) f10)) (headR (arg8.view.read (Elt F) f8))) h := fun h => by
    rw [trip_carry1 arg8 arg10 v1 f8 f10]; exact readCov_heads _ rRect rRect_disj _ _ h
  have cO : ∀ h : Fin 8, arg7.view.readCov (trip_k0_t1.sl.HW_arg7_8 i arg5 arg7 arg8 arg10 v1 X_arg5 k f7 f8 f10) (oRect h).toLoadRect = (outF v1 (arg5.view.read (Elt F) X_arg5) j (headZ (arg10.view.read (Elt F) f10)) (headO (arg7.view.read (Elt F) f7)) (headR (arg8.view.read (Elt F) f8))) h := fun h => by
    rw [trip_out1 i arg5 arg7 arg8 arg10 v1 X_arg5 k f7 f8 f10 j hj]; exact readCov_heads _ oRect oRect_disj _ _ h
  unfold trip_k0_t1
  dsimp only
  refine heads_congr (Val := Elt F) (e := .f32) oRect (P := (outF v1 (arg5.view.read (Elt F) X_arg5) j1 (scoreF (arg4.view.read (Elt F) X_arg4) (arg3.view.read (Elt F) X_arg3) j1) (outF v1 (arg5.view.read (Elt F) X_arg5) j (headZ (arg10.view.read (Elt F) f10)) (headO (arg7.view.read (Elt F) f7)) (headR (arg8.view.read (Elt F) f8))) (carryF v1 (headZ (arg10.view.read (Elt F) f10)) (headR (arg8.view.read (Elt F) f8))))) (L' := heads oRect (outF v1 (arg5.view.read (Elt F) X_arg5) j (headZ (arg10.view.read (Elt F) f10)) (headO (arg7.view.read (Elt F) f7)) (headR (arg8.view.read (Elt F) f8))) ++ []) ?_ ?_ ?_ ?_ ?_ ?_ ?_ ?_ (trip_out1 i arg5 arg7 arg8 arg10 v1 X_arg5 k f7 f8 f10 j hj)
  · exact outV_congr (F := F) (load_V _ _ 0 j1 (by rw [← hj1']; rfl) _) (cZ 0) (cO 0) (cR 0)
  · exact outV_congr (F := F) (load_V _ _ 1 j1 (by rw [← hj1']; rfl) _) (cZ 1) ((View.readCov_skip _ _ _ _ _ (by decide)).trans (cO 1)) ((View.readCov_skip _ _ _ _ _ (by decide)).trans (cR 1))
  · exact outV_congr (F := F) (load_V _ _ 2 j1 (by rw [← hj1']; rfl) _) (cZ 2) ((View.readCov_skip _ _ _ _ _ (by decide)).trans ((View.readCov_skip _ _ _ _ _ (by decide)).trans (cO 2))) ((View.readCov_skip _ _ _ _ _ (by decide)).trans ((View.readCov_skip _ _ _ _ _ (by decide)).trans (cR 2)))
  · exact outV_congr (F := F) (load_V _ _ 3 j1 (by rw [← hj1']; rfl) _) (cZ 3) ((View.readCov_skip _ _ _ _ _ (by decide)).trans ((View.readCov_skip _ _ _ _ _ (by decide)).trans ((View.readCov_skip _ _ _ _ _ (by decide)).trans (cO 3)))) ((View.readCov_skip _ _ _ _ _ (by decide)).trans ((View.readCov_skip _ _ _ _ _ (by decide)).trans ((View.readCov_skip _ _ _ _ _ (by decide)).trans (cR 3))))
  · exact outV_congr (F := F) (load_V _ _ 4 j1 (by rw [← hj1']; rfl) _) (cZ 4) ((View.readCov_skip _ _ _ _ _ (by decide)).trans ((View.readCov_skip _ _ _ _ _ (by decide)).trans ((View.readCov_skip _ _ _ _ _ (by decide)).trans ((View.readCov_skip _ _ _ _ _ (by decide)).trans (cO 4))))) ((View.readCov_skip _ _ _ _ _ (by decide)).trans ((View.readCov_skip _ _ _ _ _ (by decide)).trans ((View.readCov_skip _ _ _ _ _ (by decide)).trans ((View.readCov_skip _ _ _ _ _ (by decide)).trans (cR 4)))))
  · exact outV_congr (F := F) (load_V _ _ 5 j1 (by rw [← hj1']; rfl) _) (cZ 5) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cO 5)))))) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cR 5))))))
  · exact outV_congr (F := F) (load_V _ _ 6 j1 (by rw [← hj1']; rfl) _) (cZ 6) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cO 6))))))) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cR 6)))))))
  · exact outV_congr (F := F) (load_V _ _ 7 j1 (by rw [← hj1']; rfl) _) (cZ 7) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cO 7)))))))) ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans (cR 7))))))))

end Cert.KernelIdeal.Hand

end
-- ==== Proof.Values.lean ====
module

public import proofs.«01_k».proof.Proof.Trip

@[expose] public section

set_option maxRecDepth 16384

noncomputable section

namespace Cert.KernelIdeal.Hand

open Idealize.ShloMosaic Idealize.SL.Sem
open Cert.KernelIdeal.Gen Cert.Attn

/-! What the loop leaves, over the extended reals: after every block, the part of the attention from that block on. -/

variable (K : Vec Ideal S1x8x32x256x128 .bf16) (V : Vec Ideal S1x8x32x64x256 .bf16) (Q : Vec Ideal S1x8x128x256 .bf16)

/-- The score of query `τ` of the block of queries with each key, keys counted through all blocks. -/
def zf (h : Fin 8) (τ : Fin 256) (s : ℕ) : EReal :=
  if hs : s < 8192 then ∑ d : Fin 128, (K (ix5 0 h ⟨s / 256, by omega⟩ ⟨s % 256, by omega⟩ d) : EReal) * Q (ix4 0 h d τ) else 0

/-- The values of the keys, counted through all blocks. -/
def vf (h : Fin 8) (d : Fin 64) (s : ℕ) : EReal :=
  if hs : s < 8192 then V (ix5 0 h ⟨s / 256, by omega⟩ d ⟨s % 256, by omega⟩) else 0

theorem zf_block (h : Fin 8) (τ : Fin 256) (j : Fin 32) (k : Fin 256) :
    zf K Q h τ (256 * j.val + k.val) = ∑ d : Fin 128, (K (ix5 0 h j k d) : EReal) * Q (ix4 0 h d τ) := by
  have h1 : 256 * j.val + k.val < 8192 := by omega
  have h2 : (⟨(256 * j.val + k.val) / 256, by omega⟩ : Fin 32) = j := Fin.ext (by show (256 * j.val + k.val) / 256 = j.val; omega)
  have h3 : (⟨(256 * j.val + k.val) % 256, by omega⟩ : Fin 256) = k := Fin.ext (by show (256 * j.val + k.val) % 256 = k.val; omega)
  rw [zf, dif_pos h1, h2, h3]

theorem vf_block (h : Fin 8) (d : Fin 64) (j : Fin 32) (k : Fin 256) : vf V h d (256 * j.val + k.val) = V (ix5 0 h j d k) := by
  have h1 : 256 * j.val + k.val < 8192 := by omega
  have h2 : (⟨(256 * j.val + k.val) / 256, by omega⟩ : Fin 32) = j := Fin.ext (by show (256 * j.val + k.val) / 256 = j.val; omega)
  have h3 : (⟨(256 * j.val + k.val) % 256, by omega⟩ : Fin 256) = k := Fin.ext (by show (256 * j.val + k.val) % 256 = k.val; omega)
  rw [vf, dif_pos h1, h2, h3]

/-- A family of scores holds the block `n` of keys. -/
def IsZ (n : ℕ) (Z : Fin 8 → Vec Ideal S1x256x256 .f32) : Prop :=
  ∀ (h : Fin 8) (s τ : Fin 256), Z h (ix3 0 s τ) = zf K Q h τ (256 * n + s.val)

/-- A family of outputs holds the keys from block `n` on, for the queries of block `a`. -/
def IsO (a n : ℕ) (O : Fin 8 → Vec Ideal S1x1x64x256 .f32) : Prop :=
  ∀ (h : Fin 8) (d : Fin 64) (τ : Fin 256),
    O h (ix4 0 0 d τ) = part (vf V h d) (zf K Q h τ) (256 * a + τ.val) (256 * n) (256 * (a + 1))

/-- A family of carried sums holds the keys from block `n` on, for the queries of block `a`. -/
def IsR (a n : ℕ) (R : Fin 8 → Vec Ideal S1x1x256 .f32) : Prop :=
  ∀ (h : Fin 8) (τ : Fin 256), R h (ix3 0 0 τ) = ((mass (zf K Q h τ) (256 * a + τ.val) (256 * n) : ℝ) : EReal)

/-- No score is above 100. -/
def Small : Prop := ∀ (h : Fin 8) (τ : Fin 256) (s : ℕ), zf K Q h τ s ≤ 100

theorem isZ_score (j : Fin 32) : IsZ K Q j.val (scoreF K Q j) := by
  intro h s τ
  rw [scoreF, scoreV_apply, zf_block]
  simp only [blkK, headQ, kRect_emb, qRect_emb]

theorem blkV_apply (h : Fin 8) (j : Fin 32) (d : Fin 64) (k : Fin 256) : blkV V h j (ix5 0 0 0 d k) = vf V h d (256 * j.val + k.val) := by
  rw [vf_block, blkV, vRect_emb]

variable (v1 : FVec Ideal S256x256 .bf16)

/-- One block below the diagonal: the outputs. -/
theorem isO_step (h1 : IsTri v1) (hs : Small K Q) (a : ℕ) (j : Fin 32) (hj : j.val + 1 ≤ a)
    (Z : Fin 8 → Vec Ideal S1x256x256 .f32) (O : Fin 8 → Vec Ideal S1x1x64x256 .f32) (R : Fin 8 → Vec Ideal S1x1x256 .f32)
    (hZ : IsZ K Q j.val Z) (hO : IsO K V Q a (j.val + 1) O) (hR : IsR K Q a (j.val + 1) R) : IsO K V Q a j.val (outF v1 V j Z O R) := by
  intro h d τ
  rw [outF, outV_apply v1 h1, hO h d τ, hR h τ]
  simp only [hZ h _ τ, blkV_apply]
  rw [show 256 * (j.val + 1) = 256 * j.val + 256 by ring]
  exact stepO_eq _ _ (hs h τ) _ _ _ (by omega) (by omega)

/-- One block below the diagonal: the carried sums. -/
theorem isR_step (h1 : IsTri v1) (hs : Small K Q) (a n : ℕ) (hj : n + 1 ≤ a)
    (Z : Fin 8 → Vec Ideal S1x256x256 .f32) (R : Fin 8 → Vec Ideal S1x1x256 .f32)
    (hZ : IsZ K Q n Z) (hR : IsR K Q a (n + 1) R) : IsR K Q a n (carryF v1 Z R) := by
  intro h τ
  rw [carryF, carryV_apply v1 h1, hR h τ]
  simp only [hZ h _ τ]
  rw [show 256 * (n + 1) = 256 * n + 256 by ring]
  exact stepR_eq _ (hs h τ) _ _ (by omega)

/-- The diagonal block: the outputs. -/
theorem isO_diag (h1 : IsTri v1) (hs : Small K Q) (j : Fin 32) (Z : Fin 8 → Vec Ideal S1x256x256 .f32) (hZ : IsZ K Q j.val Z) :
    IsO K V Q j.val j.val (fun h => diagOutV v1 (blkV V h j) (Z h)) := by
  intro h d τ
  dsimp only
  rw [diagOutV_apply v1 h1]
  simp only [hZ h _ τ, blkV_apply]
  exact diagO_eq _ _ (hs h τ) _ _

/-- The diagonal block: the carried sums. -/
theorem isR_diag (h1 : IsTri v1) (hs : Small K Q) (n : ℕ) (Z : Fin 8 → Vec Ideal S1x256x256 .f32) (hZ : IsZ K Q n Z) :
    IsR K Q n n (fun h => diagCarryV v1 (Z h)) := by
  intro h τ
  dsimp only
  rw [diagCarryV_apply v1 h1]
  simp only [hZ h _ τ]
  exact diagR_eq _ (hs h τ) _ _

theorem headO_writes (v : View sig .tc .vmem S1x8x64x256 .f32) (f : v.ty.Contents (Elt Ideal)) (P : Fin 8 → Vec Ideal S1x1x64x256 .f32)
    (L : List (View.Piece (Elt Ideal) S1x8x64x256 .f32)) :
    headO (v.read (Elt Ideal) (v.writes (Elt Ideal) f (heads oRect P ++ L))) = P :=
  funext fun h => read_heads v f oRect oRect_disj P L h

theorem headR_writes (v : View sig .tc .vmem S8x1x256 .f32) (f : v.ty.Contents (Elt Ideal)) (P : Fin 8 → Vec Ideal S1x1x256 .f32)
    (L : List (View.Piece (Elt Ideal) S8x1x256 .f32)) :
    headR (v.read (Elt Ideal) (v.writes (Elt Ideal) f (heads rRect P ++ L))) = P :=
  funext fun h => read_heads v f rRect rRect_disj P L h

theorem headZ_writes (v : View sig .tc .vmem S8x256x256 .f32) (f : v.ty.Contents (Elt Ideal)) (P : Fin 8 → Vec Ideal S1x256x256 .f32)
    (L : List (View.Piece (Elt Ideal) S8x256x256 .f32)) :
    headZ (v.read (Elt Ideal) (v.writes (Elt Ideal) f (heads zRect P ++ L))) = P :=
  funext fun h => read_heads v f zRect zRect_disj P L h

section Loop
variable (𝒱 : Variants) (c : Dev nD) (bd : Option 𝒱.V) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole) (arg2 : BitVec 32)
  (X3 : BufTy.Contents (Elt Ideal) arg3.view.ty) (X4 : BufTy.Contents (Elt Ideal) arg4.view.ty) (X5 : BufTy.Contents (Elt Ideal) arg5.view.ty)
  (G7 : BufTy.Contents (Elt Ideal) arg7.view.ty) (G8 : BufTy.Contents (Elt Ideal) arg8.view.ty) (G9 : BufTy.Contents (Elt Ideal) arg9.view.ty) (G10 : BufTy.Contents (Elt Ideal) arg10.view.ty)

/-- Before trip `p` the output and the carried sums hold the blocks from `a - 2 p` on, and the scores of the block before them are ready. -/
def LoopInv (p : ℕ) : Prop :=
  IsO K V Q (i 2).val ((i 2).val - 2 * p) (headO (arg7.view.read (Elt Ideal) (arg7.view.writes (Elt Ideal) G7 (pb_k0_t1 (F := Ideal) 𝒱 c bd i arg3 harg3 arg4 harg4 arg5 harg5 arg6 harg6 arg7 harg7 arg8 harg8 arg9 harg9 arg10 harg10 arg2 v1 X3 X4 X5 G7 G8 G9 G10 p).1)))
  ∧ IsR K Q (i 2).val ((i 2).val - 2 * p) (headR (arg8.view.read (Elt Ideal) (arg8.view.writes (Elt Ideal) G8 (pb_k0_t1 (F := Ideal) 𝒱 c bd i arg3 harg3 arg4 harg4 arg5 harg5 arg6 harg6 arg7 harg7 arg8 harg8 arg9 harg9 arg10 harg10 arg2 v1 X3 X4 X5 G7 G8 G9 G10 p).2.1)))
  ∧ IsZ K Q ((i 2).val - 1 - 2 * p) (headZ (arg10.view.read (Elt Ideal) (arg10.view.writes (Elt Ideal) G10 (pb_k0_t1 (F := Ideal) 𝒱 c bd i arg3 harg3 arg4 harg4 arg5 harg5 arg6 harg6 arg7 harg7 arg8 harg8 arg9 harg9 arg10 harg10 arg2 v1 X3 X4 X5 G7 G8 G9 G10 p).2.2.2)))

theorem loopInv (h1 : IsTri v1) (hK : arg4.view.read (Elt Ideal) X4 = K) (hV : arg5.view.read (Elt Ideal) X5 = V)
    (hQ : arg3.view.read (Elt Ideal) X3 = Q) (hs : Small K Q)
    (hO : IsO K V Q (i 2).val (i 2).val (headO (arg7.view.read (Elt Ideal) G7)))
    (hR : IsR K Q (i 2).val (i 2).val (headR (arg8.view.read (Elt Ideal) G8)))
    (hZ : IsZ K Q ((i 2).val - 1) (headZ (arg10.view.read (Elt Ideal) G10))) :
    ∀ p, p ≤ (i 2).val / 2 → LoopInv K V Q v1 𝒱 c bd i arg3 harg3 arg4 harg4 arg5 harg5 arg6 harg6 arg7 harg7 arg8 harg8 arg9 harg9 arg10 harg10 arg2 X3 X4 X5 G7 G8 G9 G10 p := by
  intro p
  induction p with
  | zero =>
    intro _
    exact ⟨hO, hR, hZ⟩
  | succ p ih =>
    intro hp
    obtain ⟨iO, iR, iZ⟩ := ih (by omega)
    have ha : (i 2).val < 32 := (i 2).isLt
    have hpk : p < (k0_t1_loop i).trips := by rw [trips_t1]; omega
    obtain ⟨w1, w2, w3, w4⟩ := jw_nat (i 2) ⟨p, by omega⟩ (by show 2 * p + 2 ≤ _; omega)
    have e := pb_k0_t1_succ (F := Ideal) 𝒱 c bd i arg3 harg3 arg4 harg4 arg5 harg5 arg6 harg6 arg7 harg7 arg8 harg8 arg9 harg9 arg10 harg10 arg2 v1 X3 X4 X5 G7 G8 G9 G10 ⟨p, hpk⟩
    obtain ⟨j, hj⟩ : ∃ j : Fin 32, j.val = (i 2).val - 1 - 2 * p := ⟨⟨_, by omega⟩, rfl⟩
    obtain ⟨j1, hj1⟩ : ∃ j : Fin 32, j.val = (i 2).val - 2 - 2 * p := ⟨⟨_, by omega⟩, rfl⟩
    obtain ⟨j2, hj2⟩ : ∃ j : Fin 32, j.val = (i 2).val - 3 - 2 * p := ⟨⟨_, by omega⟩, rfl⟩
    have q0 : j.val + 1 = (i 2).val - 2 * p := by omega
    have q1 : j1.val + 1 = j.val := by omega
    have q2 : (i 2).val - 2 * (p + 1) = j1.val := by omega
    have q3 : (i 2).val - 1 - 2 * (p + 1) = j2.val := by omega
    rw [← q0] at iO iR
    rw [← hj] at iZ
    have zO := isO_step K V Q v1 h1 hs (i 2).val j (by omega) _ _ _ iZ iO iR
    have zR := isR_step K Q v1 h1 hs (i 2).val j.val (by omega) _ _ iZ iR
    rw [← q1] at zO zR
    have yO := isO_step K V Q v1 h1 hs (i 2).val j1 (by omega) _ _ _ (isZ_score K Q j1) zO zR
    have yR := isR_step K Q v1 h1 hs (i 2).val j1.val (by omega) _ _ (isZ_score K Q j1) zR
    have e' : pb_k0_t1 (F := Ideal) 𝒱 c bd i arg3 harg3 arg4 harg4 arg5 harg5 arg6 harg6 arg7 harg7 arg8 harg8 arg9 harg9 arg10 harg10 arg2 v1 X3 X4 X5 G7 G8 G9 G10 (p + 1) = _ := e
    unfold LoopInv
    rw [e', q2, q3]
    dsimp only [tripL_k0_t1]
    refine ⟨?_, ?_, ?_⟩
    · rw [View.writes_append, trip_out 𝒱 c bd i arg3 harg3 arg4 harg4 arg5 harg5 arg6 harg6 arg7 harg7 arg8 harg8 arg9 harg9 arg10 harg10 arg2 v1 X3 X4 X5 ⟨p, hpk⟩ _ _ _ _ j j1 (w1.trans hj.symm) (w2.trans hj1.symm) (w3.trans hj1.symm), headO_writes, hK, hV, hQ]
      exact yO
    · rw [View.writes_append, trip_carry 𝒱 c bd i arg3 harg3 arg4 harg4 arg5 harg5 arg6 harg6 arg7 harg7 arg8 harg8 arg9 harg9 arg10 harg10 arg2 v1 X3 X4 X5 ⟨p, hpk⟩ _ _ _ _ j1 (w2.trans hj1.symm), headR_writes, hK, hQ]
      exact yR
    · rw [View.writes_append, trip_scores2 𝒱 c bd i arg3 harg3 arg4 harg4 arg5 harg5 arg6 harg6 arg7 harg7 arg8 harg8 arg9 harg9 arg10 harg10 arg2 v1 X3 X4 X5 ⟨p, hpk⟩ _ _ _ _ j2 (w4.trans hj2.symm), headZ_writes, hK, hQ]
      exact isZ_score K Q j2

end Loop

end Cert.KernelIdeal.Hand

end
-- ==== Proof.Diag.lean ====
module

public import proofs.«01_k».proof.Proof.Values
public import proofs.«01_k».proof.Proof.KernelIdealRunA
public import proofs.«01_k».proof.Proof.KernelIdealRunB

@[expose] public section

set_option maxRecDepth 16384

noncomputable section

namespace Cert.KernelIdeal.Hand

open Idealize.ShloMosaic Idealize.SL.Sem
open Cert.KernelIdeal.Gen

/-! What the body writes before its loop: the scores of the diagonal block and of the block before it, and the diagonal block's output and sums. -/

section Diag
variable {F : FTy → Type} [FloatOps F] [Named F]

theorem diagOutV_congr {v1 : FVec F S256x256 .bf16} {vb vb' : Vec F S1x1x1x64x256 .bf16} {z z' : Vec F S1x256x256 .f32}
    (hv : vb = vb') (hz : z = z') : diagOutV v1 vb z = diagOutV v1 vb' z' := by rw [hv, hz]

theorem diagCarryV_congr {v1 : FVec F S256x256 .bf16} {z z' : Vec F S1x256x256 .f32} (hz : z = z') :
    diagCarryV v1 z = diagCarryV v1 z' := by rw [hz]

theorem word_nat : ∀ a : Fin 32, (BitVec.ofNat 32 a.val).toNat = a.val
    ∧ (Scalar.maxsi (Scalar.subi (BitVec.ofNat 32 a.val) 1#32) 0#32).toNat = a.val - 1 := by decide

variable (c : Dev nD) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole)
    (x0 : Vec F S1x8x128x256 .bf16) (x1 : Vec F S1x8x32x256x128 .bf16) (x2 : Vec F S1x8x32x64x256 .bf16) (x3 : Vec F S256x256 .bf16)

/-- The scores of the diagonal block. -/
theorem diag_scores : evenRun.sl.HS1_8 c i arg3 harg3 arg4 harg4 x0 x1 = heads zRect (scoreF x1 x0 (i 2)) ++ [] := by
  have hw := (word_nat (i 2)).1
  refine heads_congr (Val := Elt F) (e := .f32) zRect (P := scoreF x1 x0 (i 2)) (L := []) (L' := []) ?_ ?_ ?_ ?_ ?_ ?_ ?_ ?_ rfl
  · exact scoreV_congr ((load_K _ _ 0 (i 2) (congrArg (fun n => ![0, 0, n, 0, 0]) hw) _).trans (congrArg (fun x => blkK x 0 (i 2)) (harg4.read_unread x1))) (congrArg (fun x => headQ x 0) (harg3.read_unread x0))
  · exact scoreV_congr ((load_K _ _ 1 (i 2) (congrArg (fun n => ![0, 1, n, 0, 0]) hw) _).trans (congrArg (fun x => blkK x 1 (i 2)) (harg4.read_unread x1))) (congrArg (fun x => headQ x 1) (harg3.read_unread x0))
  · exact scoreV_congr ((load_K _ _ 2 (i 2) (congrArg (fun n => ![0, 2, n, 0, 0]) hw) _).trans (congrArg (fun x => blkK x 2 (i 2)) (harg4.read_unread x1))) (congrArg (fun x => headQ x 2) (harg3.read_unread x0))
  · exact scoreV_congr ((load_K _ _ 3 (i 2) (congrArg (fun n => ![0, 3, n, 0, 0]) hw) _).trans (congrArg (fun x => blkK x 3 (i 2)) (harg4.read_unread x1))) (congrArg (fun x => headQ x 3) (harg3.read_unread x0))
  · exact scoreV_congr ((load_K _ _ 4 (i 2) (congrArg (fun n => ![0, 4, n, 0, 0]) hw) _).trans (congrArg (fun x => blkK x 4 (i 2)) (harg4.read_unread x1))) (congrArg (fun x => headQ x 4) (harg3.read_unread x0))
  · exact scoreV_congr ((load_K _ _ 5 (i 2) (congrArg (fun n => ![0, 5, n, 0, 0]) hw) _).trans (congrArg (fun x => blkK x 5 (i 2)) (harg4.read_unread x1))) (congrArg (fun x => headQ x 5) (harg3.read_unread x0))
  · exact scoreV_congr ((load_K _ _ 6 (i 2) (congrArg (fun n => ![0, 6, n, 0, 0]) hw) _).trans (congrArg (fun x => blkK x 6 (i 2)) (harg4.read_unread x1))) (congrArg (fun x => headQ x 6) (harg3.read_unread x0))
  · exact scoreV_congr ((load_K _ _ 7 (i 2) (congrArg (fun n => ![0, 7, n, 0, 0]) hw) _).trans (congrArg (fun x => blkK x 7 (i 2)) (harg4.read_unread x1))) (congrArg (fun x => headQ x 7) (harg3.read_unread x0))

set_option maxHeartbeats 4000000 in
/-- The scores of the block before the diagonal, or of block 0. -/
theorem next_scores (j : Fin 32) (hj : j.val = (i 2).val - 1) :
    evenRun.sl.HS2_8 c i arg3 harg3 arg4 harg4 x0 x1 = heads zRect (scoreF x1 x0 j) ++ [] := by
  have hw := (word_nat (i 2)).2.trans hj.symm
  refine heads_congr (Val := Elt F) (e := .f32) zRect (P := scoreF x1 x0 j) (L := []) (L' := []) ?_ ?_ ?_ ?_ ?_ ?_ ?_ ?_ rfl
  · exact scoreV_congr ((load_K _ _ 0 j (congrArg (fun n => ![0, 0, n, 0, 0]) hw) _).trans (congrArg (fun x => blkK x 0 j) (harg4.read_unread x1))) (congrArg (fun x => headQ x 0) (harg3.read_unread x0))
  · exact scoreV_congr ((load_K _ _ 1 j (congrArg (fun n => ![0, 1, n, 0, 0]) hw) _).trans (congrArg (fun x => blkK x 1 j) (harg4.read_unread x1))) (congrArg (fun x => headQ x 1) (harg3.read_unread x0))
  · exact scoreV_congr ((load_K _ _ 2 j (congrArg (fun n => ![0, 2, n, 0, 0]) hw) _).trans (congrArg (fun x => blkK x 2 j) (harg4.read_unread x1))) (congrArg (fun x => headQ x 2) (harg3.read_unread x0))
  · exact scoreV_congr ((load_K _ _ 3 j (congrArg (fun n => ![0, 3, n, 0, 0]) hw) _).trans (congrArg (fun x => blkK x 3 j) (harg4.read_unread x1))) (congrArg (fun x => headQ x 3) (harg3.read_unread x0))
  · exact scoreV_congr ((load_K _ _ 4 j (congrArg (fun n => ![0, 4, n, 0, 0]) hw) _).trans (congrArg (fun x => blkK x 4 j) (harg4.read_unread x1))) (congrArg (fun x => headQ x 4) (harg3.read_unread x0))
  · exact scoreV_congr ((load_K _ _ 5 j (congrArg (fun n => ![0, 5, n, 0, 0]) hw) _).trans (congrArg (fun x => blkK x 5 j) (harg4.read_unread x1))) (congrArg (fun x => headQ x 5) (harg3.read_unread x0))
  · exact scoreV_congr ((load_K _ _ 6 j (congrArg (fun n => ![0, 6, n, 0, 0]) hw) _).trans (congrArg (fun x => blkK x 6 j) (harg4.read_unread x1))) (congrArg (fun x => headQ x 6) (harg3.read_unread x0))
  · exact scoreV_congr ((load_K _ _ 7 j (congrArg (fun n => ![0, 7, n, 0, 0]) hw) _).trans (congrArg (fun x => blkK x 7 j) (harg4.read_unread x1))) (congrArg (fun x => headQ x 7) (harg3.read_unread x0))

set_option maxHeartbeats 4000000 in
/-- The diagonal block's part of the output. -/
theorem diag_out : evenRun.sl.H4_8 c i arg3 harg3 arg4 harg4 arg5 harg5 arg6 harg6 arg9 x0 x1 x2 x3
    = heads oRect (fun h => diagOutV (evenRun.sl.v1 c arg6 harg6 x3) (blkV x2 h (i 2)) (scoreF x1 x0 (i 2) h)) ++ [] := by
  have hw := (word_nat (i 2)).1
  have cZ : ∀ h : Fin 8, arg9.view.readCov (evenRun.sl.HS1_8 c i arg3 harg3 arg4 harg4 x0 x1) (zRect h).toLoadRect = scoreF x1 x0 (i 2) h := fun h => by
    rw [diag_scores]; exact readCov_heads _ zRect zRect_disj _ _ h
  refine heads_congr (Val := Elt F) (e := .f32) oRect (P := fun h => diagOutV (evenRun.sl.v1 c arg6 harg6 x3) (blkV x2 h (i 2)) (scoreF x1 x0 (i 2) h)) (L := []) (L' := []) ?_ ?_ ?_ ?_ ?_ ?_ ?_ ?_ rfl
  · exact diagOutV_congr ((load_V _ _ 0 (i 2) (congrArg (fun n => ![0, 0, n, 0, 0]) hw) _).trans (congrArg (fun x => blkV x 0 (i 2)) (harg5.read_unread x2))) (cZ 0)
  · exact diagOutV_congr ((load_V _ _ 1 (i 2) (congrArg (fun n => ![0, 1, n, 0, 0]) hw) _).trans (congrArg (fun x => blkV x 1 (i 2)) (harg5.read_unread x2))) (cZ 1)
  · exact diagOutV_congr ((load_V _ _ 2 (i 2) (congrArg (fun n => ![0, 2, n, 0, 0]) hw) _).trans (congrArg (fun x => blkV x 2 (i 2)) (harg5.read_unread x2))) (cZ 2)
  · exact diagOutV_congr ((load_V _ _ 3 (i 2) (congrArg (fun n => ![0, 3, n, 0, 0]) hw) _).trans (congrArg (fun x => blkV x 3 (i 2)) (harg5.read_unread x2))) (cZ 3)
  · exact diagOutV_congr ((load_V _ _ 4 (i 2) (congrArg (fun n => ![0, 4, n, 0, 0]) hw) _).trans (congrArg (fun x => blkV x 4 (i 2)) (harg5.read_unread x2))) (cZ 4)
  · exact diagOutV_congr ((load_V _ _ 5 (i 2) (congrArg (fun n => ![0, 5, n, 0, 0]) hw) _).trans (congrArg (fun x => blkV x 5 (i 2)) (harg5.read_unread x2))) (cZ 5)
  · exact diagOutV_congr ((load_V _ _ 6 (i 2) (congrArg (fun n => ![0, 6, n, 0, 0]) hw) _).trans (congrArg (fun x => blkV x 6 (i 2)) (harg5.read_unread x2))) (cZ 6)
  · exact diagOutV_congr ((load_V _ _ 7 (i 2) (congrArg (fun n => ![0, 7, n, 0, 0]) hw) _).trans (congrArg (fun x => blkV x 7 (i 2)) (harg5.read_unread x2))) (cZ 7)

set_option maxHeartbeats 4000000 in
/-- The diagonal block's sums. -/
theorem diag_carry : evenRun.sl.HS0_8 c i arg3 harg3 arg4 harg4 arg6 harg6 arg9 x0 x1 x3
    = heads rRect (fun h => diagCarryV (evenRun.sl.v1 c arg6 harg6 x3) (scoreF x1 x0 (i 2) h)) ++ [] := by
  have cZ : ∀ h : Fin 8, arg9.view.readCov (evenRun.sl.HS1_8 c i arg3 harg3 arg4 harg4 x0 x1) (zRect h).toLoadRect = scoreF x1 x0 (i 2) h := fun h => by
    rw [diag_scores]; exact readCov_heads _ zRect zRect_disj _ _ h
  refine heads_congr (Val := Elt F) (e := .f32) rRect (P := fun h => diagCarryV (evenRun.sl.v1 c arg6 harg6 x3) (scoreF x1 x0 (i 2) h)) (L := []) (L' := []) ?_ ?_ ?_ ?_ ?_ ?_ ?_ ?_ rfl
  · exact diagCarryV_congr (cZ 0)
  · exact diagCarryV_congr (cZ 1)
  · exact diagCarryV_congr (cZ 2)
  · exact diagCarryV_congr (cZ 3)
  · exact diagCarryV_congr (cZ 4)
  · exact diagCarryV_congr (cZ 5)
  · exact diagCarryV_congr (cZ 6)
  · exact diagCarryV_congr (cZ 7)

/-! The two runs write the same before the loop. -/

theorem odd_v1 : oddRun.sl.v1 c arg6 harg6 x3 = evenRun.sl.v1 c arg6 harg6 x3 := rfl
theorem odd_scores : oddRun.sl.HS1_8 c i arg3 harg3 arg4 harg4 x0 x1 = evenRun.sl.HS1_8 c i arg3 harg3 arg4 harg4 x0 x1 := rfl
theorem odd_next : oddRun.sl.HS2_8 c i arg3 harg3 arg4 harg4 x0 x1 = evenRun.sl.HS2_8 c i arg3 harg3 arg4 harg4 x0 x1 := rfl
theorem odd_out : oddRun.sl.H4_8 c i arg3 harg3 arg4 harg4 arg5 harg5 arg6 harg6 arg9 x0 x1 x2 x3
    = evenRun.sl.H4_8 c i arg3 harg3 arg4 harg4 arg5 harg5 arg6 harg6 arg9 x0 x1 x2 x3 := rfl
theorem odd_carry : oddRun.sl.HS0_8 c i arg3 harg3 arg4 harg4 arg6 harg6 arg9 x0 x1 x3
    = evenRun.sl.HS0_8 c i arg3 harg3 arg4 harg4 arg6 harg6 arg9 x0 x1 x3 := rfl

end Diag

end Cert.KernelIdeal.Hand

end
-- ==== Proof.BodyList.lean ====
module

public import proofs.«01_k».proof.Proof.Diag

@[expose] public section

set_option maxRecDepth 16384

noncomputable section

namespace Cert.KernelIdeal.Hand

open Idealize.ShloMosaic Idealize.SL.Sem
open Cert.KernelIdeal.Gen

/-! The output block that the body leaves, at either kind of grid point. -/

section Lists
variable {F : FTy → Type} [FloatOps F] [Named F]

variable (c : Dev nD) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole)
    (x0 : Vec F S1x8x128x256 .bf16) (x1 : Vec F S1x8x32x256x128 .bf16) (x2 : Vec F S1x8x32x64x256 .bf16)

section Any
variable (w : BitVec 32) (v1 : FVec F S256x256 .bf16) (H4 : List (View.Piece (Elt F) S1x8x64x256 .f32)) (H0 : List (View.Piece (Elt F) S8x1x256 .f32)) (H1 H2 : List (View.Piece (Elt F) S8x256x256 .f32))

/-- The pieces that the loop writes. -/
def loopA := pb_k0_t1 (F := F) Variants.none c none i arg3 harg3 arg4 harg4 arg5 harg5 arg6 harg6 arg7 harg7 arg8 harg8 arg9 harg9 arg10 harg10 (BitVec.ofNat 32 (i 2).val) v1 (harg3.unread x0) (harg4.unread x1) (harg5.unread x2)
  (arg7.view.writes (Elt F) arg7.view.junk (H4)) (arg8.view.writes (Elt F) arg8.view.junk (H0)) (arg9.view.writes (Elt F) arg9.view.junk (H1)) (arg10.view.writes (Elt F) arg10.view.junk (H2))
  (Scf.trips (k0_t1_loop i).lb (k0_t1_loop i).ub (k0_t1_loop i).st)

/-- The pieces that the second loop writes: it makes no trip. -/
def loopB := pb_k0_t2 (F := F) Variants.none c none i arg3 harg3 arg4 harg4 arg5 harg5 arg6 harg6 arg7 harg7 arg8 harg8 arg9 harg9 arg10 harg10 (BitVec.ofNat 32 (i 2).val) v1 w (harg3.unread x0) (harg4.unread x1) (harg5.unread x2)
  (arg7.view.writes (Elt F) arg7.view.junk ((loopA c i arg3 harg3 arg4 harg4 arg5 harg5 arg6 harg6 arg7 harg7 arg8 harg8 arg9 harg9 arg10 harg10 x0 x1 x2 v1 H4 H0 H1 H2).1 ++ H4)) (arg8.view.writes (Elt F) arg8.view.junk ((loopA c i arg3 harg3 arg4 harg4 arg5 harg5 arg6 harg6 arg7 harg7 arg8 harg8 arg9 harg9 arg10 harg10 x0 x1 x2 v1 H4 H0 H1 H2).2.1 ++ H0)) (arg9.view.writes (Elt F) arg9.view.junk ((loopA c i arg3 harg3 arg4 harg4 arg5 harg5 arg6 harg6 arg7 harg7 arg8 harg8 arg9 harg9 arg10 harg10 x0 x1 x2 v1 H4 H0 H1 H2).2.2.1 ++ H1)) (arg10.view.writes (Elt F) arg10.view.junk ((loopA c i arg3 harg3 arg4 harg4 arg5 harg5 arg6 harg6 arg7 harg7 arg8 harg8 arg9 harg9 arg10 harg10 x0 x1 x2 v1 H4 H0 H1 H2).2.2.2 ++ H2))
  (Scf.trips (k0_t2_loop i).lb (k0_t2_loop i).ub (k0_t2_loop i).st)

theorem loopB_nil : loopB c i arg3 harg3 arg4 harg4 arg5 harg5 arg6 harg6 arg7 harg7 arg8 harg8 arg9 harg9 arg10 harg10 x0 x1 x2 w v1 H4 H0 H1 H2 = ([], [], [], []) := by
  have h : Scf.trips (k0_t2_loop i).lb (k0_t2_loop i).ub (k0_t2_loop i).st = 0 := trips_t2 i
  unfold loopB; rw [h]; rfl

/-- Everything written to the output block when the loops are done. -/
def listO := (loopB c i arg3 harg3 arg4 harg4 arg5 harg5 arg6 harg6 arg7 harg7 arg8 harg8 arg9 harg9 arg10 harg10 x0 x1 x2 w v1 H4 H0 H1 H2).1 ++ ((loopA c i arg3 harg3 arg4 harg4 arg5 harg5 arg6 harg6 arg7 harg7 arg8 harg8 arg9 harg9 arg10 harg10 x0 x1 x2 v1 H4 H0 H1 H2).1 ++ H4)
/-- Everything written to the carried sums when the loops are done. -/
def listR := (loopB c i arg3 harg3 arg4 harg4 arg5 harg5 arg6 harg6 arg7 harg7 arg8 harg8 arg9 harg9 arg10 harg10 x0 x1 x2 w v1 H4 H0 H1 H2).2.1 ++ ((loopA c i arg3 harg3 arg4 harg4 arg5 harg5 arg6 harg6 arg7 harg7 arg8 harg8 arg9 harg9 arg10 harg10 x0 x1 x2 v1 H4 H0 H1 H2).2.1 ++ H0)
/-- Everything written to the second scores when the loops are done. -/
def listZ := (loopB c i arg3 harg3 arg4 harg4 arg5 harg5 arg6 harg6 arg7 harg7 arg8 harg8 arg9 harg9 arg10 harg10 x0 x1 x2 w v1 H4 H0 H1 H2).2.2.2 ++ ((loopA c i arg3 harg3 arg4 harg4 arg5 harg5 arg6 harg6 arg7 harg7 arg8 harg8 arg9 harg9 arg10 harg10 x0 x1 x2 v1 H4 H0 H1 H2).2.2.2 ++ H2)

end Any

variable (x3 : Vec F S256x256 .bf16)

theorem even_list (hc0 : ¬cond0_0 i) (f7 : BufTy.Contents (Elt F) arg7.view.ty) (f8 : BufTy.Contents (Elt F) arg8.view.ty) (f9 : BufTy.Contents (Elt F) arg9.view.ty) (f10 : BufTy.Contents (Elt F) arg10.view.ty) :
    (evenRun c i arg3 harg3 arg4 harg4 arg5 harg5 arg6 harg6 arg7 harg7 arg8 harg8 arg9 harg9 arg10 harg10 hc0 x0 x1 x2 x3).1 f7 f8 f9 f10 = arg7.view.writes (Elt F) arg7.view.junk (listO c i arg3 harg3 arg4 harg4 arg5 harg5 arg6 harg6 arg7 harg7 arg8 harg8 arg9 harg9 arg10 harg10 x0 x1 x2 (evenRun.sl.v436 i) (evenRun.sl.v1 c arg6 harg6 x3) (evenRun.sl.H4_8 c i arg3 harg3 arg4 harg4 arg5 harg5 arg6 harg6 arg9 x0 x1 x2 x3) (evenRun.sl.HS0_8 c i arg3 harg3 arg4 harg4 arg6 harg6 arg9 x0 x1 x3) (evenRun.sl.HS1_8 c i arg3 harg3 arg4 harg4 x0 x1) (evenRun.sl.HS2_8 c i arg3 harg3 arg4 harg4 x0 x1)) := by
  unfold evenRun listO loopB loopA
  rfl

set_option maxHeartbeats 8000000 in
theorem odd_list (hc0 : cond0_0 i) (f7 : BufTy.Contents (Elt F) arg7.view.ty) (f8 : BufTy.Contents (Elt F) arg8.view.ty) (f9 : BufTy.Contents (Elt F) arg9.view.ty) (f10 : BufTy.Contents (Elt F) arg10.view.ty) :
    (oddRun c i arg3 harg3 arg4 harg4 arg5 harg5 arg6 harg6 arg7 harg7 arg8 harg8 arg9 harg9 arg10 harg10 hc0 x0 x1 x2 x3).1 f7 f8 f9 f10 = arg7.view.writes (Elt F) arg7.view.junk
      (heads oRect (outF (oddRun.sl.v1 c arg6 harg6 x3) x2 0 (headZ (arg10.view.read (Elt F) (arg10.view.writes (Elt F) arg10.view.junk (listZ c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1))))) (headO (arg7.view.read (Elt F) (arg7.view.writes (Elt F) arg7.view.junk (listO c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1))))) (headR (arg8.view.read (Elt F) (arg8.view.writes (Elt F) arg8.view.junk (listR c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1)))))) ++ listO c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1)) := by
  generalize hZ : (headZ (arg10.view.read (Elt F) (arg10.view.writes (Elt F) arg10.view.junk (listZ c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1))))) = Z
  generalize hO : (headO (arg7.view.read (Elt F) (arg7.view.writes (Elt F) arg7.view.junk (listO c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1))))) = O
  generalize hR : (headR (arg8.view.read (Elt F) (arg8.view.writes (Elt F) arg8.view.junk (listR c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1))))) = R
  have cZ : ∀ h : Fin 8, arg10.view.readCov (listZ c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1)) (zRect h).toLoadRect = Z h := fun h => congrFun hZ h
  have cO : ∀ h : Fin 8, arg7.view.readCov (listO c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1)) (oRect h).toLoadRect = O h := fun h => congrFun hO h
  have cR : ∀ h : Fin 8, arg8.view.readCov (listR c i arg3 harg3 arg4 harg4 arg5 harg5 arg6 harg6 arg7 harg7 arg8 harg8 arg9 harg9 arg10 harg10 x0 x1 x2 (oddRun.sl.v436 i) (oddRun.sl.v1 c arg6 harg6 x3) (oddRun.sl.H4_8 c i arg3 harg3 arg4 harg4 arg5 harg5 arg6 harg6 arg9 x0 x1 x2 x3) (oddRun.sl.HS0_8 c i arg3 harg3 arg4 harg4 arg6 harg6 arg9 x0 x1 x3) (oddRun.sl.HS1_8 c i arg3 harg3 arg4 harg4 x0 x1) (oddRun.sl.HS2_8 c i arg3 harg3 arg4 harg4 x0 x1)) (rRect h).toLoadRect = R h := fun h => congrFun hR h
  clear hZ hO hR
  unfold listZ loopB loopA at cZ
  unfold listO loopB loopA at cO
  unfold listR loopB loopA at cR
  have cV : ∀ h : Fin 8, arg5.view.readAt (Elt F) (vRect h 0).toLoadRect (harg5.unread x2) = blkV x2 h 0 := fun h => congrArg (fun x => blkV x h 0) (harg5.read_unread x2)
  unfold oddRun listO loopB loopA
  dsimp only
  refine congrArg (arg7.view.writes (Elt F) arg7.view.junk) ?_
  refine heads_congr (Val := Elt F) (e := .f32) oRect (P := outF (oddRun.sl.v1 c arg6 harg6 x3) x2 0 Z O R) ?_ ?_ ?_ ?_ ?_ ?_ ?_ ?_ rfl
  · refine outV_congr (F := F) (z := (oddRun.sl.v523 c i arg3 harg3 arg4 harg4 arg5 harg5 arg6 harg6 arg7 harg7 arg8 harg8 arg9 harg9 arg10 harg10 x0 x1 x2 x3)) (o := (oddRun.sl.v637 c i arg3 harg3 arg4 harg4 arg5 harg5 arg6 harg6 arg7 harg7 arg8 harg8 arg9 harg9 arg10 harg10 x0 x1 x2 x3)) (r := (oddRun.sl.v635 c i arg3 harg3 arg4 harg4 arg5 harg5 arg6 harg6 arg7 harg7 arg8 harg8 arg9 harg9 arg10 harg10 x0 x1 x2 x3)) (cV 0) ?_ ?_ ?_
    · unfold oddRun.sl.v523; exact cZ 0
    · unfold oddRun.sl.v637 ; exact cO 0
    · unfold oddRun.sl.v635 ; exact cR 0
  · refine outV_congr (F := F) (z := (oddRun.sl.v534 c i arg3 harg3 arg4 harg4 arg5 harg5 arg6 harg6 arg7 harg7 arg8 harg8 arg9 harg9 arg10 harg10 x0 x1 x2 x3)) (o := (oddRun.sl.v663 c i arg3 harg3 arg4 harg4 arg5 harg5 arg6 harg6 arg7 harg7 arg8 harg8 arg9 harg9 arg10 harg10 x0 x1 x2 x3)) (r := (oddRun.sl.v661 c i arg3 harg3 arg4 harg4 arg5 harg5 arg6 harg6 arg7 harg7 arg8 harg8 arg9 harg9 arg10 harg10 x0 x1 x2 x3)) (cV 1) ?_ ?_ ?_
    · unfold oddRun.sl.v534; exact cZ 1
    · unfold oddRun.sl.v663 oddRun.sl.H4_1; exact (View.readCov_skip _ _ _ _ _ (by decide)).trans <| cO 1
    · unfold oddRun.sl.v661 oddRun.sl.HS0_1; exact (View.readCov_skip _ _ _ _ _ (by decide)).trans <| cR 1
  · refine outV_congr (F := F) (z := (oddRun.sl.v545 c i arg3 harg3 arg4 harg4 arg5 harg5 arg6 harg6 arg7 harg7 arg8 harg8 arg9 harg9 arg10 harg10 x0 x1 x2 x3)) (o := (oddRun.sl.v689 c i arg3 harg3 arg4 harg4 arg5 harg5 arg6 harg6 arg7 harg7 arg8 harg8 arg9 harg9 arg10 harg10 x0 x1 x2 x3)) (r := (oddRun.sl.v687 c i arg3 harg3 arg4 harg4 arg5 harg5 arg6 harg6 arg7 harg7 arg8 harg8 arg9 harg9 arg10 harg10 x0 x1 x2 x3)) (cV 2) ?_ ?_ ?_
    · unfold oddRun.sl.v545; exact cZ 2
    · unfold oddRun.sl.v689 oddRun.sl.H4_2 oddRun.sl.H4_1; exact (View.readCov_skip _ _ _ _ _ (by decide)).trans <| (View.readCov_skip _ _ _ _ _ (by decide)).trans <| cO 2
    · unfold oddRun.sl.v687 oddRun.sl.HS0_2 oddRun.sl.HS0_1; exact (View.readCov_skip _ _ _ _ _ (by decide)).trans <| (View.readCov_skip _ _ _ _ _ (by decide)).trans <| cR 2
  · refine outV_congr (F := F) (z := (oddRun.sl.v556 c i arg3 harg3 arg4 harg4 arg5 harg5 arg6 harg6 arg7 harg7 arg8 harg8 arg9 harg9 arg10 harg10 x0 x1 x2 x3)) (o := (oddRun.sl.v715 c i arg3 harg3 arg4 harg4 arg5 harg5 arg6 harg6 arg7 harg7 arg8 harg8 arg9 harg9 arg10 harg10 x0 x1 x2 x3)) (r := (oddRun.sl.v713 c i arg3 harg3 arg4 harg4 arg5 harg5 arg6 harg6 arg7 harg7 arg8 harg8 arg9 harg9 arg10 harg10 x0 x1 x2 x3)) (cV 3) ?_ ?_ ?_
    · unfold oddRun.sl.v556; exact cZ 3
    · unfold oddRun.sl.v715 oddRun.sl.H4_3 oddRun.sl.H4_2 oddRun.sl.H4_1; exact (View.readCov_skip _ _ _ _ _ (by decide)).trans <| (View.readCov_skip _ _ _ _ _ (by decide)).trans <| (View.readCov_skip _ _ _ _ _ (by decide)).trans <| cO 3
    · unfold oddRun.sl.v713 oddRun.sl.HS0_3 oddRun.sl.HS0_2 oddRun.sl.HS0_1; exact (View.readCov_skip _ _ _ _ _ (by decide)).trans <| (View.readCov_skip _ _ _ _ _ (by decide)).trans <| (View.readCov_skip _ _ _ _ _ (by decide)).trans <| cR 3
  · refine outV_congr (F := F) (z := (oddRun.sl.v567 c i arg3 harg3 arg4 harg4 arg5 harg5 arg6 harg6 arg7 harg7 arg8 harg8 arg9 harg9 arg10 harg10 x0 x1 x2 x3)) (o := (oddRun.sl.v741 c i arg3 harg3 arg4 harg4 arg5 harg5 arg6 harg6 arg7 harg7 arg8 harg8 arg9 harg9 arg10 harg10 x0 x1 x2 x3)) (r := (oddRun.sl.v739 c i arg3 harg3 arg4 harg4 arg5 harg5 arg6 harg6 arg7 harg7 arg8 harg8 arg9 harg9 arg10 harg10 x0 x1 x2 x3)) (cV 4) ?_ ?_ ?_
    · unfold oddRun.sl.v567; exact cZ 4
    · unfold oddRun.sl.v741 oddRun.sl.H4_4 oddRun.sl.H4_3 oddRun.sl.H4_2 oddRun.sl.H4_1; exact (View.readCov_skip _ _ _ _ _ (by decide)).trans <| (View.readCov_skip _ _ _ _ _ (by decide)).trans <| (View.readCov_skip _ _ _ _ _ (by decide)).trans <| (View.readCov_skip _ _ _ _ _ (by decide)).trans <| cO 4
    · unfold oddRun.sl.v739 oddRun.sl.HS0_4 oddRun.sl.HS0_3 oddRun.sl.HS0_2 oddRun.sl.HS0_1; exact (View.readCov_skip _ _ _ _ _ (by decide)).trans <| (View.readCov_skip _ _ _ _ _ (by decide)).trans <| (View.readCov_skip _ _ _ _ _ (by decide)).trans <| (View.readCov_skip _ _ _ _ _ (by decide)).trans <| cR 4
  · refine outV_congr (F := F) (z := (oddRun.sl.v578 c i arg3 harg3 arg4 harg4 arg5 harg5 arg6 harg6 arg7 harg7 arg8 harg8 arg9 harg9 arg10 harg10 x0 x1 x2 x3)) (o := (oddRun.sl.v767 c i arg3 harg3 arg4 harg4 arg5 harg5 arg6 harg6 arg7 harg7 arg8 harg8 arg9 harg9 arg10 harg10 x0 x1 x2 x3)) (r := (oddRun.sl.v765 c i arg3 harg3 arg4 harg4 arg5 harg5 arg6 harg6 arg7 harg7 arg8 harg8 arg9 harg9 arg10 harg10 x0 x1 x2 x3)) (cV 5) ?_ ?_ ?_
    · unfold oddRun.sl.v578; exact cZ 5
    · unfold oddRun.sl.v767 oddRun.sl.H4_5 oddRun.sl.H4_4 oddRun.sl.H4_3 oddRun.sl.H4_2 oddRun.sl.H4_1; exact (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| cO 5
    · unfold oddRun.sl.v765 oddRun.sl.HS0_5 oddRun.sl.HS0_4 oddRun.sl.HS0_3 oddRun.sl.HS0_2 oddRun.sl.HS0_1; exact (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| cR 5
  · refine outV_congr (F := F) (z := (oddRun.sl.v589 c i arg3 harg3 arg4 harg4 arg5 harg5 arg6 harg6 arg7 harg7 arg8 harg8 arg9 harg9 arg10 harg10 x0 x1 x2 x3)) (o := (oddRun.sl.v793 c i arg3 harg3 arg4 harg4 arg5 harg5 arg6 harg6 arg7 harg7 arg8 harg8 arg9 harg9 arg10 harg10 x0 x1 x2 x3)) (r := (oddRun.sl.v791 c i arg3 harg3 arg4 harg4 arg5 harg5 arg6 harg6 arg7 harg7 arg8 harg8 arg9 harg9 arg10 harg10 x0 x1 x2 x3)) (cV 6) ?_ ?_ ?_
    · unfold oddRun.sl.v589; exact cZ 6
    · unfold oddRun.sl.v793 oddRun.sl.H4_6 oddRun.sl.H4_5 oddRun.sl.H4_4 oddRun.sl.H4_3 oddRun.sl.H4_2 oddRun.sl.H4_1; exact (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| cO 6
    · unfold oddRun.sl.v791 oddRun.sl.HS0_6 oddRun.sl.HS0_5 oddRun.sl.HS0_4 oddRun.sl.HS0_3 oddRun.sl.HS0_2 oddRun.sl.HS0_1; exact (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| cR 6
  · refine outV_congr (F := F) (z := (oddRun.sl.v600 c i arg3 harg3 arg4 harg4 arg5 harg5 arg6 harg6 arg7 harg7 arg8 harg8 arg9 harg9 arg10 harg10 x0 x1 x2 x3)) (o := (oddRun.sl.v819 c i arg3 harg3 arg4 harg4 arg5 harg5 arg6 harg6 arg7 harg7 arg8 harg8 arg9 harg9 arg10 harg10 x0 x1 x2 x3)) (r := (oddRun.sl.v817 c i arg3 harg3 arg4 harg4 arg5 harg5 arg6 harg6 arg7 harg7 arg8 harg8 arg9 harg9 arg10 harg10 x0 x1 x2 x3)) (cV 7) ?_ ?_ ?_
    · unfold oddRun.sl.v600; exact cZ 7
    · unfold oddRun.sl.v819 oddRun.sl.H4_7 oddRun.sl.H4_6 oddRun.sl.H4_5 oddRun.sl.H4_4 oddRun.sl.H4_3 oddRun.sl.H4_2 oddRun.sl.H4_1; exact (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| cO 7
    · unfold oddRun.sl.v817 oddRun.sl.HS0_7 oddRun.sl.HS0_6 oddRun.sl.HS0_5 oddRun.sl.HS0_4 oddRun.sl.HS0_3 oddRun.sl.HS0_2 oddRun.sl.HS0_1; exact (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| cR 7

end Lists

end Cert.KernelIdeal.Hand

end
-- ==== Proof.BodyValue.lean ====
module

public import proofs.«01_k».proof.Proof.BodyList

@[expose] public section

set_option maxRecDepth 16384

noncomputable section

namespace Cert.KernelIdeal.Hand

open Idealize.ShloMosaic Idealize.SL.Sem
open Cert.KernelIdeal.Gen

/-! Over the extended reals the output block holds, of every head, all the keys that each query sees. -/

variable (c : Dev nD) (i : grid0.Coords) (arg3 : Memref sig .tc .vmem S1x8x128x256 .bf16) (harg3 : arg3.IsWhole) (arg4 : Memref sig .tc .vmem S1x8x32x256x128 .bf16) (harg4 : arg4.IsWhole) (arg5 : Memref sig .tc .vmem S1x8x32x64x256 .bf16) (harg5 : arg5.IsWhole) (arg6 : Memref sig .tc .vmem S256x256 .bf16) (harg6 : arg6.IsWhole) (arg7 : Memref sig .tc .vmem S1x8x64x256 .f32) (harg7 : arg7.IsWhole) (arg8 : Memref sig .tc .vmem S8x1x256 .f32) (harg8 : arg8.IsWhole) (arg9 : Memref sig .tc .vmem S8x256x256 .f32) (harg9 : arg9.IsWhole) (arg10 : Memref sig .tc .vmem S8x256x256 .f32) (harg10 : arg10.IsWhole)
    (x0 : Vec Ideal S1x8x128x256 .bf16) (x1 : Vec Ideal S1x8x32x256x128 .bf16) (x2 : Vec Ideal S1x8x32x64x256 .bf16) (x3 : Vec Ideal S256x256 .bf16)

theorem isTri_v1 (h : IsTri x3) : IsTri (evenRun.sl.v1 c arg6 harg6 x3) := by
  have e : (evenRun.sl.v1 c arg6 harg6 x3) = x3 := by
    unfold evenRun.sl.v1
    rw [show View.readAt (Elt Ideal) arg6.view (Rect.unit ![0, 0] S256x256.size inb_S256x256_S256x256_0_0).toLoadRect (harg6.unread x3)
      = fun y => x3 ((Rect.unit (s := S256x256) ![0, 0] S256x256.size inb_S256x256_S256x256_0_0).emb y) from
        congrArg (fun x : Vec Ideal S256x256 .bf16 => fun y => x ((Rect.unit (s := S256x256) ![0, 0] S256x256.size inb_S256x256_S256x256_0_0).emb y)) (harg6.read_unread x3)]
    funext y
    rw [shapeCast_self]
    exact congrArg x3 (funext fun a => Fin.ext ((emb_val _ _ _).trans (by fin_cases a <;> simp [Rect.unit])))
  rw [e]; exact h

set_option maxHeartbeats 4000000 in
/-- The state when the loops are done. -/
theorem loop_end (h1 : IsTri (evenRun.sl.v1 c arg6 harg6 x3)) (hs : Small x1 x0) :
    IsO x1 x2 x0 (i 2).val ((i 2).val - 2 * ((i 2).val / 2)) (headO (arg7.view.read (Elt Ideal) (arg7.view.writes (Elt Ideal) arg7.view.junk (listO c i arg3 harg3 arg4 harg4 arg5 harg5 arg6 harg6 arg7 harg7 arg8 harg8 arg9 harg9 arg10 harg10 x0 x1 x2 (evenRun.sl.v436 i) (evenRun.sl.v1 c arg6 harg6 x3) (evenRun.sl.H4_8 c i arg3 harg3 arg4 harg4 arg5 harg5 arg6 harg6 arg9 x0 x1 x2 x3) (evenRun.sl.HS0_8 c i arg3 harg3 arg4 harg4 arg6 harg6 arg9 x0 x1 x3) (evenRun.sl.HS1_8 c i arg3 harg3 arg4 harg4 x0 x1) (evenRun.sl.HS2_8 c i arg3 harg3 arg4 harg4 x0 x1)))))
    ∧ IsR x1 x0 (i 2).val ((i 2).val - 2 * ((i 2).val / 2)) (headR (arg8.view.read (Elt Ideal) (arg8.view.writes (Elt Ideal) arg8.view.junk (listR c i arg3 harg3 arg4 harg4 arg5 harg5 arg6 harg6 arg7 harg7 arg8 harg8 arg9 harg9 arg10 harg10 x0 x1 x2 (evenRun.sl.v436 i) (evenRun.sl.v1 c arg6 harg6 x3) (evenRun.sl.H4_8 c i arg3 harg3 arg4 harg4 arg5 harg5 arg6 harg6 arg9 x0 x1 x2 x3) (evenRun.sl.HS0_8 c i arg3 harg3 arg4 harg4 arg6 harg6 arg9 x0 x1 x3) (evenRun.sl.HS1_8 c i arg3 harg3 arg4 harg4 x0 x1) (evenRun.sl.HS2_8 c i arg3 harg3 arg4 harg4 x0 x1)))))
    ∧ IsZ x1 x0 ((i 2).val - 1 - 2 * ((i 2).val / 2)) (headZ (arg10.view.read (Elt Ideal) (arg10.view.writes (Elt Ideal) arg10.view.junk (listZ c i arg3 harg3 arg4 harg4 arg5 harg5 arg6 harg6 arg7 harg7 arg8 harg8 arg9 harg9 arg10 harg10 x0 x1 x2 (evenRun.sl.v436 i) (evenRun.sl.v1 c arg6 harg6 x3) (evenRun.sl.H4_8 c i arg3 harg3 arg4 harg4 arg5 harg5 arg6 harg6 arg9 x0 x1 x2 x3) (evenRun.sl.HS0_8 c i arg3 harg3 arg4 harg4 arg6 harg6 arg9 x0 x1 x3) (evenRun.sl.HS1_8 c i arg3 harg3 arg4 harg4 x0 x1) (evenRun.sl.HS2_8 c i arg3 harg3 arg4 harg4 x0 x1))))) := by
  have ht : Scf.trips (k0_t1_loop i).lb (k0_t1_loop i).ub (k0_t1_loop i).st = (i 2).val / 2 := trips_t1 i
  obtain ⟨j, hj⟩ : ∃ j : Fin 32, j.val = (i 2).val - 1 := ⟨⟨(i 2).val - 1, by have := (i 2).isLt; change (i 2).val < 32 at this; omega⟩, rfl⟩
  unfold listO listR listZ
  rw [loopB_nil]
  simp only [List.nil_append, View.writes_append]
  unfold loopA
  rw [ht]
  refine loopInv x1 x2 x0 (evenRun.sl.v1 c arg6 harg6 x3) Variants.none c none i arg3 harg3 arg4 harg4 arg5 harg5 arg6 harg6 arg7 harg7 arg8 harg8 arg9 harg9 arg10 harg10 (BitVec.ofNat 32 (i 2).val) (harg3.unread x0) (harg4.unread x1) (harg5.unread x2) _ _ _ _
    h1 (harg4.read_unread x1) (harg5.read_unread x2) (harg3.read_unread x0) hs ?_ ?_ ?_ _ le_rfl
  · rw [diag_out, headO_writes]; exact isO_diag x1 x2 x0 _ h1 hs (i 2) _ (isZ_score x1 x0 (i 2))
  · rw [diag_carry, headR_writes]; exact isR_diag x1 x0 _ h1 hs (i 2).val _ (isZ_score x1 x0 (i 2))
  · rw [next_scores c i arg3 harg3 arg4 harg4 x0 x1 j hj, headZ_writes, ← hj]; exact isZ_score x1 x0 j

theorem even_value (hc0 : ¬cond0_0 i) (hp : (i 2).val % 2 = 0) (h1 : IsTri x3) (hs : Small x1 x0) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) :
    IsO x1 x2 x0 (i 2).val 0 (headO (arg7.view.read (Elt Ideal) ((evenRun (F := Ideal) c i arg3 harg3 arg4 harg4 arg5 harg5 arg6 harg6 arg7 harg7 arg8 harg8 arg9 harg9 arg10 harg10 hc0 x0 x1 x2 x3).1 f7 f8 f9 f10))) := by
  rw [even_list]
  have e := (loop_end c i arg3 harg3 arg4 harg4 arg5 harg5 arg6 harg6 arg7 harg7 arg8 harg8 arg9 harg9 arg10 harg10 x0 x1 x2 x3 (isTri_v1 c arg6 harg6 x3 h1) hs).1
  rwa [show (i 2).val - 2 * ((i 2).val / 2) = 0 by omega] at e

theorem odd_value (hc0 : cond0_0 i) (hp : (i 2).val % 2 = 1) (h1 : IsTri x3) (hs : Small x1 x0) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) :
    IsO x1 x2 x0 (i 2).val 0 (headO (arg7.view.read (Elt Ideal) ((oddRun (F := Ideal) c i arg3 harg3 arg4 harg4 arg5 harg5 arg6 harg6 arg7 harg7 arg8 harg8 arg9 harg9 arg10 harg10 hc0 x0 x1 x2 x3).1 f7 f8 f9 f10))) := by
  have h1' := isTri_v1 c arg6 harg6 x3 h1
  obtain ⟨eO, eR, eZ⟩ := loop_end c i arg3 harg3 arg4 harg4 arg5 harg5 arg6 harg6 arg7 harg7 arg8 harg8 arg9 harg9 arg10 harg10 x0 x1 x2 x3 h1' hs
  rw [show (i 2).val - 2 * ((i 2).val / 2) = (0 : Fin 32).val + 1 by show _ = 0 + 1; omega] at eO eR
  rw [show (i 2).val - 1 - 2 * ((i 2).val / 2) = (0 : Fin 32).val by show _ = 0; omega] at eZ
  rw [odd_list, odd_v1, odd_scores, odd_next, odd_out, odd_carry, headO_writes]
  exact isO_step x1 x2 x0 _ h1' hs (i 2).val 0 (by show 0 + 1 ≤ _; omega) _ _ _ eZ eO eR

end Cert.KernelIdeal.Hand

end
-- ==== Proof.KernelValue.lean ====
module

public import proofs.«01_k».proof.Proof.Attend
public import proofs.«01_k».proof.Proof.BodyValue
public import proofs.«01_k».proof.Proof.KernelIdealFrame
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal.Gen Cert.Attn

/-! The kernel's result array: the attention of every query. -/

variable (m : (ℓ : Loc nD τ sig) → Buf (Elt Ideal) ℓ) (c : Dev nD)

/-- The array of queries; -/
abbrev argQ : Vec Ideal S2x8x128x8192 .bf16 := m ((c.tc : Thread nD τ).loc main_arg0)
/-- of keys; -/
abbrev argK : Vec Ideal S2x8x32x256x128 .bf16 := m ((c.tc : Thread nD τ).loc main_arg1)
/-- of values. -/
abbrev argV : Vec Ideal S2x8x32x64x256 .bf16 := m ((c.tc : Thread nD τ).loc main_arg2)

theorem mod_eq : ∀ t : Fin cfg0.N, ((grid0.coords t) 2).val % 2 = t.val % 2 := by decide +kernel
theorem idx0_0 : ∀ t : Fin cfg0.N, win0_0.index t = ![((grid0.coords t) 0).val, 0, 0, ((grid0.coords t) 2).val] := by decide +kernel
theorem idx0_1 : ∀ t : Fin cfg0.N, win0_1.index t = ![((grid0.coords t) 0).val, 0, 0, 0, 0] := by decide +kernel
theorem idx0_2 : ∀ t : Fin cfg0.N, win0_2.index t = ![((grid0.coords t) 0).val, 0, 0, 0, 0] := by decide +kernel
theorem idx0_3 : ∀ t : Fin cfg0.N, win0_3.index t = ![0, 0] := by decide +kernel
theorem idx0_4 : ∀ t : Fin cfg0.N, win0_4.index t = ![((grid0.coords t) 0).val, 0, 0, ((grid0.coords t) 2).val] := by decide +kernel

/-- The batch that a grid point works at, -/
def bat (t : Fin cfg0.N) : Fin 2 := (grid0.coords t) 0
/-- and its query `τ`. -/
def qry (t : Fin cfg0.N) (τ : Fin 256) : Fin 8192 := ⟨256 * ((grid0.coords t) 2).val + τ.val, by have : ((grid0.coords t) 2).val < 32 := ((grid0.coords t) 2).isLt; omega⟩

theorem q_blk (t : Fin cfg0.N) (h : Fin 8) (d : Fin 128) (τ : Fin 256) :
    (iblk m c 0 t : Vec Ideal S1x8x128x256 .bf16) (ix4 0 h d τ) = argQ m c (ix4 (bat t) h d (qry t τ)) := by
  refine (congrFun (V_main_arg0 m c) _).trans (congrArg (argQ m c) (funext fun a => Fin.ext ?_))
  match a with
  | ⟨0, _⟩ => blk_simp [idx0_0]; show _ + 0 = _; rfl
  | ⟨1, _⟩ => blk_simp [idx0_0]
  | ⟨2, _⟩ => blk_simp [idx0_0]
  | ⟨3, _⟩ => blk_simp [idx0_0]; show _ * 256 + _ = _; rw [Nat.mul_comm]; rfl

theorem k_blk (t : Fin cfg0.N) (h : Fin 8) (j : Fin 32) (k : Fin 256) (d : Fin 128) :
    (iblk m c 1 t : Vec Ideal S1x8x32x256x128 .bf16) (ix5 0 h j k d) = argK m c (ix5 (bat t) h j k d) := by
  refine (congrFun (V_main_arg1 m c) _).trans (congrArg (argK m c) (funext fun a => Fin.ext ?_))
  match a with
  | ⟨0, _⟩ => blk_simp [idx0_1]; show _ + 0 = _; rfl
  | ⟨1, _⟩ => blk_simp [idx0_1]
  | ⟨2, _⟩ => blk_simp [idx0_1]
  | ⟨3, _⟩ => blk_simp [idx0_1]
  | ⟨4, _⟩ => blk_simp [idx0_1]

theorem v_blk (t : Fin cfg0.N) (h : Fin 8) (j : Fin 32) (d : Fin 64) (k : Fin 256) :
    (iblk m c 2 t : Vec Ideal S1x8x32x64x256 .bf16) (ix5 0 h j d k) = argV m c (ix5 (bat t) h j d k) := by
  refine (congrFun (V_main_arg2 m c) _).trans (congrArg (argV m c) (funext fun a => Fin.ext ?_))
  match a with
  | ⟨0, _⟩ => blk_simp [idx0_2]; show _ + 0 = _; rfl
  | ⟨1, _⟩ => blk_simp [idx0_2]
  | ⟨2, _⟩ => blk_simp [idx0_2]
  | ⟨3, _⟩ => blk_simp [idx0_2]
  | ⟨4, _⟩ => blk_simp [idx0_2]

theorem zf_eq (t : Fin cfg0.N) (h : Fin 8) (τ : Fin 256) :
    zf (iblk m c 1 t) (iblk m c 0 t) h τ = zA (argQ m c) (argK m c) (bat t) h (qry t τ) := by
  funext s
  unfold zf zA
  split
  · exact Finset.sum_congr rfl fun d _ => congrArg₂ (fun x y : EReal => x * y) (k_blk m c t h _ _ d) (q_blk m c t h d τ)
  · rfl

theorem vf_eq (t : Fin cfg0.N) (h : Fin 8) (d : Fin 64) : vf (iblk m c 2 t) h d = vA (argV m c) (bat t) h d := by
  funext s
  unfold vf vA
  split
  · exact v_blk m c t h _ d _
  · rfl

theorem tri_host (y : S256x256.Idx) : (V m c main_v7 : Vec Ideal S256x256 .bf16) y = if (y 0).val ≤ (y 1).val then (1 : EReal) else 0 := by
  entry_read
  obtain ⟨a, b, rfl⟩ : ∃ a b, y = ix2 a b := ⟨y 0, y 1, eq_ix2 y⟩
  pointwise
  rw [WordCmp.cmpi_sge_ofNat (by omega) (by omega)]
  show ((((BitVec.ofBool (decide (a.val ≤ b.val))).toNat : ℝ)) : EReal) = _
  by_cases h : a.val ≤ b.val
  · refine Eq.trans ?_ (if_pos h).symm
    rw [decide_eq_true h]; simp
  · refine Eq.trans ?_ (if_neg h).symm
    rw [decide_eq_false h]; simp

theorem tri (t : Fin cfg0.N) : IsTri (iblk m c 3 t) := by
  intro a b
  refine (tri_host m c _).trans ?_
  have e : ∀ a' : Fin 2, (((win0_3.blk t).view.emb (ix2 a b)) a' : ℕ) = (ix2 a b : S256x256.Idx) a' := fun a' => by
    match a' with
    | ⟨0, _⟩ => blk_simp [idx0_3]
    | ⟨1, _⟩ => blk_simp [idx0_3]
  exact if_congr (by rw [e 0, e 1]; rfl) rfl rfl

theorem out_blk (hs : AtMost100 (argQ m c) (argK m c)) (t : Fin cfg0.N) (h : Fin 8) (d : Fin 64) (τ : Fin 256) :
    outBlk m c t (ix4 0 h d τ) = attend (argQ m c) (argK m c) (argV m c) (bat t) h d (qry t τ) := by
  have hsm : Small (iblk m c 1 t) (iblk m c 0 t) := fun h τ s => by rw [zf_eq]; exact hs _ _ _ _
  have hO : IsO (iblk m c 1 t) (iblk m c 2 t) (iblk m c 0 t) ((grid0.coords t) 2).val 0 (headO (outBlk m c t)) := by
    unfold outBlk
    split
    next hp => exact odd_value c (grid0.coords t) _ _ _ _ _ _ _ _ _ _ _ _ _ _ _ _ _ _ _ _ _ ((mod_eq t).trans hp) (tri m c t) hsm _ _ _ _
    next hp => exact even_value c (grid0.coords t) _ _ _ _ _ _ _ _ _ _ _ _ _ _ _ _ _ _ _ _ _ ((mod_eq t).trans (by omega)) (tri m c t) hsm _ _ _ _
  have e := hO h d τ
  rw [headO, oRect_emb, zf_eq, vf_eq] at e
  rw [e, attend]
  have h2 : ((grid0.coords t) 2).val < 32 := ((grid0.coords t) 2).isLt
  exact (part_stop _ _ _ (b := 256 * (((grid0.coords t) 2).val + 1)) (by show 256 * _ + τ.val ≤ _; omega) (by omega)).symm

/-- The result array. -/
def result : Vec Ideal S2x8x64x8192 .f32 := fun y => attend (argQ m c) (argK m c) (argV m c) (y 0) (y 1) (y 2) (y 3)

theorem arr_eq (hs : AtMost100 (argQ m c) (argK m c)) : (dats m 0 c).arrAt 4 cfg0.N = result m c := by
  refine (dats m 0 c).arrAt_eq_of_covers 4 _ (by decide +kernel) fun t hf y => ?_
  blk_simp
  rw [after0_4]
  obtain ⟨z, h, d, τ, rfl⟩ : ∃ (z : Fin 1) (h : Fin 8) (d : Fin 64) (τ : Fin 256), y = (ix4 z h d τ : S1x8x64x256.Idx) := ⟨y 0, y 1, y 2, y 3, eq_ix4 y⟩
  obtain rfl : z = 0 := Subsingleton.elim _ _
  refine (out_blk m c hs t h d τ).trans ?_
  unfold result
  congr 1 <;> refine Fin.ext ?_
  · blk_simp [idx0_4]; show _ = _ + 0; rfl
  · blk_simp [idx0_4]
  · blk_simp [idx0_4]
  · blk_simp [idx0_4]; show _ = _ * 256 + _; rw [Nat.mul_comm]; rfl

/-- Every execution ends with the result array at the attention of every query. -/
theorem run_value (ρ : Dev nD → PrngReg) (hs : ∀ c : Dev nD, AtMost100 (argQ m c) (argK m c)) :
    θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 4).trans (arr_eq m c (hs c)), h.2 c⟩)
    (θ_run_and (run_main m ρ) (frame_of m ρ (dats m) (A_eq m) (run_main m ρ)))

end Cert.KernelIdeal.Hand

end
-- ==== Proof.RefValue.lean ====
module

public import proofs.«01_k».proof.Proof.Attend
public import proofs.«01_k».proof.Proof.Gen.ReferenceIdeal.Run
public import Idealize.ShloMosaic.Lib.WordCmp

@[expose] public section

set_option maxRecDepth 16384

noncomputable section

namespace Cert.ReferenceIdeal.Hand

open Idealize.ShloMosaic Idealize.ShloMosaic.TcCoe Idealize.SL.Sem
open Cert.ReferenceIdeal.Gen Cert.Attn

/-! The reference's result: the attention of every query. -/

/-- A sum over windows that reach from each element to the end of its row is the sum of the row from that element on. -/
theorem from_on {A B C N M : ℕ} (x : (⟨4, ![A, B, C, N]⟩ : Shape).Idx → EReal) (f : ℕ → EReal) (b : Fin A) (h : Fin B) (t : Fin C)
    (hx : ∀ u : Fin N, x (ix4 b h t u) = f u.val) (hw) (s : Fin N) :
    Ideal.hostReduceWindowAdd (s := ⟨4, ![A, B, C, N]⟩) ![1, 1, 1, N] ![1, 1, 1, 1] ![0, 0, 0, 0] ![0, 0, 0, M] (t := ⟨4, ![A, B, C, N]⟩) hw x 0 (ix4 b h t s)
      = ∑ u ∈ Finset.Ico s.val N, f u := by
  have hfold : ∀ (n : ℕ) (g : Fin n → EReal), (List.finRange n).foldl (fun r i => r + g i) 0 = ∑ i, g i := fun n g => by
    rw [Fin.sum_univ_def, List.sum_eq_foldl, List.foldl_map]
  let e : Fin N ≃ (⟨4, ![1, 1, 1, N]⟩ : Shape).Idx :=
    { toFun := fun k => ix4 (0 : Fin 1) (0 : Fin 1) (0 : Fin 1) k
      invFun := fun w => w 3
      left_inv := fun _ => rfl
      right_inv := fun w => funext fun a => Fin.ext (match a with
        | ⟨0, _⟩ => (Nat.lt_one_iff.1 (w 0).isLt).symm
        | ⟨1, _⟩ => (Nat.lt_one_iff.1 (w 1).isLt).symm
        | ⟨2, _⟩ => (Nat.lt_one_iff.1 (w 2).isLt).symm
        | ⟨3, _⟩ => rfl) }
  let W : Shape := ⟨4, ![1, 1, 1, N]⟩
  let F : W.Idx → EReal := fun w =>
    let p : Fin 4 → Nat := fun a => ((ix4 b h t s : (⟨4, ![A, B, C, N]⟩ : Shape).Idx) a).val * (![1, 1, 1, 1] : Fin 4 → Nat) a + (w a).val
    if hin : ∀ a, (![0, 0, 0, 0] : Fin 4 → Nat) a ≤ p a ∧ p a - (![0, 0, 0, 0] : Fin 4 → Nat) a < (![A, B, C, N] : Fin 4 → Nat) a then
      x (fun a => ⟨p a - (![0, 0, 0, 0] : Fin 4 → Nat) a, (hin a).2⟩) else 0
  have hF : ∀ k : Fin N, F (e k) = if s.val + k.val < N then f (s.val + k.val) else 0 := fun k => by
    by_cases hk : s.val + k.val < N
    · rw [if_pos hk]
      refine (dif_pos (fun a => ?_)).trans ?_
      · match a with
        | ⟨0, _⟩ => exact ⟨Nat.zero_le _, by show b.val * 1 + 0 - 0 < A; have := b.isLt; omega⟩
        | ⟨1, _⟩ => exact ⟨Nat.zero_le _, by show h.val * 1 + 0 - 0 < B; have := h.isLt; omega⟩
        | ⟨2, _⟩ => exact ⟨Nat.zero_le _, by show t.val * 1 + 0 - 0 < C; have := t.isLt; omega⟩
        | ⟨3, _⟩ => exact ⟨Nat.zero_le _, by show s.val * 1 + k.val - 0 < N; omega⟩
      · refine (congrArg x (funext fun a => Fin.ext ?_)).trans (hx ⟨s.val + k.val, hk⟩)
        match a with
        | ⟨0, _⟩ => show b.val * 1 + 0 - 0 = b.val; omega
        | ⟨1, _⟩ => show h.val * 1 + 0 - 0 = h.val; omega
        | ⟨2, _⟩ => show t.val * 1 + 0 - 0 = t.val; omega
        | ⟨3, _⟩ => show s.val * 1 + k.val - 0 = s.val + k.val; omega
    · rw [if_neg hk]
      refine dif_neg fun hin => hk ?_
      have h3 : s.val * 1 + k.val - 0 < N := (hin 3).2
      omega
  refine Eq.trans (b := (List.finRange W.numel).foldl (fun r n => r + F (W.rowMajor.symm n)) 0) (by
    unfold Ideal.hostReduceWindowAdd Host.reduceWindow
    refine congrArg (fun g => List.foldl g (0 : EReal) (List.finRange W.numel)) (funext fun r => funext fun n => congrArg (fun z => r + z) ?_)
    dsimp only [F]
    congr 1) ((hfold _ (fun n => F (W.rowMajor.symm n))).trans ?_)
  rw [Equiv.sum_comp W.rowMajor.symm F, ← Equiv.sum_comp e F, Finset.sum_congr rfl fun k _ => hF k,
    Fin.sum_univ_eq_sum_range (fun k => if s.val + k < N then f (s.val + k) else 0) N, ← Finset.sum_filter, Finset.sum_Ico_eq_sum_range]
  refine Finset.sum_congr ?_ fun _ _ => rfl
  ext k
  simp only [Finset.mem_filter, Finset.mem_range]
  omega

/-- The same, as the program writes it. -/
theorem from_on_host {A B C N M : ℕ} (x : FVec Ideal ⟨4, ![A, B, C, N]⟩ .f32) (f : ℕ → EReal) (b : Fin A) (h : Fin B) (t : Fin C)
    (hx : ∀ u : Fin N, x (ix4 b h t u) = f u.val) (init : FVec Ideal S_ .f32) (hi : ∀ i, init i = (0 : EReal)) (hw) (hu) (s : Fin N) :
    Host.reduceWindowAdd (s := ⟨4, ![A, B, C, N]⟩) ![1, 1, 1, N] ![1, 1, 1, 1] ![0, 0, 0, 0] ![0, 0, 0, M] (t := ⟨4, ![A, B, C, N]⟩) x init hw hu (ix4 b h t s)
      = ∑ u ∈ Finset.Ico s.val N, f u := by
  refine Eq.trans (b := Ideal.hostReduceWindowAdd (s := ⟨4, ![A, B, C, N]⟩) ![1, 1, 1, N] ![1, 1, 1, 1] ![0, 0, 0, 0] ![0, 0, 0, M] (t := ⟨4, ![A, B, C, N]⟩) hw x (init (Shape.Idx.first hu)) (ix4 b h t s)) rfl ?_
  rw [hi]
  exact from_on x f b h t hx hw s

theorem zero_bits : Ideal.ofBits .f32 0x00000000#32 = 0 := by
  simp [Ideal.ofBits, Ideal.ieee]

variable (m : (ℓ : Loc nD τ sig) → Buf (Elt Ideal) ℓ) (c : Dev nD)

/-- The array of queries; -/
abbrev argQ : FVec Ideal S2x8x128x8192 .bf16 := m ((c.tc : Thread nD τ).loc main_arg0)
/-- of keys; -/
abbrev argK : FVec Ideal S2x8x32x256x128 .bf16 := m ((c.tc : Thread nD τ).loc main_arg1)
/-- of values. -/
abbrev argV : FVec Ideal S2x8x32x64x256 .bf16 := m ((c.tc : Thread nD τ).loc main_arg2)

/-- Zero everywhere. -/
def zeros : FVec Ideal S2x8x8192x8192 .f32 := broadcastInDim S2x8x8192x8192 ![] bcast_S_S2x8x8192x8192 (constant S_ .f32 0x00000000#32)

/-- The reference's softplus. -/
def softV (x : FVec Ideal S2x8x8192x8192 .f32) : FVec Ideal S2x8x8192x8192 .f32 :=
  select (cmpf .une (subf x zeros) (subf x zeros)) (addf x zeros) (addf (maximumf x zeros) (Host.log1p (Host.exp (Host.negf (Host.absf (subf x zeros))))))

/-- The scores, in natural units. -/
def scores (q : FVec Ideal S2x8x128x8192 .bf16) (k : FVec Ideal S2x8x32x256x128 .bf16) : FVec Ideal S2x8x8192x8192 .f32 :=
  mulf (Host.dotGeneral dot_S2x8x8192x128_S2x8x8192x128_S2x8x8192x8192_3_3_2_2_01_01 none (transpose S2x8x8192x128 [0, 1, 3, 2] (extf .f32 q bitsLt_bf16_f32) transposes_S2x8x128x8192_S2x8x8192x128_0_1_3_2) (shapeCast _ (extf .f32 k bitsLt_bf16_f32) shapeCasts_S2x8x32x256x128_S2x8x8192x128))
    (broadcastInDim S2x8x8192x8192 ![] bcast_S_S2x8x8192x8192 (id (Host.log (constant S_ .f32 0x40000000#32))))

/-- The keys before each query. -/
def mask : IVec S2x8x8192x8192 1 :=
  broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The logarithms of what each query passes by. -/
def keep (z : FVec Ideal S2x8x8192x8192 .f32) : FVec Ideal S2x8x8192x8192 .f32 :=
  select mask (Host.negf (softV (Host.negf (Host.negf z)))) zeros

/-- Their sums from each key on. -/
def keepFrom (x : FVec Ideal S2x8x8192x8192 .f32) : FVec Ideal S2x8x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S2x8x8192x8192_S2x8x8192x8192_w1s1p0_0_w1s1p0_0_w1s1p0_0_w8192s1p0_8191 h_S_

/-- The weights. -/
def weights (z : FVec Ideal S2x8x8192x8192 .f32) : FVec Ideal S2x8x8192x8192 .f32 :=
  select mask (Host.exp (addf (Host.negf (softV (Host.negf z))) (subf (keepFrom (keep z)) (keep z)))) zeros

theorem res_eq : Value.res_out0 m c = Host.dotGeneral (F := Ideal) dot_S2x8x8192x64_S2x8x8192x8192_S2x8x64x8192_2_3_3_2_01_01 none
    (shapeCast _ (transpose S2x8x32x256x64 [0, 1, 2, 4, 3] (extf .f32 (argV m c) bitsLt_bf16_f32) transposes_S2x8x32x64x256_S2x8x32x256x64_0_1_2_4_3) shapeCasts_S2x8x32x256x64_S2x8x8192x64)
    (weights (scores (argQ m c) (argK m c))) := rfl

theorem zeros_at (y : S2x8x8192x8192.Idx) : zeros y = (0 : EReal) := by
  exact zero_bits

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h]
  exact if_neg (by norm_num)

theorem softV_at (x : FVec Ideal S2x8x8192x8192 .f32) (y : S2x8x8192x8192.Idx) : softV x y = splus (x y) := by
  unfold softV
  pointwise
  rw [if_neg (fun hne => hne rfl), zeros_at, sub_zero]
  rfl

theorem mask_at (b : Fin 2) (h : Fin 8) (t s : Fin 8192) : mask (ix4 b h t s) = BitVec.ofBool (decide (s.val < t.val)) := by
  unfold mask
  pointwise
  exact WordCmp.cmpi_slt_ofNat (by omega) (by omega)

theorem scores_at (q : FVec Ideal S2x8x128x8192 .bf16) (k : FVec Ideal S2x8x32x256x128 .bf16) (b : Fin 2) (h : Fin 8) (t s : Fin 8192) :
    scores q k (ix4 b h t s) = zA q k b h t s.val * ((Real.log 2 : ℝ) : EReal) := by
  unfold scores
  pointwise
  rw [show (id (Host.log (constant (F := Ideal) S_ .f32 0x40000000#32)) ix0 : EReal) = ((Real.log 2 : ℝ) : EReal) from log_two, zA, dif_pos s.isLt]
  exact congrArg (fun x : EReal => x * _) (Finset.sum_congr rfl fun d _ => mul_comm (G := EReal) _ _)

theorem keep_at (q : FVec Ideal S2x8x128x8192 .bf16) (k : FVec Ideal S2x8x32x256x128 .bf16) (b : Fin 2) (h : Fin 8) (t s : Fin 8192) :
    keep (scores q k) (ix4 b h t s) = logKeep (zA q k b h t) t.val s.val := by
  unfold keep logKeep
  pointwise
  rw [mask_at, softV_at, zeros_at, show Host.negf (Host.negf (scores q k)) (ix4 b h t s) = (-(-(scores q k (ix4 b h t s))) : EReal) from rfl, neg_neg, scores_at]
  by_cases hst : s.val < t.val
  · rw [if_pos hst, decide_eq_true hst]; rfl
  · rw [if_neg hst, decide_eq_false hst]; rfl

theorem keepFrom_at (q : FVec Ideal S2x8x128x8192 .bf16) (k : FVec Ideal S2x8x32x256x128 .bf16) (b : Fin 2) (h : Fin 8) (t s : Fin 8192) :
    keepFrom (keep (scores q k)) (ix4 b h t s) = ∑ u ∈ Finset.Ico s.val 8192, logKeep (zA q k b h t) t.val u := by
  unfold keepFrom
  exact from_on_host (keep (scores q k)) (logKeep (zA q k b h t) t.val) b h t (fun u => keep_at q k b h t u) _ (fun _ => zero_bits) _ _ s

theorem weights_at (q : FVec Ideal S2x8x128x8192 .bf16) (k : FVec Ideal S2x8x32x256x128 .bf16) (hs : AtMost100 q k) (b : Fin 2) (h : Fin 8) (t s : Fin 8192) :
    weights (scores q k) (ix4 b h t s) = (wt (zA q k b h t) t.val s.val : EReal) := by
  unfold weights
  pointwise
  rw [mask_at, softV_at, keepFrom_at, keep_at, zeros_at, show Host.negf (scores q k) (ix4 b h t s) = (-(scores q k (ix4 b h t s)) : EReal) from rfl, scores_at]
  by_cases hst : s.val < t.val
  · rw [ref_wt _ (hs b h t) t.val s.val 8192 t.isLt.le hst, decide_eq_true hst]; rfl
  · rw [wt, if_neg hst, decide_eq_false hst]; rfl

theorem result_at (hs : AtMost100 (argQ m c) (argK m c)) (b : Fin 2) (h : Fin 8) (d : Fin 64) (t : Fin 8192) :
    Value.res_out0 m c (ix4 b h d t) = attend (argQ m c) (argK m c) (argV m c) b h d t := by
  rw [res_eq]
  pointwise
  refine Eq.trans (b := ∑ s : Fin 8192, vA (argV m c) b h d s.val * (wt (zA (argQ m c) (argK m c) b h t) t.val s.val : EReal)) ?_ ?_
  · exact Finset.sum_congr (M := EReal) rfl fun s _ => by rw [weights_at _ _ hs, vA, dif_pos s.isLt]
  · rw [attend, part, ← Finset.range_eq_Ico, Fin.sum_univ_eq_sum_range (fun s => vA (argV m c) b h d s * (wt (zA (argQ m c) (argK m c) b h t) t.val s : EReal)) 8192]

end Cert.ReferenceIdeal.Hand

end
-- ==== Proof.Small.lean ====
module

public import proofs.«01_k».proof.Pre_scores_at_most_100
public import proofs.«01_k».proof.Proof.Attend
public import proofs.«01_k».proof.Proof.Heads

@[expose] public section

set_option maxRecDepth 16384

noncomputable section

namespace Cert.Pre_scores_at_most_100

open Idealize.ShloMosaic Cert.Attn

/-! The precondition: what it takes, and what it says. -/

theorem facts : Facts where
  bitsLt_bf16_f32 := by decide
  transposes_S2x8x128x8192_S2x8x8192x128_0_1_3_2 := by decide
  shapeCasts_S2x8x32x256x128_S2x8x8192x128 := by decide
  bcast_S_S2x8x8192x8192 := by decide
  dot_S2x8x8192x128_S2x8x8192x128_S2x8x8192x8192_3_3_2_2_01_01_wf := by decide

theorem fn_at [Facts] (q : FVec Ideal S2x8x128x8192 .bf16) (k : FVec Ideal S2x8x32x256x128 .bf16) (v : FVec Ideal S2x8x32x64x256 .bf16)
    (b : Fin 2) (h : Fin 8) (t s : Fin 8192) :
    fn q k v (ix4 b h t s) = BitVec.ofBool (decide (zA q k b h t s.val ≤ 100)) := by
  unfold fn
  pointwise
  rw [Cert.KernelIdeal.Hand.ofBits_hundred, zA, dif_pos s.isLt]
  congr 2
  exact congrArg (fun x : EReal => x ≤ 100) (Finset.sum_congr rfl fun d _ => mul_comm (G := EReal) _ _)

/-- Where the precondition holds, every score is at most 100. -/
theorem atMost [Facts] (q : FVec Ideal S2x8x128x8192 .bf16) (k : FVec Ideal S2x8x32x256x128 .bf16) (v : FVec Ideal S2x8x32x64x256 .bf16)
    (hp : fn q k v = fun _ => 1#1) : AtMost100 q k := fun b h t s => by
  by_cases hs : s < 8192
  · have e := (fn_at q k v b h t ⟨s, hs⟩).symm.trans (congrFun hp _)
    by_contra hn
    rw [decide_eq_false hn] at e
    exact absurd e (by decide)
  · rw [zA, dif_neg hs]
    exact_mod_cast (by norm_num : (0 : ℝ) ≤ 100)

end Cert.Pre_scores_at_most_100

end
-- ==== Proof.Ffn.lean ====
module

public import Idealize.ShloMosaic.Lib.Pointwise

@[expose] public section

noncomputable section

namespace Cert.Ffn

open Idealize.ShloMosaic

/-! One row of the merge and the feed-forward part, over the extended reals. -/

/-- A row of the residual stream after the merge: the row of the layer's input plus the product of the three groups of
    heads, one after the other, with the rows of the output projection. -/
def merged (x : Fin 1024 → EReal) (a : Fin 512 → EReal) (p q : Fin 256 → EReal) (w : Fin 1024 → Fin 1024 → EReal) (n : Fin 1024) : EReal :=
  x n + ((∑ k : Fin 512, a k * w ⟨k.val, by omega⟩ n + ∑ k : Fin 256, p k * w ⟨512 + k.val, by omega⟩ n)
    + ∑ k : Fin 256, q k * w ⟨768 + k.val, by omega⟩ n)

/-- The row divided by the root of its mean square, times the gain. -/
def normed (x : Fin 1024 → EReal) (g : Fin 1024 → EReal) (k : Fin 1024) : EReal :=
  x k * Ideal.rsqrt (Ideal.div (∑ j : Fin 1024, x j * x j) (Ideal.ofBits .f32 0x44800000#32) + Ideal.ofBits .f32 0x358637BD#32) * g k

/-- A hidden unit: the square of the positive part of a row's product with a column of the up projection. -/
def hid (x : Fin 1024 → EReal) (u : Fin 1024 → Fin 4096 → EReal) (f : Fin 4096) : EReal :=
  max (∑ k : Fin 1024, x k * u k f) 0 * max (∑ k : Fin 1024, x k * u k f) 0

/-- The row after the feed-forward part. -/
def ffn (x : Fin 1024 → EReal) (g : Fin 1024 → EReal) (u : Fin 1024 → Fin 4096 → EReal) (d : Fin 4096 → Fin 1024 → EReal) (n : Fin 1024) : EReal :=
  x n + ∑ f : Fin 4096, hid (normed x g) u f * d f n

/-- The row `r` of the layer's result and its column `n`, from the argument arrays: the layer's input, the attention, the
    pooling and the convolution heads, the output projection, the gain, the up and the down projection. -/
def layer (x : Vec Ideal ⟨2, ![16384, 1024]⟩ .f32) (a : Vec Ideal ⟨4, ![2, 8, 64, 8192]⟩ .f32) (p q : Vec Ideal ⟨2, ![16384, 256]⟩ .bf16)
    (w : Vec Ideal ⟨2, ![1024, 1024]⟩ .bf16) (g : Vec Ideal ⟨2, ![1, 1024]⟩ .f32) (u : Vec Ideal ⟨2, ![1024, 4096]⟩ .bf16) (d : Vec Ideal ⟨2, ![4096, 1024]⟩ .bf16)
    (r : Fin 16384) (n : Fin 1024) : EReal :=
  ffn (merged (fun j => x (ix2 r j)) (fun k => a (ix4 ⟨r.val / 8192, by omega⟩ ⟨k.val / 64, by omega⟩ ⟨k.val % 64, by omega⟩ ⟨r.val % 8192, by omega⟩))
    (fun k => p (ix2 r k)) (fun k => q (ix2 r k)) (fun k j => w (ix2 k j))) (fun j => g (ix2 0 j)) (fun k f => u (ix2 k f)) (fun f j => d (ix2 f j)) n

/-- The same of a layer that is given the heads of the attention row by row, as it is given the other two groups. -/
def layerOf (x : Vec Ideal ⟨2, ![32, 1024]⟩ .f32) (a : Vec Ideal ⟨2, ![32, 512]⟩ .bf16) (p q : Vec Ideal ⟨2, ![32, 256]⟩ .bf16)
    (w : Vec Ideal ⟨2, ![1024, 1024]⟩ .bf16) (g : Vec Ideal ⟨2, ![1, 1024]⟩ .f32) (u : Vec Ideal ⟨2, ![1024, 4096]⟩ .bf16) (d : Vec Ideal ⟨2, ![4096, 1024]⟩ .bf16)
    (r : Fin 32) (n : Fin 1024) : EReal :=
  ffn (merged (fun j => x (ix2 r j)) (fun k => a (ix2 r k)) (fun k => p (ix2 r k)) (fun k => q (ix2 r k)) (fun k j => w (ix2 k j)))
    (fun j => g (ix2 0 j)) (fun k f => u (ix2 k f)) (fun f j => d (ix2 f j)) n

/-- A sum over 1024 is the sum over its first 512 terms, the next 256 and the last 256. -/
theorem sum_groups (f : Fin 1024 → EReal) :
    ∑ k : Fin 1024, f k = (∑ k : Fin 512, f ⟨k.val, by omega⟩ + ∑ k : Fin 256, f ⟨512 + k.val, by omega⟩) + ∑ k : Fin 256, f ⟨768 + k.val, by omega⟩ := by
  refine (Fin.sum_univ_add (a := 768) (b := 256) f).trans (congrArg₂ (fun x y : EReal => x + y) ?_ rfl)
  exact Fin.sum_univ_add (a := 512) (b := 256) (fun k : Fin 768 => f (Fin.castAdd 256 k))

/-- A sum over 4096 is the sum of its four runs of 1024 terms. -/
theorem sum_chunks (f : Fin 4096 → EReal) :
    ∑ k : Fin 4096, f k = ((∑ k : Fin 1024, f ⟨k.val, by omega⟩ + ∑ k : Fin 1024, f ⟨1024 + k.val, by omega⟩) + ∑ k : Fin 1024, f ⟨2048 + k.val, by omega⟩)
      + ∑ k : Fin 1024, f ⟨3072 + k.val, by omega⟩ := by
  refine (Fin.sum_univ_add (a := 3072) (b := 1024) f).trans (congrArg₂ (fun x y : EReal => x + y) ?_ rfl)
  refine (Fin.sum_univ_add (a := 2048) (b := 1024) (fun k : Fin 3072 => f (Fin.castAdd 1024 k))).trans (congrArg₂ (fun x y : EReal => x + y) ?_ rfl)
  exact Fin.sum_univ_add (a := 1024) (b := 1024) (fun k : Fin 2048 => f (Fin.castAdd 1024 (Fin.castAdd 1024 k)))

end Cert.Ffn

end
-- ==== Proof.MergeBody.lean ====
module

public import proofs.«01_k».proof.Proof.Ffn
public import proofs.«01_k».proof.Proof.Gen.MergeIdeal.Frame
public import Idealize.ShloMosaic.Lib.Pipeline.Value
public import Idealize.ShloMosaic.Lib.Pointwise

@[expose] public section

set_option maxRecDepth 16384

noncomputable section

namespace Cert.MergeIdeal.Hand

open Idealize.ShloMosaic Idealize.SL.Sem
open Cert.MergeIdeal.Gen Cert.Ffn

/-! What the merge's body computes from the blocks it loads, at an index. -/

theorem pay1_apply (v0 : Vec Ideal S1x8x64x512 .f32) (v5 : Vec Ideal S512x1024 .bf16) (v7 : Vec Ideal S512x256 .bf16) (v8 : Vec Ideal S256x1024 .bf16)
    (v11 : Vec Ideal S512x256 .bf16) (v12 : Vec Ideal S256x1024 .bf16) (v15 : Vec Ideal S512x1024 .f32) (r : Fin 512) (n : Fin 1024) :
    k0_pay1 v0 v5 v7 v8 v11 v12 v15 (ix2 r n) = (v15 (ix2 r n) : EReal) + ((∑ k : Fin 512, v0 (ix4 0 ⟨k.val / 64, by omega⟩ ⟨k.val % 64, by omega⟩ r) * v5 (ix2 k n)
      + ∑ k : Fin 256, v7 (ix2 r k) * v8 (ix2 k n)) + ∑ k : Fin 256, v11 (ix2 r k) * v12 (ix2 k n)) := by
  pointwise [k0_pay1]

theorem pay2_apply (v0 : Vec Ideal S1x8x64x512 .f32) (v5 : Vec Ideal S512x1024 .bf16) (v7 : Vec Ideal S512x256 .bf16) (v8 : Vec Ideal S256x1024 .bf16)
    (v11 : Vec Ideal S512x256 .bf16) (v12 : Vec Ideal S256x1024 .bf16) (v15 : Vec Ideal S512x1024 .f32) (v27 : Vec Ideal S1x1024 .f32) (r : Fin 512) (n : Fin 1024) :
    k0_pay2 v0 v5 v7 v8 v11 v12 v15 v27 (ix2 r n) = normed (fun j => k0_pay1 v0 v5 v7 v8 v11 v12 v15 (ix2 r j)) (fun j => v27 (ix2 0 j)) n := by
  unfold k0_pay2 normed
  generalize k0_pay1 v0 v5 v7 v8 v11 v12 v15 = x1
  pointwise

/-- The feed-forward part over one run of 1024 hidden units. -/
def chunk (h : Fin 1024 → EReal) (u d : Vec Ideal S1024x1024 .bf16) (n : Fin 1024) : EReal :=
  ∑ f : Fin 1024, max (∑ k : Fin 1024, h k * u (ix2 k f)) 0 * max (∑ k : Fin 1024, h k * u (ix2 k f)) 0 * d (ix2 f n)

theorem pay3_apply (v16 : FVec Ideal S512x1024 .f32) (v30 : FVec Ideal S512x1024 .bf16) (v31 v37 v40 v46 v49 v55 v58 v64 : Vec Ideal S1024x1024 .bf16) (r : Fin 512) (n : Fin 1024) :
    k0_pay3 v16 v30 v31 (constant S512x1024 .f32 0x00000000#32) v37 v40 v46 v49 v55 v58 v64 (ix2 r n) =
      (v16 (ix2 r n) : EReal) + chunk (fun k => v30 (ix2 r k)) v31 v37 n + chunk (fun k => v30 (ix2 r k)) v40 v46 n
        + chunk (fun k => v30 (ix2 r k)) v49 v55 n + chunk (fun k => v30 (ix2 r k)) v58 v64 n := by
  pointwise [k0_pay3, chunk]

variable (x0 : Vec Ideal S512x1024 .f32) (x1 : Vec Ideal S1x8x64x512 .f32) (x2 x3 : Vec Ideal S512x256 .bf16) (x4 : Vec Ideal S1024x1024 .bf16)
  (x5 : Vec Ideal S1x1024 .f32) (x6 : Vec Ideal S1024x4096 .bf16) (x7 : Vec Ideal S4096x1024 .bf16)

/-- A row of the block after the merge. -/
def mergedB (r : Fin 512) : Fin 1024 → EReal :=
  merged (fun j => x0 (ix2 r j)) (fun k => x1 (ix4 0 ⟨k.val / 64, by omega⟩ ⟨k.val % 64, by omega⟩ r)) (fun k => x2 (ix2 r k)) (fun k => x3 (ix2 r k)) (fun k j => x4 (ix2 k j))

theorem pay1_ld (r : Fin 512) (n : Fin 1024) :
    k0_pay1 (View.ld x1 r0_0) (View.ld x4 r0_1) (View.ld x2 r0_2) (View.ld x4 r0_3) (View.ld x3 r0_2) (View.ld x4 r0_4) (View.ld x0 r0_5) (ix2 r n)
      = mergedB x0 x1 x2 x3 x4 r n := by
  simp only [View.ld_unit]
  refine (pay1_apply _ _ _ _ _ _ _ r n).trans ?_
  pointwise [mergedB, merged]

theorem pay2_ld (r : Fin 512) (n : Fin 1024) :
    k0_pay2 (View.ld x1 r0_0) (View.ld x4 r0_1) (View.ld x2 r0_2) (View.ld x4 r0_3) (View.ld x3 r0_2) (View.ld x4 r0_4) (View.ld x0 r0_5) (View.ld x5 r0_6) (ix2 r n)
      = normed (mergedB x0 x1 x2 x3 x4 r) (fun j => x5 (ix2 0 j)) n := by
  refine (pay2_apply _ _ _ _ _ _ _ _ r n).trans (congrArg₂ (fun a b => normed a b n) (funext fun j => pay1_ld x0 x1 x2 x3 x4 r j) (funext fun j => ?_))
  rw [View.ld_unit]
  pointwise

/-- A run of hidden units, from the whole projections. -/
theorem chunk_of (h : Fin 1024 → EReal) (o : ℕ) (ho : o + 1024 ≤ 4096) (u d : Vec Ideal S1024x1024 .bf16)
    (hu : ∀ k f : Fin 1024, u (ix2 k f) = x6 (ix2 k ⟨o + f.val, by omega⟩)) (hd : ∀ f n : Fin 1024, d (ix2 f n) = x7 (ix2 ⟨o + f.val, by omega⟩ n)) (n : Fin 1024) :
    chunk h u d n = ∑ f : Fin 1024, hid h (fun k f => x6 (ix2 k f)) ⟨o + f.val, by omega⟩ * x7 (ix2 ⟨o + f.val, by omega⟩ n) := by
  unfold chunk hid
  simp only [hu, hd]

theorem up_ld (o : ℕ) (inb) (k f : Fin 1024) (ho : o + 1024 ≤ 4096) :
    View.ld x6 (Rect.unit (s := S1024x4096) ![0, o] S1024x1024.size inb) (ix2 k f : S1024x1024.Idx) = x6 (ix2 k ⟨o + f.val, by omega⟩) := by
  refine (congrFun (View.ld_unit _ _ _ _) _).trans (congrArg x6 (funext fun a => Fin.ext ?_))
  match a with
  | ⟨0, _⟩ => exact Nat.zero_add _
  | ⟨1, _⟩ => rfl

theorem down_ld (o : ℕ) (inb) (f n : Fin 1024) (ho : o + 1024 ≤ 4096) :
    View.ld x7 (Rect.unit (s := S4096x1024) ![o, 0] S1024x1024.size inb) (ix2 f n : S1024x1024.Idx) = x7 (ix2 ⟨o + f.val, by omega⟩ n) := by
  refine (congrFun (View.ld_unit _ _ _ _) _).trans (congrArg x7 (funext fun a => Fin.ext ?_))
  match a with
  | ⟨0, _⟩ => rfl
  | ⟨1, _⟩ => exact Nat.zero_add _

/-- The block that the body leaves. -/
theorem out_apply (r : Fin 512) (n : Fin 1024) : out0_8 x0 x1 x2 x3 x4 x5 x6 x7 (ix2 r n) =
    ffn (mergedB x0 x1 x2 x3 x4 r) (fun j => x5 (ix2 0 j)) (fun k f => x6 (ix2 k f)) (fun f j => x7 (ix2 f j)) n := by
  unfold out0_8
  rw [View.canon_unit_zero (by funext a; fin_cases a <;> rfl), pay3_apply, ffn, sum_chunks]
  simp only [pay1_ld, pay2_ld]
  rw [chunk_of x6 x7 _ 0 (by omega) _ _ (fun k f => up_ld x6 0 _ k f (by omega)) (fun f n => down_ld x7 0 _ f n (by omega)),
    chunk_of x6 x7 _ 1024 (by omega) _ _ (fun k f => up_ld x6 1024 _ k f (by omega)) (fun f n => down_ld x7 1024 _ f n (by omega)),
    chunk_of x6 x7 _ 2048 (by omega) _ _ (fun k f => up_ld x6 2048 _ k f (by omega)) (fun f n => down_ld x7 2048 _ f n (by omega)),
    chunk_of x6 x7 _ 3072 (by omega) _ _ (fun k f => up_ld x6 3072 _ k f (by omega)) (fun f n => down_ld x7 3072 _ f n (by omega))]
  simp only [Nat.zero_add, add_assoc]

end Cert.MergeIdeal.Hand

end
-- ==== Proof.MergeValue.lean ====
module

public import proofs.«01_k».proof.Proof.MergeBody
public import proofs.«01_k».proof.Proof.Gen.MergeIdeal.Value
public import Idealize.ShloMosaic.Lib.Pipeline.ValueKit

@[expose] public section

set_option maxRecDepth 16384

noncomputable section

namespace Cert.MergeIdeal.Hand

open Idealize.ShloMosaic Idealize.ShloMosaic.TcCoe Idealize.SL.Sem
open Cert.MergeIdeal.Gen Cert.Ffn

/-! The merge's result array: every row after the merge and the feed-forward part. -/

variable (m : (ℓ : Loc nD τ sig) → Buf (Elt Ideal) ℓ) (c : Dev nD)

/-- The layer's input; -/
abbrev argX : Vec Ideal S16384x1024 .f32 := m ((c.tc : Thread nD τ).loc main_arg0)
/-- the attention; -/
abbrev argA : Vec Ideal S2x8x64x8192 .f32 := m ((c.tc : Thread nD τ).loc main_arg1)
/-- the pooling heads; -/
abbrev argP : Vec Ideal S16384x256 .bf16 := m ((c.tc : Thread nD τ).loc main_arg2)
/-- the convolution heads; -/
abbrev argC : Vec Ideal S16384x256 .bf16 := m ((c.tc : Thread nD τ).loc main_arg3)
/-- the output projection; -/
abbrev argW : Vec Ideal S1024x1024 .bf16 := m ((c.tc : Thread nD τ).loc main_arg4)
/-- the gain; -/
abbrev argG : Vec Ideal S1x1024 .f32 := m ((c.tc : Thread nD τ).loc main_arg5)
/-- the up projection; -/
abbrev argU : Vec Ideal S1024x4096 .bf16 := m ((c.tc : Thread nD τ).loc main_arg6)
/-- the down projection. -/
abbrev argD : Vec Ideal S4096x1024 .bf16 := m ((c.tc : Thread nD τ).loc main_arg7)

theorem idx0_0 : ∀ t : Fin cfg0.N, win0_0.index t = ![t.val, 0] := by decide +kernel
theorem idx0_1 : ∀ t : Fin cfg0.N, win0_1.index t = ![t.val / 16, 0, 0, t.val % 16] := by decide +kernel
theorem idx0_2 : ∀ t : Fin cfg0.N, win0_2.index t = ![t.val, 0] := by decide +kernel
theorem idx0_3 : ∀ t : Fin cfg0.N, win0_3.index t = ![t.val, 0] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![0, 0] := by decide +kernel
theorem idx0_7 : ∀ t : Fin cfg0.N, win0_7.index t = ![0, 0] := by decide +kernel
theorem idx0_8 : ∀ t : Fin cfg0.N, win0_8.index t = ![t.val, 0] := by decide +kernel

theorem pt_lt (t : Fin cfg0.N) : t.val < 32 := lt_of_lt_of_eq t.isLt (by decide +kernel)

/-- The row of the arrays that a grid point's row `r` is. -/
def row (t : Fin cfg0.N) (r : Fin 512) : Fin 16384 := ⟨512 * t.val + r.val, by have := pt_lt t; omega⟩

theorem x_blk (t : Fin cfg0.N) (r : Fin 512) (j : Fin 1024) : (iblk m c 0 t : Vec Ideal S512x1024 .f32) (ix2 r j) = argX m c (ix2 (row t r) j) := by
  refine (congrFun (V_main_arg0 m c) _).trans (congrArg (argX m c) (funext fun a => Fin.ext ?_))
  match a with
  | ⟨0, _⟩ => blk_simp [idx0_0]; show _ * 512 + _ = _; rw [Nat.mul_comm]; rfl
  | ⟨1, _⟩ => blk_simp [idx0_0]

theorem a_blk (t : Fin cfg0.N) (h : Fin 8) (d : Fin 64) (r : Fin 512) : (iblk m c 1 t : Vec Ideal S1x8x64x512 .f32) (ix4 0 h d r)
    = argA m c (ix4 ⟨(row t r).val / 8192, by omega⟩ h d ⟨(row t r).val % 8192, by omega⟩) := by
  refine (congrFun (V_main_arg1 m c) _).trans (congrArg (argA m c) (funext fun a => Fin.ext ?_))
  have ht := pt_lt t
  match a with
  | ⟨0, _⟩ => blk_simp [idx0_1]; show _ / 16 + 0 = (512 * t.val + r.val) / 8192; omega
  | ⟨1, _⟩ => blk_simp [idx0_1]
  | ⟨2, _⟩ => blk_simp [idx0_1]
  | ⟨3, _⟩ => blk_simp [idx0_1]; show _ % 16 * 512 + _ = (512 * t.val + r.val) % 8192; omega

theorem p_blk (t : Fin cfg0.N) (r : Fin 512) (j : Fin 256) : (iblk m c 2 t : Vec Ideal S512x256 .bf16) (ix2 r j) = argP m c (ix2 (row t r) j) := by
  refine (congrFun (V_main_arg2 m c) _).trans (congrArg (argP m c) (funext fun a => Fin.ext ?_))
  match a with
  | ⟨0, _⟩ => blk_simp [idx0_2]; show _ * 512 + _ = _; rw [Nat.mul_comm]; rfl
  | ⟨1, _⟩ => blk_simp [idx0_2]

theorem c_blk (t : Fin cfg0.N) (r : Fin 512) (j : Fin 256) : (iblk m c 3 t : Vec Ideal S512x256 .bf16) (ix2 r j) = argC m c (ix2 (row t r) j) := by
  refine (congrFun (V_main_arg3 m c) _).trans (congrArg (argC m c) (funext fun a => Fin.ext ?_))
  match a with
  | ⟨0, _⟩ => blk_simp [idx0_3]; show _ * 512 + _ = _; rw [Nat.mul_comm]; rfl
  | ⟨1, _⟩ => blk_simp [idx0_3]

theorem w_blk (t : Fin cfg0.N) (k j : Fin 1024) : (iblk m c 4 t : Vec Ideal S1024x1024 .bf16) (ix2 k j) = argW m c (ix2 k j) := by
  refine (congrFun (V_main_arg4 m c) _).trans (congrArg (argW m c) (funext fun a => Fin.ext ?_))
  match a with
  | ⟨0, _⟩ => blk_simp [idx0_4]
  | ⟨1, _⟩ => blk_simp [idx0_4]

theorem g_blk (t : Fin cfg0.N) (j : Fin 1024) : (iblk m c 5 t : Vec Ideal S1x1024 .f32) (ix2 0 j) = argG m c (ix2 0 j) := by
  refine (congrFun (V_main_arg5 m c) _).trans (congrArg (argG m c) (funext fun a => Fin.ext ?_))
  match a with
  | ⟨0, _⟩ => blk_simp [idx0_5]
  | ⟨1, _⟩ => blk_simp [idx0_5]

theorem u_blk (t : Fin cfg0.N) (k : Fin 1024) (f : Fin 4096) : (iblk m c 6 t : Vec Ideal S1024x4096 .bf16) (ix2 k f) = argU m c (ix2 k f) := by
  refine (congrFun (V_main_arg6 m c) _).trans (congrArg (argU m c) (funext fun a => Fin.ext ?_))
  match a with
  | ⟨0, _⟩ => blk_simp [idx0_6]
  | ⟨1, _⟩ => blk_simp [idx0_6]

theorem d_blk (t : Fin cfg0.N) (f : Fin 4096) (j : Fin 1024) : (iblk m c 7 t : Vec Ideal S4096x1024 .bf16) (ix2 f j) = argD m c (ix2 f j) := by
  refine (congrFun (V_main_arg7 m c) _).trans (congrArg (argD m c) (funext fun a => Fin.ext ?_))
  match a with
  | ⟨0, _⟩ => blk_simp [idx0_7]
  | ⟨1, _⟩ => blk_simp [idx0_7]

/-- The result array. -/
def result : Vec Ideal S16384x1024 .f32 := fun y =>
  layer (argX m c) (argA m c) (argP m c) (argC m c) (argW m c) (argG m c) (argU m c) (argD m c) (y 0) (y 1)

theorem out_blk (t : Fin cfg0.N) (r : Fin 512) (n : Fin 1024) :
    out0_8 (iblk m c 0 t) (iblk m c 1 t) (iblk m c 2 t) (iblk m c 3 t) (iblk m c 4 t) (iblk m c 5 t) (iblk m c 6 t) (iblk m c 7 t) (ix2 r n)
      = layer (argX m c) (argA m c) (argP m c) (argC m c) (argW m c) (argG m c) (argU m c) (argD m c) (row t r) n := by
  refine (out_apply _ _ _ _ _ _ _ _ r n).trans ?_
  unfold layer mergedB
  simp only [x_blk, a_blk, p_blk, c_blk, w_blk, g_blk, u_blk, d_blk]

theorem arr_eq : (dats m 0 c).arrAt 8 cfg0.N = result m c := by
  refine (dats m 0 c).arrAt_eq_of_covers 8 _ (by decide +kernel) fun t hf y => ?_
  blk_simp
  rw [after0_8]
  obtain ⟨r, n, rfl⟩ : ∃ (r : Fin 512) (n : Fin 1024), y = (ix2 r n : S512x1024.Idx) := ⟨y 0, y 1, eq_ix2 y⟩
  refine (out_blk m c t r n).trans ?_
  unfold result
  congr 1 <;> refine Fin.ext ?_
  · blk_simp [idx0_8]; show _ = _ * 512 + _; rw [Nat.mul_comm]; rfl
  · blk_simp [idx0_8]

end Cert.MergeIdeal.Hand

end
-- ==== Proof.RefMerge.lean ====
module

public import proofs.«01_k».proof.Proof.Ffn
public import proofs.«01_k».proof.Proof.Gen.MergeReferenceIdeal.Run
public import Idealize.ShloMosaic.Lib.Pointwise

@[expose] public section

set_option maxRecDepth 16384

noncomputable section

namespace Cert.MergeReferenceIdeal.Hand

open Idealize.ShloMosaic Idealize.ShloMosaic.TcCoe Idealize.SL.Sem
open Cert.MergeReferenceIdeal.Gen Cert.Ffn

/-! The merge's reference: its result at an index. -/

variable (m : (ℓ : Loc nD τ sig) → Buf (Elt Ideal) ℓ) (c : Dev nD)

/-- The layer's input; -/
abbrev argX : FVec Ideal S16384x1024 .f32 := m ((c.tc : Thread nD τ).loc main_arg0)
/-- the attention; -/
abbrev argA : FVec Ideal S2x8x64x8192 .f32 := m ((c.tc : Thread nD τ).loc main_arg1)
/-- the pooling heads; -/
abbrev argP : FVec Ideal S16384x256 .bf16 := m ((c.tc : Thread nD τ).loc main_arg2)
/-- the convolution heads; -/
abbrev argC : FVec Ideal S16384x256 .bf16 := m ((c.tc : Thread nD τ).loc main_arg3)
/-- the output projection; -/
abbrev argW : FVec Ideal S1024x1024 .bf16 := m ((c.tc : Thread nD τ).loc main_arg4)
/-- the gain; -/
abbrev argG : FVec Ideal S1x1024 .f32 := m ((c.tc : Thread nD τ).loc main_arg5)
/-- the up projection; -/
abbrev argU : FVec Ideal S1024x4096 .bf16 := m ((c.tc : Thread nD τ).loc main_arg6)
/-- the down projection. -/
abbrev argD : FVec Ideal S4096x1024 .bf16 := m ((c.tc : Thread nD τ).loc main_arg7)

/-- The rows after the merge. -/
def mergeV (x : FVec Ideal S16384x1024 .f32) (a : FVec Ideal S2x8x64x8192 .f32) (p q : FVec Ideal S16384x256 .bf16) (w : FVec Ideal S1024x1024 .bf16) : FVec Ideal S16384x1024 .f32 :=
  addf x (Host.dotGeneral dot_S16384x1024_S1024x1024_S16384x1024_1_0_0_1_n_n none
    (concatenate S16384x1024 1 [⟨S16384x512, ((shapeCast _ (transpose S2x8192x8x64 [0, 3, 1, 2] a transposes_S2x8x64x8192_S2x8192x8x64_0_3_1_2) shapeCasts_S2x8192x8x64_S16384x512) : FVec Ideal S16384x512 .f32)⟩,
      ⟨S16384x256, (extf .f32 p bitsLt_bf16_f32 : FVec Ideal S16384x256 .f32)⟩, ⟨S16384x256, (extf .f32 q bitsLt_bf16_f32 : FVec Ideal S16384x256 .f32)⟩]
      concatenates_S16384x512_S16384x256_S16384x256_S16384x1024_d1 : FVec Ideal S16384x1024 .f32)
    (extf .f32 w bitsLt_bf16_f32))

/-- The rows normalised. -/
def normV (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 g)

/-- The positive parts of the hidden units. -/
def reluV (h : FVec Ideal S16384x1024 .f32) (u : FVec Ideal S1024x4096 .bf16) : FVec Ideal S16384x4096 .f32 :=
  maximumf (Host.dotGeneral dot_S16384x1024_S1024x4096_S16384x4096_1_0_0_1_n_n none h (extf .f32 u bitsLt_bf16_f32))
    (broadcastInDim S16384x4096 ![] bcast_S_S16384x4096 (constant S_ .f32 0x00000000#32))

/-- The rows after the feed-forward part. -/
def ffnV (x : FVec Ideal S16384x1024 .f32) (g : FVec Ideal S1x1024 .f32) (u : FVec Ideal S1024x4096 .bf16) (d : FVec Ideal S4096x1024 .bf16) : FVec Ideal S16384x1024 .f32 :=
  addf x (Host.dotGeneral dot_S16384x4096_S4096x1024_S16384x1024_1_0_0_1_n_n none (mulf (reluV (normV x g) u) (reluV (normV x g) u)) (extf .f32 d bitsLt_bf16_f32))

theorem res_eq : Value.res_out0 m c = ffnV (mergeV (argX m c) (argA m c) (argP m c) (argC m c) (argW m c)) (argG m c) (argU m c) (argD m c) := rfl

theorem mergeV_apply (x : FVec Ideal S16384x1024 .f32) (a : FVec Ideal S2x8x64x8192 .f32) (p q : FVec Ideal S16384x256 .bf16) (w : FVec Ideal S1024x1024 .bf16) (r : Fin 16384) (n : Fin 1024) :
    mergeV x a p q w (ix2 r n) = merged (fun j => x (ix2 r j)) (fun k => a (ix4 ⟨r.val / 8192, by omega⟩ ⟨k.val / 64, by omega⟩ ⟨k.val % 64, by omega⟩ ⟨r.val % 8192, by omega⟩))
      (fun k => p (ix2 r k)) (fun k => q (ix2 r k)) (fun k j => w (ix2 k j)) n := by
  unfold mergeV merged
  pointwise
  rw [sum_groups]
  refine congrArg (fun y : EReal => x (ix2 r n) + y) (congrArg₂ (fun y z : EReal => y + z) (congrArg₂ (fun y z : EReal => y + z) ?_ ?_) ?_)
  · exact Finset.sum_congr (M := EReal) rfl fun k _ => congrArg (fun y : EReal => y * _) (dif_pos k.isLt)
  · refine Finset.sum_congr (M := EReal) rfl fun k _ => congrArg (fun y : EReal => y * _) ?_
    rw [dif_neg (show ¬ 512 + k.val < 512 by omega), dif_pos (show 512 + k.val - 512 < 256 by omega)]
    exact congrArg p (congrArg (ix2 r) (Fin.ext (show 512 + k.val - 512 = k.val by omega)))
  · refine Finset.sum_congr (M := EReal) rfl fun k _ => congrArg (fun y : EReal => y * _) ?_
    rw [dif_neg (show ¬ 768 + k.val < 512 by omega), dif_neg (show ¬ 768 + k.val - 512 < 256 by omega)]
    exact congrArg q (congrArg (ix2 r) (Fin.ext (show 768 + k.val - 512 - 256 = k.val by omega)))

theorem normV_apply (x : FVec Ideal S16384x1024 .f32) (g : FVec Ideal S1x1024 .f32) (r : Fin 16384) (k : Fin 1024) :
    normV x g (ix2 r k) = normed (fun j => x (ix2 r j)) (fun j => g (ix2 0 j)) k := by
  pointwise [normV, normed]

theorem ffnV_apply (x : FVec Ideal S16384x1024 .f32) (g : FVec Ideal S1x1024 .f32) (u : FVec Ideal S1024x4096 .bf16) (d : FVec Ideal S4096x1024 .bf16) (r : Fin 16384) (n : Fin 1024) :
    ffnV x g u d (ix2 r n) = ffn (fun j => x (ix2 r j)) (fun j => g (ix2 0 j)) (fun k f => u (ix2 k f)) (fun f j => d (ix2 f j)) n := by
  unfold ffnV ffn hid reluV
  pointwise
  simp only [normV_apply]

/-- The reference's result array. -/
theorem result_at (r : Fin 16384) (n : Fin 1024) :
    Value.res_out0 m c (ix2 r n) = layer (argX m c) (argA m c) (argP m c) (argC m c) (argW m c) (argG m c) (argU m c) (argD m c) r n := by
  rw [res_eq, ffnV_apply, layer]
  simp only [mergeV_apply]

end Cert.MergeReferenceIdeal.Hand

end
-- ==== Proof.Mix.lean ====
module

public import proofs.«01_k».proof.Proof.Ffn
public import proofs.«01_k».proof.Proof.Stick

@[expose] public section

noncomputable section

namespace Cert.Mix

open Idealize.ShloMosaic Cert.Ffn

/-! One row of the input projection, over the extended reals. -/

/-- A row's columns of the input projection: the row normalised, times the columns of the projection. -/
def projRow (x : Fin 1024 → EReal) (g : Fin 1024 → EReal) (w : Fin 1024 → Fin 2304 → EReal) (n : Fin 2304) : EReal :=
  ∑ k : Fin 1024, normed x g k * w k n

/-- A row of eight heads, each divided by the root of its mean square, times the gain of a head. -/
def headNormed (t : Fin 512 → EReal) (g : Fin 64 → EReal) (j : Fin 512) : EReal :=
  t j * Ideal.rsqrt (Ideal.div (∑ d : Fin 64, t ⟨j.val / 64 * 64 + d.val, by omega⟩ * t ⟨j.val / 64 * 64 + d.val, by omega⟩) (Ideal.ofBits .f32 0x42800000#32)
    + Ideal.ofBits .f32 0x358637BD#32) * g ⟨j.val % 64, by omega⟩

/-- The scale of the queries: one over the root of a head's width, over the logarithm of two. -/
def scaled (y : EReal) : EReal := Ideal.div (y * Ideal.ofBits .f32 0x3E000000#32) ((Real.log 2 : ℝ) : EReal)

/-- The gated input of the convolution. -/
def gated (a b : EReal) : EReal := a * Ideal.div 1 (1 + Ideal.exp (-b))

/-- The columns of row `r`, from the argument arrays. -/
def cols (x : Vec Ideal ⟨2, ![32, 1024]⟩ .f32) (g : Vec Ideal ⟨1, ![1024]⟩ .f32) (w : Vec Ideal ⟨2, ![1024, 2304]⟩ .f32) (r : Fin 32) : Fin 2304 → EReal :=
  projRow (fun j => x (ix2 r j)) (fun j => g (ix1 j)) (fun k n => w (ix2 k n))

/-! The five results at row `r`, from the argument arrays: a query, a key, a value, an input of the pooling and a gated input
    of the convolution. -/

def atQ (x : Vec Ideal ⟨2, ![32, 1024]⟩ .f32) (g : Vec Ideal ⟨1, ![1024]⟩ .f32) (w : Vec Ideal ⟨2, ![1024, 2304]⟩ .f32) (gh : Vec Ideal ⟨1, ![64]⟩ .f32) (r : Fin 32) (j : Fin 512) : EReal :=
  scaled (headNormed (fun k => cols x g w r ⟨k.val, by omega⟩) (fun d => gh (ix1 d)) j)
def atK (x : Vec Ideal ⟨2, ![32, 1024]⟩ .f32) (g : Vec Ideal ⟨1, ![1024]⟩ .f32) (w : Vec Ideal ⟨2, ![1024, 2304]⟩ .f32) (gh : Vec Ideal ⟨1, ![64]⟩ .f32) (r : Fin 32) (j : Fin 512) : EReal :=
  headNormed (fun k => cols x g w r ⟨512 + k.val, by omega⟩) (fun d => gh (ix1 d)) j
def atV (x : Vec Ideal ⟨2, ![32, 1024]⟩ .f32) (g : Vec Ideal ⟨1, ![1024]⟩ .f32) (w : Vec Ideal ⟨2, ![1024, 2304]⟩ .f32) (r : Fin 32) (j : Fin 512) : EReal := cols x g w r ⟨1024 + j.val, by omega⟩
def atU (x : Vec Ideal ⟨2, ![32, 1024]⟩ .f32) (g : Vec Ideal ⟨1, ![1024]⟩ .f32) (w : Vec Ideal ⟨2, ![1024, 2304]⟩ .f32) (r : Fin 32) (j : Fin 256) : EReal := cols x g w r ⟨1536 + j.val, by omega⟩
def atH (x : Vec Ideal ⟨2, ![32, 1024]⟩ .f32) (g : Vec Ideal ⟨1, ![1024]⟩ .f32) (w : Vec Ideal ⟨2, ![1024, 2304]⟩ .f32) (r : Fin 32) (j : Fin 256) : EReal := gated (cols x g w r ⟨1792 + j.val, by omega⟩) (cols x g w r ⟨2048 + j.val, by omega⟩)

/-- A sum over a row of eight heads is the sum of the heads' sums. -/
theorem sum_heads (f : Fin 512 → EReal) : ∑ c : Fin 512, f c = ∑ h : Fin 8, ∑ d : Fin 64, f ⟨h.val * 64 + d.val, by omega⟩ := by
  rw [← Fintype.sum_prod_type' (fun (h : Fin 8) (d : Fin 64) => f ⟨h.val * 64 + d.val, by omega⟩)]
  refine (Fintype.sum_equiv (finProdFinEquiv (m := 8) (n := 64)) _ _ fun p => ?_).symm
  exact congrArg f (Fin.ext (show p.1.val * 64 + p.2.val = p.2.val + 64 * p.1.val by omega))

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_64th : Ideal.ofBits .bf16 0x3C80#16 = ((1 / 64 : ℝ) : EReal) := by
  simp [Ideal.ofBits, Ideal.ieee, -EReal.coe_mul]; norm_num

theorem ofBits_one : Ideal.ofBits .f32 0x3F800000#32 = (1 : EReal) := by
  simp [Ideal.ofBits, Ideal.ieee, -EReal.coe_mul]; norm_num

/-- The product with a matrix that holds 1/64 within a head and zero elsewhere is the mean over the head. -/
theorem head_mean (t : Fin 512 → EReal) (j : Fin 512) :
    ∑ c : Fin 512, t c * (if c.val / 64 = j.val / 64 then ((1 / 64 : ℝ) : EReal) else 0)
      = Ideal.div (∑ d : Fin 64, t ⟨j.val / 64 * 64 + d.val, by omega⟩) (Ideal.ofBits .f32 0x42800000#32) := by
  rw [sum_heads, Finset.sum_eq_single (⟨j.val / 64, by omega⟩ : Fin 8), ofBits_64, Ideal.div_coe (by norm_num), Cert.Attn.sum_mul_coe _ _ (by norm_num)]
  · refine Finset.sum_congr rfl fun d _ => ?_
    rw [if_pos (show (j.val / 64 * 64 + d.val) / 64 = j.val / 64 by omega)]
  · intro h _ hne
    refine Finset.sum_eq_zero fun d _ => ?_
    rw [if_neg (show ¬ (h.val * 64 + d.val) / 64 = j.val / 64 from fun e => hne (Fin.ext (by show h.val = j.val / 64; omega))), mul_zero]
  · exact fun h => absurd (Finset.mem_univ _) h

/-- The product with one over the logarithm of 256 is the scale of the queries. -/
theorem scaled_eq (y : EReal) : y * (((Real.log 256)⁻¹ : ℝ) : EReal) = scaled y := by
  have h2 : Real.log 2 ≠ 0 := (Real.log_pos (by norm_num)).ne'
  have h : Real.log 256 = 8 * Real.log 2 := by
    rw [show (256 : ℝ) = 2 ^ 8 by norm_num, Real.log_pow]; norm_num
  rw [scaled, ofBits_eighth, Ideal.div_coe h2, mul_assoc, ← EReal.coe_mul, h]
  congr 2
  field_simp

end Cert.Mix

end
-- ==== Proof.InprojBody.lean ====
module

public import proofs.«01_k».proof.Proof.Mix
public import proofs.«01_k».proof.Proof.Gen.InprojIdeal.Frame
public import Idealize.ShloMosaic.Lib.Pipeline.Value
public import Idealize.ShloMosaic.Lib.Pointwise

@[expose] public section

set_option maxRecDepth 16384

noncomputable section

namespace Cert.InprojIdeal.Hand

open Idealize.ShloMosaic Idealize.SL.Sem
open Cert.InprojIdeal.Gen Cert.Ffn Cert.Mix

/-! What the input projection's body computes from the blocks it loads, at an index. -/

variable (v0 : Vec Ideal S32x1024 .f32) (v1 : Vec Ideal S1x1024 .f32) (v3 : Vec Ideal S1024x2304 .bf16) (r : Fin 32)

/-- The columns of a row of the block. -/
def colsB : Fin 2304 → EReal := projRow (fun j => v0 (ix2 r j)) (fun j => v1 (ix2 0 j)) (fun k n => v3 (ix2 k n))

theorem pay6_apply (n : Fin 2304) : k0_pay6 v0 v1 v3 (ix2 r n) = colsB v0 v1 v3 r n := by
  pointwise [k0_pay6, colsB, projRow, normed]

theorem pay7_apply (j : Fin 512) : k0_pay7 v0 v1 v3 (ix2 r j) = colsB v0 v1 v3 r ⟨512 + j.val, by omega⟩ := by
  unfold k0_pay7
  refine Eq.trans ?_ (pay6_apply v0 v1 v3 r _)
  generalize k0_pay6 v0 v1 v3 = x
  pointwise

theorem pay8_apply (j : Fin 512) : k0_pay8 v0 v1 v3 (ix2 r j) = colsB v0 v1 v3 r ⟨1024 + j.val, by omega⟩ := by
  unfold k0_pay8
  refine Eq.trans ?_ (pay6_apply v0 v1 v3 r _)
  generalize k0_pay6 v0 v1 v3 = x
  pointwise

theorem pay9_apply (j : Fin 256) : k0_pay9 v0 v1 v3 (ix2 r j) = colsB v0 v1 v3 r ⟨1536 + j.val, by omega⟩ := by
  unfold k0_pay9
  refine Eq.trans ?_ (pay6_apply v0 v1 v3 r _)
  generalize k0_pay6 v0 v1 v3 = x
  pointwise

theorem pay10_apply (j : Fin 256) : k0_pay10 v0 v1 v3 (ix2 r j) = colsB v0 v1 v3 r ⟨1792 + j.val, by omega⟩ := by
  unfold k0_pay10
  refine Eq.trans ?_ (pay6_apply v0 v1 v3 r _)
  generalize k0_pay6 v0 v1 v3 = x
  pointwise

theorem pay11_apply (j : Fin 256) : k0_pay11 v0 v1 v3 (ix2 r j) = colsB v0 v1 v3 r ⟨2048 + j.val, by omega⟩ := by
  unfold k0_pay11
  refine Eq.trans ?_ (pay6_apply v0 v1 v3 r _)
  generalize k0_pay6 v0 v1 v3 = x
  pointwise

theorem pay3_apply (a b : FVec Ideal S32x256 .f32) (j : Fin 256) : k0_pay3 a b (ix2 r j) = gated (a (ix2 r j)) (b (ix2 r j)) := by
  pointwise [k0_pay3, gated]
  rfl

/-- The matrix that takes the mean over a head. -/
def IsMean (v9 : Vec Ideal S512x512 .bf16) : Prop := ∀ c j : Fin 512, v9 (ix2 c j) = if c.val / 64 = j.val / 64 then ((1 / 64 : ℝ) : EReal) else 0

/-- The gain of a head, once per head. -/
def IsTiled (v5 : Vec Ideal S1x512 .f32) (g : Fin 64 → EReal) : Prop := ∀ j : Fin 512, v5 (ix2 0 j) = g ⟨j.val % 64, by omega⟩

theorem pay2_apply (v8 : Vec Ideal S1x512 .f32) (v10 : Vec Ideal S512x512 .bf16) (v26 : FVec Ideal S32x512 .f32) (g : Fin 64 → EReal) (h8 : IsTiled v8 g) (h10 : IsMean v10)
    (j : Fin 512) : k0_pay2 (k0_pay4 v8) (k0_pay5 v10) v26 (ix2 r j) = headNormed (fun c => v26 (ix2 r c)) g j := by
  unfold headNormed
  rw [← head_mean (fun c => v26 (ix2 r c) * v26 (ix2 r c)) j, ← h8 j]
  simp only [← h10 _ j]
  pointwise [k0_pay2, k0_pay4, k0_pay5]

theorem pay12_apply (v5 : Vec Ideal S1x512 .f32) (v9 : Vec Ideal S512x512 .bf16) (g : Fin 64 → EReal) (h5 : IsTiled v5 g) (h9 : IsMean v9)
    (j : Fin 512) : k0_pay12 v0 v1 v3 v5 v9 (ix2 r j) = headNormed (fun c => colsB v0 v1 v3 r ⟨c.val, by omega⟩) g j := by
  unfold headNormed
  rw [← head_mean (fun c => colsB v0 v1 v3 r ⟨c.val, by omega⟩ * colsB v0 v1 v3 r ⟨c.val, by omega⟩) j, ← h5 j]
  simp only [← h9 _ j, ← pay6_apply]
  unfold k0_pay12
  generalize k0_pay6 v0 v1 v3 = x
  pointwise [k0_pay5]

/-- The named constant at the extended reals. -/
theorem named_q_scale : Named.named (F := Ideal) κ "q_scale" (φ := .f32) 0x3E38AA3B#32 = (((Real.log 256)⁻¹ : ℝ) : EReal) := rfl

theorem pay1_apply (v : FVec Ideal S32x512 .f32) (j : Fin 512) : k0_pay1 v (Named.named (F := Ideal) κ "q_scale" (φ := .f32) 0x3E38AA3B#32) (ix2 r j) = scaled (v (ix2 r j)) := by
  rw [← scaled_eq, ← named_q_scale]
  pointwise [k0_pay1]

end Cert.InprojIdeal.Hand

end
-- ==== Proof.InprojHost.lean ====
module

public import proofs.«01_k».proof.Proof.InprojBody
public import proofs.«01_k».proof.Proof.Gen.InprojIdeal.Value
public import Idealize.ShloMosaic.Lib.Pipeline.ValueKit
public import Idealize.ShloMosaic.Lib.WordCmp

@[expose] public section

set_option maxRecDepth 16384

noncomputable section

namespace Cert.InprojIdeal.Hand

open Idealize.ShloMosaic Idealize.ShloMosaic.TcCoe Idealize.SL.Sem
open Cert.InprojIdeal.Gen Cert.Ffn Cert.Mix

/-! What the input projection leaves in its blocks, from the argument arrays. -/

variable (m : (ℓ : Loc nD τ sig) → Buf (Elt Ideal) ℓ) (c : Dev nD)

/-- The layer's input; -/
abbrev argX : Vec Ideal S32x1024 .f32 := m ((c.tc : Thread nD τ).loc main_arg0)
/-- the gain of a row; -/
abbrev argG : Vec Ideal S1024 .f32 := m ((c.tc : Thread nD τ).loc main_arg1)
/-- the input projection; -/
abbrev argW : Vec Ideal S1024x2304 .f32 := m ((c.tc : Thread nD τ).loc main_arg2)
/-- the gain of a query; -/
abbrev argGq : Vec Ideal S64 .f32 := m ((c.tc : Thread nD τ).loc main_arg3)
/-- the gain of a key. -/
abbrev argGk : Vec Ideal S64 .f32 := m ((c.tc : Thread nD τ).loc main_arg4)

/-! The arrays that are prepared before the call. -/

theorem mean_host : IsMean (V m c main_v12 : Vec Ideal S512x512 .bf16) := by
  intro a b
  entry_read
  pointwise
  rw [show IntOp.addi (BitVec.ofNat 32 (a.val / 64)) 0#32 = BitVec.ofNat 32 (a.val / 64) from BitVec.add_zero _, WordCmp.cmpi_eq_ofNat (by omega) (by omega), ofBits_64th]
  show ((((BitVec.ofBool (decide (a.val / 64 = b.val / 64))).toNat : ℝ)) : EReal) * _ = _
  by_cases h : a.val / 64 = b.val / 64
  · refine Eq.trans ?_ (if_pos h).symm
    rw [decide_eq_true h]; simp
  · refine Eq.trans ?_ (if_neg h).symm
    rw [decide_eq_false h]; simp

theorem g_host (j : Fin 1024) : (V m c main_v13 : Vec Ideal S1x1024 .f32) (ix2 0 j) = argG m c (ix1 j) := by
  entry_read
  pointwise

theorem w_host (k : Fin 1024) (n : Fin 2304) : (V m c main_v14 : Vec Ideal S1024x2304 .bf16) (ix2 k n) = argW m c (ix2 k n) := by
  entry_read
  pointwise

theorem gq_host : IsTiled (V m c main_v18 : Vec Ideal S1x512 .f32) (fun d => argGq m c (ix1 d)) := by
  intro j
  entry_read
  pointwise

theorem gk_host : IsTiled (V m c main_v22 : Vec Ideal S1x512 .f32) (fun d => argGk m c (ix1 d)) := by
  intro j
  entry_read
  pointwise

/-! The one block of a window is the whole of its array. -/

theorem idx0_0 : ∀ t : Fin cfg0.N, win0_0.index t = ![0, 0] := by decide +kernel
theorem idx0_1 : ∀ t : Fin cfg0.N, win0_1.index t = ![0, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![0, 0] := by decide +kernel
theorem idx0_7 : ∀ t : Fin cfg0.N, win0_7.index t = ![0, 0] := by decide +kernel
theorem idx0_8 : ∀ t : Fin cfg0.N, win0_8.index t = ![0, 0] := by decide +kernel
theorem idx0_9 : ∀ t : Fin cfg0.N, win0_9.index t = ![0, 0] := by decide +kernel
theorem idx0_10 : ∀ t : Fin cfg0.N, win0_10.index t = ![0, 0] := by decide +kernel

theorem x_blk (t : Fin cfg0.N) : (iblk m c 0 t : Vec Ideal S32x1024 .f32) = argX m c := by
  funext y
  refine (congrFun (V_main_arg0 m c) _).trans (congrArg (argX m c) (funext fun a => Fin.ext ?_))
  match a with
  | ⟨0, _⟩ => blk_simp [idx0_0]
  | ⟨1, _⟩ => blk_simp [idx0_0]

theorem g_blk (t : Fin cfg0.N) : (iblk m c 1 t : Vec Ideal S1x1024 .f32) = V m c main_v13 := by
  funext y
  refine congrArg (V m c main_v13 : Vec Ideal S1x1024 .f32) (funext fun a => Fin.ext ?_)
  match a with
  | ⟨0, _⟩ => blk_simp [idx0_1]
  | ⟨1, _⟩ => blk_simp [idx0_1]

theorem w_blk (t : Fin cfg0.N) : (iblk m c 2 t : Vec Ideal S1024x2304 .bf16) = V m c main_v14 := by
  funext y
  refine congrArg (V m c main_v14 : Vec Ideal S1024x2304 .bf16) (funext fun a => Fin.ext ?_)
  match a with
  | ⟨0, _⟩ => blk_simp [idx0_2]
  | ⟨1, _⟩ => blk_simp [idx0_2]

theorem gq_blk (t : Fin cfg0.N) : (iblk m c 3 t : Vec Ideal S1x512 .f32) = V m c main_v18 := by
  funext y
  refine congrArg (V m c main_v18 : Vec Ideal S1x512 .f32) (funext fun a => Fin.ext ?_)
  match a with
  | ⟨0, _⟩ => blk_simp [idx0_3]
  | ⟨1, _⟩ => blk_simp [idx0_3]

theorem gk_blk (t : Fin cfg0.N) : (iblk m c 4 t : Vec Ideal S1x512 .f32) = V m c main_v22 := by
  funext y
  refine congrArg (V m c main_v22 : Vec Ideal S1x512 .f32) (funext fun a => Fin.ext ?_)
  match a with
  | ⟨0, _⟩ => blk_simp [idx0_4]
  | ⟨1, _⟩ => blk_simp [idx0_4]

theorem mean_blk (t : Fin cfg0.N) : (iblk m c 5 t : Vec Ideal S512x512 .bf16) = V m c main_v12 := by
  funext y
  refine congrArg (V m c main_v12 : Vec Ideal S512x512 .bf16) (funext fun a => Fin.ext ?_)
  match a with
  | ⟨0, _⟩ => blk_simp [idx0_5]
  | ⟨1, _⟩ => blk_simp [idx0_5]

/-- A row's columns of the projection, from the arguments. -/
abbrev colsM (r : Fin 32) : Fin 2304 → EReal := cols (argX m c) (argG m c) (argW m c) r

theorem cols_host (r : Fin 32) : colsB (argX m c) (V m c main_v13 : Vec Ideal S1x1024 .f32) (V m c main_v14 : Vec Ideal S1024x2304 .bf16) r = colsM m c r := by
  unfold colsB colsM cols
  congr 1
  · exact funext fun j => g_host m c j

theorem hz : (![0, 0] : Fin 2 → ℕ) = fun _ => 0 := by funext a; fin_cases a <;> rfl

/-- The queries; -/
def resQ : Vec Ideal S32x512 .f32 := fun y => atQ (argX m c) (argG m c) (argW m c) (argGq m c) (y 0) (y 1)
/-- the keys; -/
def resK : Vec Ideal S32x512 .f32 := fun y => atK (argX m c) (argG m c) (argW m c) (argGk m c) (y 0) (y 1)
/-- the values; -/
def resV : Vec Ideal S32x512 .f32 := fun y => atV (argX m c) (argG m c) (argW m c) (y 0) (y 1)
/-- the inputs of the pooling; -/
def resU : Vec Ideal S32x256 .f32 := fun y => atU (argX m c) (argG m c) (argW m c) (y 0) (y 1)
/-- the gated inputs of the convolution. -/
def resH : Vec Ideal S32x256 .f32 := fun y => atH (argX m c) (argG m c) (argW m c) (y 0) (y 1)

theorem q_blk (r : Fin 32) (j : Fin 512) : out0_6 (argX m c) (V m c main_v13) (V m c main_v14) (V m c main_v18) (V m c main_v22) (V m c main_v12) (ix2 r j) = atQ (argX m c) (argG m c) (argW m c) (argGq m c) r j := by
  unfold out0_6
  rw [View.canon_unit_zero hz, View.ld_unit_zero (S := S32x1024) hz, View.ld_unit_zero (S := S1x1024) hz, View.ld_unit_zero (S := S1024x2304) hz,
    View.ld_unit_zero (S := S1x512) hz, View.ld_unit_zero (S := S512x512) hz, pay1_apply]
  refine congrArg scaled ((pay12_apply _ _ _ r _ _ _ (gq_host m c) (mean_host m c) j).trans ?_)
  rw [cols_host]

theorem k_blk (r : Fin 32) (j : Fin 512) : out0_7 (argX m c) (V m c main_v13) (V m c main_v14) (V m c main_v18) (V m c main_v22) (V m c main_v12) (ix2 r j) = atK (argX m c) (argG m c) (argW m c) (argGk m c) r j := by
  unfold out0_7
  rw [View.canon_unit_zero hz, View.ld_unit_zero (S := S32x1024) hz, View.ld_unit_zero (S := S1x1024) hz, View.ld_unit_zero (S := S1024x2304) hz,
    View.ld_unit_zero (S := S1x512) hz, View.ld_unit_zero (S := S512x512) hz]
  refine (pay2_apply r _ _ _ _ (gk_host m c) (mean_host m c) j).trans ?_
  rw [atK]
  simp only [show cols (argX m c) (argG m c) (argW m c) r = _ from (cols_host m c r).symm]
  simp only [pay7_apply]

theorem v_blk (r : Fin 32) (j : Fin 512) : out0_8 (argX m c) (V m c main_v13) (V m c main_v14) (V m c main_v18) (V m c main_v22) (V m c main_v12) (ix2 r j) = atV (argX m c) (argG m c) (argW m c) r j := by
  unfold out0_8
  rw [View.canon_unit_zero hz, View.ld_unit_zero (S := S32x1024) hz, View.ld_unit_zero (S := S1x1024) hz, View.ld_unit_zero (S := S1024x2304) hz, pay8_apply, cols_host, atV]

theorem u_blk (r : Fin 32) (j : Fin 256) : out0_9 (argX m c) (V m c main_v13) (V m c main_v14) (V m c main_v18) (V m c main_v22) (V m c main_v12) (ix2 r j) = atU (argX m c) (argG m c) (argW m c) r j := by
  unfold out0_9
  rw [View.canon_unit_zero hz, View.ld_unit_zero (S := S32x1024) hz, View.ld_unit_zero (S := S1x1024) hz, View.ld_unit_zero (S := S1024x2304) hz, pay9_apply, cols_host, atU]

theorem h_blk (r : Fin 32) (j : Fin 256) : out0_10 (argX m c) (V m c main_v13) (V m c main_v14) (V m c main_v18) (V m c main_v22) (V m c main_v12) (ix2 r j) = atH (argX m c) (argG m c) (argW m c) r j := by
  unfold out0_10
  rw [View.canon_unit_zero hz, View.ld_unit_zero (S := S32x1024) hz, View.ld_unit_zero (S := S1x1024) hz, View.ld_unit_zero (S := S1024x2304) hz, pay3_apply, pay10_apply, pay11_apply, cols_host, atH]

end Cert.InprojIdeal.Hand

end
-- ==== Proof.InprojValue.lean ====
module

public import proofs.«01_k».proof.Proof.InprojHost
public import Idealize.ShloMosaic.Lib.Pipeline.ValueKit

@[expose] public section

set_option maxRecDepth 16384

noncomputable section

namespace Cert.InprojIdeal.Hand

open Idealize.ShloMosaic Idealize.ShloMosaic.TcCoe Idealize.SL.Sem
open Cert.InprojIdeal.Gen Cert.Ffn Cert.Mix

variable (m : (ℓ : Loc nD τ sig) → Buf (Elt Ideal) ℓ) (c : Dev nD)

/-! The input projection's five result arrays, from the argument arrays. -/

theorem arr_q : (dats m 0 c).arrAt 6 cfg0.N = resQ m c := by
  refine (dats m 0 c).arrAt_eq_of_covers 6 _ (by decide +kernel) fun t hf y => ?_
  blk_simp
  rw [after0_6]
  obtain ⟨r, n, rfl⟩ : ∃ (r : Fin 32) (n : Fin 512), y = (ix2 r n : S32x512.Idx) := ⟨y 0, y 1, eq_ix2 y⟩
  have e := q_blk m c r n
  rw [← x_blk m c t, ← g_blk m c t, ← w_blk m c t, ← gq_blk m c t, ← gk_blk m c t, ← mean_blk m c t] at e
  refine e.trans ?_
  unfold resQ
  congr 1
  · exact x_blk m c t
  · refine Fin.ext ?_
    blk_simp [idx0_6]
  · refine Fin.ext ?_
    blk_simp [idx0_6]

theorem arr_k : (dats m 0 c).arrAt 7 cfg0.N = resK m c := by
  refine (dats m 0 c).arrAt_eq_of_covers 7 _ (by decide +kernel) fun t hf y => ?_
  blk_simp
  rw [after0_7]
  obtain ⟨r, n, rfl⟩ : ∃ (r : Fin 32) (n : Fin 512), y = (ix2 r n : S32x512.Idx) := ⟨y 0, y 1, eq_ix2 y⟩
  have e := k_blk m c r n
  rw [← x_blk m c t, ← g_blk m c t, ← w_blk m c t, ← gq_blk m c t, ← gk_blk m c t, ← mean_blk m c t] at e
  refine e.trans ?_
  unfold resK
  congr 1
  · exact x_blk m c t
  · refine Fin.ext ?_
    blk_simp [idx0_7]
  · refine Fin.ext ?_
    blk_simp [idx0_7]

theorem arr_v : (dats m 0 c).arrAt 8 cfg0.N = resV m c := by
  refine (dats m 0 c).arrAt_eq_of_covers 8 _ (by decide +kernel) fun t hf y => ?_
  blk_simp
  rw [after0_8]
  obtain ⟨r, n, rfl⟩ : ∃ (r : Fin 32) (n : Fin 512), y = (ix2 r n : S32x512.Idx) := ⟨y 0, y 1, eq_ix2 y⟩
  have e := v_blk m c r n
  rw [← x_blk m c t, ← g_blk m c t, ← w_blk m c t, ← gq_blk m c t, ← gk_blk m c t, ← mean_blk m c t] at e
  refine e.trans ?_
  unfold resV
  congr 1
  · exact x_blk m c t
  · refine Fin.ext ?_
    blk_simp [idx0_8]
  · refine Fin.ext ?_
    blk_simp [idx0_8]

theorem arr_u : (dats m 0 c).arrAt 9 cfg0.N = resU m c := by
  refine (dats m 0 c).arrAt_eq_of_covers 9 _ (by decide +kernel) fun t hf y => ?_
  blk_simp
  rw [after0_9]
  obtain ⟨r, n, rfl⟩ : ∃ (r : Fin 32) (n : Fin 256), y = (ix2 r n : S32x256.Idx) := ⟨y 0, y 1, eq_ix2 y⟩
  have e := u_blk m c r n
  rw [← x_blk m c t, ← g_blk m c t, ← w_blk m c t, ← gq_blk m c t, ← gk_blk m c t, ← mean_blk m c t] at e
  refine e.trans ?_
  unfold resU
  congr 1
  · exact x_blk m c t
  · refine Fin.ext ?_
    blk_simp [idx0_9]
  · refine Fin.ext ?_
    blk_simp [idx0_9]

theorem arr_h : (dats m 0 c).arrAt 10 cfg0.N = resH m c := by
  refine (dats m 0 c).arrAt_eq_of_covers 10 _ (by decide +kernel) fun t hf y => ?_
  blk_simp
  rw [after0_10]
  obtain ⟨r, n, rfl⟩ : ∃ (r : Fin 32) (n : Fin 256), y = (ix2 r n : S32x256.Idx) := ⟨y 0, y 1, eq_ix2 y⟩
  have e := h_blk m c r n
  rw [← x_blk m c t, ← g_blk m c t, ← w_blk m c t, ← gq_blk m c t, ← gk_blk m c t, ← mean_blk m c t] at e
  refine e.trans ?_
  unfold resH
  congr 1
  · exact x_blk m c t
  · refine Fin.ext ?_
    blk_simp [idx0_10]
  · refine Fin.ext ?_
    blk_simp [idx0_10]

end Cert.InprojIdeal.Hand

end
-- ==== Proof.RefInproj.lean ====
module

public import proofs.«01_k».proof.Proof.Mix
public import proofs.«01_k».proof.Proof.RefValue
public import proofs.«01_k».proof.Proof.Gen.InprojReferenceIdeal.Run
public import Idealize.ShloMosaic.Lib.Pointwise

@[expose] public section

set_option maxRecDepth 16384

noncomputable section

namespace Cert.InprojReferenceIdeal.Hand

open Idealize.ShloMosaic Idealize.ShloMosaic.TcCoe Idealize.SL.Sem
open Cert.InprojReferenceIdeal.Gen Cert.Ffn Cert.Mix

/-! The input projection's reference: its five results at an index. -/

/-- The columns of the projection. -/
def projV (x : FVec Ideal S32x1024 .f32) (g : FVec Ideal S1024 .f32) (w : FVec Ideal S1024x2304 .f32) : FVec Ideal S32x2304 .f32 :=
  Host.dotGeneral dot_S32x1024_S1024x2304_S32x2304_1_0_0_1_n_n none (mulf (mulf x (broadcastInDim S32x1024 ![0, 1] bcast_S32x1_S32x1024_0_1 (Host.rsqrt (addf (Host.divf
    (broadcastInDim S32x1 ![0] bcast_S32_S32x1_0 (Host.reduceAdd (mulf x x) (constant S_ .f32 0x00000000#32) reducesTo_S32x1024_S32_d1 h_S_))
    (broadcastInDim S32x1 ![] bcast_S_S32x1 (constant S_ .f32 0x44800000#32))) (broadcastInDim S32x1 ![] bcast_S_S32x1 (constant S_ .f32 0x358637BD#32))))))
    (broadcastInDim S32x1024 ![0, 1] bcast_S1x1024_S32x1024_0_1 (broadcastInDim S1x1024 ![1] bcast_S1024_S1x1024_1 g))) w

/-- Rows of eight heads, normalised head by head. -/
def headV (t : FVec Ideal S32x512 .f32) (g : FVec Ideal S64 .f32) : FVec Ideal S32x512 .f32 :=
  shapeCast _ (mulf (mulf (shapeCast _ t shapeCasts_S32x512_S32x8x64) (broadcastInDim S32x8x64 ![0, 1, 2] bcast_S32x8x1_S32x8x64_0_1_2 (Host.rsqrt (addf (Host.divf
    (broadcastInDim S32x8x1 ![0, 1] bcast_S32x8_S32x8x1_0_1 (Host.reduceAdd (mulf (shapeCast _ t shapeCasts_S32x512_S32x8x64) (shapeCast _ t shapeCasts_S32x512_S32x8x64))
      (constant S_ .f32 0x00000000#32) reducesTo_S32x8x64_S32x8_d2 h_S_)) (broadcastInDim S32x8x1 ![] bcast_S_S32x8x1 (constant S_ .f32 0x42800000#32)))
    (broadcastInDim S32x8x1 ![] bcast_S_S32x8x1 (constant S_ .f32 0x358637BD#32)))))) (broadcastInDim S32x8x64 ![0, 1, 2] bcast_S1x1x64_S32x8x64_0_1_2
    (broadcastInDim S1x1x64 ![2] bcast_S64_S1x1x64_2 g))) shapeCasts_S32x8x64_S32x512

/-- The queries' scale. -/
def scaleV (y : FVec Ideal S32x512 .f32) : FVec Ideal S32x512 .f32 :=
  Host.divf (mulf y (broadcastInDim S32x512 ![] bcast_S_S32x512 (constant S_ .f32 0x3E000000#32)))
    (broadcastInDim S32x512 ![] bcast_S_S32x512 (id (Host.log (constant S_ .f32 0x40000000#32))))

/-- The gate. -/
def gateV (a b : FVec Ideal S32x256 .f32) : FVec Ideal S32x256 .f32 :=
  mulf a (Host.divf (broadcastInDim S32x256 ![] bcast_S_S32x256 (constant S_ .f32 0x3F800000#32))
    (addf (broadcastInDim S32x256 ![] bcast_S_S32x256 (constant S_ .f32 0x3F800000#32)) (Host.exp (Host.negf b))))

theorem projV_apply (x : FVec Ideal S32x1024 .f32) (g : FVec Ideal S1024 .f32) (w : FVec Ideal S1024x2304 .f32) (r : Fin 32) (n : Fin 2304) :
    projV x g w (ix2 r n) = cols x g w r n := by
  pointwise [projV, cols, projRow, normed]

theorem headV_apply (t : FVec Ideal S32x512 .f32) (g : FVec Ideal S64 .f32) (r : Fin 32) (j : Fin 512) :
    headV t g (ix2 r j) = headNormed (fun c => t (ix2 r c)) (fun d => g (ix1 d)) j := by
  pointwise [headV, headNormed]

theorem scaleV_apply (y : FVec Ideal S32x512 .f32) (r : Fin 32) (j : Fin 512) : scaleV y (ix2 r j) = scaled (y (ix2 r j)) := by
  pointwise [scaleV, scaled]
  rw [show (id (Host.log (constant (F := Ideal) S_ .f32 0x40000000#32)) ix0 : EReal) = ((Real.log 2 : ℝ) : EReal) from Cert.ReferenceIdeal.Hand.log_two]

theorem gateV_apply (a b : FVec Ideal S32x256 .f32) (r : Fin 32) (j : Fin 256) : gateV a b (ix2 r j) = gated (a (ix2 r j)) (b (ix2 r j)) := by
  pointwise [gateV, gated]

variable (x : FVec Ideal S32x1024 .f32) (g : FVec Ideal S1024 .f32) (w : FVec Ideal S1024x2304 .f32) (gh : FVec Ideal S64 .f32) (r : Fin 32)

theorem q_apply (j : Fin 512) : scaleV (headV (extractStridedSlice S32x512 ![0, 0] (projV x g w) slices_S32x2304_S32x512_0_0) gh) (ix2 r j)
    = atQ x g w gh r j := by
  rw [atQ, scaleV_apply, headV_apply]
  simp only [← projV_apply]
  generalize projV x g w = p
  pointwise

theorem k_apply (j : Fin 512) : headV (extractStridedSlice S32x512 ![0, 512] (projV x g w) slices_S32x2304_S32x512_0_512) gh (ix2 r j)
    = atK x g w gh r j := by
  rw [atK, headV_apply]
  simp only [← projV_apply]
  generalize projV x g w = p
  pointwise

theorem v_apply (j : Fin 512) : extractStridedSlice S32x512 ![0, 1024] (projV x g w) slices_S32x2304_S32x512_0_1024 (ix2 r j) = atV x g w r j := by
  rw [atV, ← projV_apply]
  generalize projV x g w = p
  pointwise

theorem u_apply (j : Fin 256) : extractStridedSlice S32x256 ![0, 1536] (projV x g w) slices_S32x2304_S32x256_0_1536 (ix2 r j) = atU x g w r j := by
  rw [atU, ← projV_apply]
  generalize projV x g w = p
  pointwise

theorem h_apply (j : Fin 256) : gateV (extractStridedSlice S32x256 ![0, 1792] (projV x g w) slices_S32x2304_S32x256_0_1792)
    (extractStridedSlice S32x256 ![0, 2048] (projV x g w) slices_S32x2304_S32x256_0_2048) (ix2 r j)
    = atH x g w r j := by
  rw [atH, gateV_apply, ← projV_apply, ← projV_apply]
  generalize projV x g w = p
  pointwise

/-- The reference's run: its five results, index by index, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = (fun y => atQ (m ((c.tc : Thread nD τ).loc main_arg0)) (m ((c.tc : Thread nD τ).loc main_arg1)) (m ((c.tc : Thread nD τ).loc main_arg2)) (m ((c.tc : Thread nD τ).loc main_arg3)) (y 0) (y 1) : Vec Ideal S32x512 .f32)
      ∧ r.2.mem ((c.tc : Thread nD τ).loc main_v62) = (fun y => atK (m ((c.tc : Thread nD τ).loc main_arg0)) (m ((c.tc : Thread nD τ).loc main_arg1)) (m ((c.tc : Thread nD τ).loc main_arg2)) (m ((c.tc : Thread nD τ).loc main_arg4)) (y 0) (y 1) : Vec Ideal S32x512 .f32)
      ∧ r.2.mem ((c.tc : Thread nD τ).loc main_v16) = (fun y => atV (m ((c.tc : Thread nD τ).loc main_arg0)) (m ((c.tc : Thread nD τ).loc main_arg1)) (m ((c.tc : Thread nD τ).loc main_arg2)) (y 0) (y 1) : Vec Ideal S32x512 .f32)
      ∧ r.2.mem ((c.tc : Thread nD τ).loc main_v17) = (fun y => atU (m ((c.tc : Thread nD τ).loc main_arg0)) (m ((c.tc : Thread nD τ).loc main_arg1)) (m ((c.tc : Thread nD τ).loc main_arg2)) (y 0) (y 1) : Vec Ideal S32x256 .f32)
      ∧ r.2.mem ((c.tc : Thread nD τ).loc main_v54) = (fun y => atH (m ((c.tc : Thread nD τ).loc main_arg0)) (m ((c.tc : Thread nD τ).loc main_arg1)) (m ((c.tc : Thread nD τ).loc main_arg2)) (y 0) (y 1) : Vec Ideal S32x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run (F := Ideal) m ρ)
  obtain ⟨h0, h1, h2, h3, h4, hk⟩ := h c
  exact ⟨h0.trans (funext fun y => (congrArg _ (eq_ix2 y)).trans (q_apply (m ((c.tc : Thread nD τ).loc main_arg0)) (m ((c.tc : Thread nD τ).loc main_arg1)) (m ((c.tc : Thread nD τ).loc main_arg2)) (m ((c.tc : Thread nD τ).loc main_arg3)) (y 0) (y 1))),
    h1.trans (funext fun y => (congrArg _ (eq_ix2 y)).trans (k_apply (m ((c.tc : Thread nD τ).loc main_arg0)) (m ((c.tc : Thread nD τ).loc main_arg1)) (m ((c.tc : Thread nD τ).loc main_arg2)) (m ((c.tc : Thread nD τ).loc main_arg4)) (y 0) (y 1))),
    h2.trans (funext fun y => (congrArg _ (eq_ix2 y)).trans (v_apply (m ((c.tc : Thread nD τ).loc main_arg0)) (m ((c.tc : Thread nD τ).loc main_arg1)) (m ((c.tc : Thread nD τ).loc main_arg2)) (y 0) (y 1))),
    h3.trans (funext fun y => (congrArg _ (eq_ix2 y)).trans (u_apply (m ((c.tc : Thread nD τ).loc main_arg0)) (m ((c.tc : Thread nD τ).loc main_arg1)) (m ((c.tc : Thread nD τ).loc main_arg2)) (y 0) (y 1))),
    h4.trans (funext fun y => (congrArg _ (eq_ix2 y)).trans (h_apply (m ((c.tc : Thread nD τ).loc main_arg0)) (m ((c.tc : Thread nD τ).loc main_arg1)) (m ((c.tc : Thread nD τ).loc main_arg2)) (y 0) (y 1))), hk⟩

end Cert.InprojReferenceIdeal.Hand

end
-- ==== Proof.SampleValue.lean ====
module

public import proofs.«01_k».proof.Proof.MergeBody
public import proofs.«01_k».proof.Proof.Gen.MergeSampleIdeal.Value

@[expose] public section

set_option maxRecDepth 16384

noncomputable section

namespace Cert.MergeSampleIdeal.Hand

open Idealize.ShloMosaic Idealize.ShloMosaic.TcCoe Idealize.SL.Sem
open Cert.MergeSampleIdeal.Gen Cert.Ffn
open Cert.MergeIdeal.Hand (chunk chunk_of up_ld down_ld)

/-! The sample's merge: its one block is the whole of every array, and its result is every row after the merge and the
    feed-forward part. -/

theorem pay2_apply (v0 : Vec Ideal S32x512 .bf16) (v1 : Vec Ideal S512x1024 .bf16) (v3 : Vec Ideal S32x256 .bf16) (v4 : Vec Ideal S256x1024 .bf16)
    (v7 : Vec Ideal S32x256 .bf16) (v8 : Vec Ideal S256x1024 .bf16) (v11 : Vec Ideal S32x1024 .f32) (r : Fin 32) (n : Fin 1024) :
    k0_pay2 v0 v1 v3 v4 v7 v8 v11 (ix2 r n) = (v11 (ix2 r n) : EReal) + ((∑ k : Fin 512, v0 (ix2 r k) * v1 (ix2 k n)
      + ∑ k : Fin 256, v3 (ix2 r k) * v4 (ix2 k n)) + ∑ k : Fin 256, v7 (ix2 r k) * v8 (ix2 k n)) := by
  pointwise [k0_pay2]

theorem pay3_apply (v0 : Vec Ideal S32x512 .bf16) (v1 : Vec Ideal S512x1024 .bf16) (v3 : Vec Ideal S32x256 .bf16) (v4 : Vec Ideal S256x1024 .bf16)
    (v7 : Vec Ideal S32x256 .bf16) (v8 : Vec Ideal S256x1024 .bf16) (v11 : Vec Ideal S32x1024 .f32) (v23 : Vec Ideal S1x1024 .f32) (r : Fin 32) (n : Fin 1024) :
    k0_pay3 v0 v1 v3 v4 v7 v8 v11 v23 (ix2 r n) = normed (fun j => k0_pay2 v0 v1 v3 v4 v7 v8 v11 (ix2 r j)) (fun j => v23 (ix2 0 j)) n := by
  unfold k0_pay3 normed
  generalize k0_pay2 v0 v1 v3 v4 v7 v8 v11 = x1
  pointwise

theorem pay4_apply (v0 : Vec Ideal S32x512 .bf16) (v1 : Vec Ideal S512x1024 .bf16) (v3 : Vec Ideal S32x256 .bf16) (v4 : Vec Ideal S256x1024 .bf16)
    (v7 : Vec Ideal S32x256 .bf16) (v8 : Vec Ideal S256x1024 .bf16) (v11 : Vec Ideal S32x1024 .f32) (v23 : Vec Ideal S1x1024 .f32) (v27 : Vec Ideal S1024x1024 .bf16)
    (r : Fin 32) (f : Fin 1024) : k0_pay4 v0 v1 v3 v4 v7 v8 v11 v23 v27 (ix2 r f) =
      max (∑ k : Fin 1024, (k0_pay3 v0 v1 v3 v4 v7 v8 v11 v23 (ix2 r k) : EReal) * v27 (ix2 k f)) 0 * max (∑ k : Fin 1024, (k0_pay3 v0 v1 v3 v4 v7 v8 v11 v23 (ix2 r k) : EReal) * v27 (ix2 k f)) 0 := by
  unfold k0_pay4
  generalize k0_pay3 v0 v1 v3 v4 v7 v8 v11 v23 = h
  pointwise

theorem pay1_apply (v12 : FVec Ideal S32x1024 .f32) (v26 v32 : FVec Ideal S32x1024 .bf16) (v33 v36 v42 v45 v51 v54 v60 : Vec Ideal S1024x1024 .bf16) (r : Fin 32) (n : Fin 1024) :
    k0_pay1 v12 v26 v32 v33 v36 v42 v45 v51 v54 v60 (ix2 r n) =
      (v12 (ix2 r n) : EReal) + ∑ f : Fin 1024, v32 (ix2 r f) * v33 (ix2 f n) + chunk (fun k => v26 (ix2 r k)) v36 v42 n
        + chunk (fun k => v26 (ix2 r k)) v45 v51 n + chunk (fun k => v26 (ix2 r k)) v54 v60 n := by
  pointwise [k0_pay1, chunk]

variable (x0 : Vec Ideal S32x1024 .f32) (x1 : Vec Ideal S32x512 .bf16) (x2 x3 : Vec Ideal S32x256 .bf16) (x4 : Vec Ideal S1024x1024 .bf16)
  (x5 : Vec Ideal S1x1024 .f32) (x6 : Vec Ideal S1024x4096 .bf16) (x7 : Vec Ideal S4096x1024 .bf16)

/-- A row after the merge. -/
def mergedS (r : Fin 32) : Fin 1024 → EReal :=
  merged (fun j => x0 (ix2 r j)) (fun k => x1 (ix2 r k)) (fun k => x2 (ix2 r k)) (fun k => x3 (ix2 r k)) (fun k j => x4 (ix2 k j))

theorem pay2_ld (r : Fin 32) (n : Fin 1024) :
    k0_pay2 x1 (View.ld x4 r0_1) x2 (View.ld x4 r0_3) x3 (View.ld x4 r0_4) x0 (ix2 r n) = mergedS x0 x1 x2 x3 x4 r n := by
  simp only [View.ld_unit]
  refine (pay2_apply _ _ _ _ _ _ _ r n).trans ?_
  pointwise [mergedS, merged]

theorem pay3_ld (r : Fin 32) (n : Fin 1024) :
    k0_pay3 x1 (View.ld x4 r0_1) x2 (View.ld x4 r0_3) x3 (View.ld x4 r0_4) x0 x5 (ix2 r n) = normed (mergedS x0 x1 x2 x3 x4 r) (fun j => x5 (ix2 0 j)) n :=
  (pay3_apply _ _ _ _ _ _ _ _ r n).trans (congrArg (fun a => normed a _ n) (funext fun j => pay2_ld x0 x1 x2 x3 x4 r j))

theorem first_chunk (v27 v33 : Vec Ideal S1024x1024 .bf16) (r : Fin 32) (n : Fin 1024) :
    ∑ f : Fin 1024, (k0_pay4 x1 (View.ld x4 r0_1) x2 (View.ld x4 r0_3) x3 (View.ld x4 r0_4) x0 x5 v27 (ix2 r f) : EReal) * v33 (ix2 f n)
      = chunk (normed (mergedS x0 x1 x2 x3 x4 r) (fun j => x5 (ix2 0 j))) v27 v33 n := by
  unfold chunk
  refine Finset.sum_congr (M := EReal) rfl fun f _ => congrArg (fun y : EReal => y * _) ((pay4_apply _ _ _ _ _ _ _ _ _ r f).trans ?_)
  simp only [pay3_ld]

/-- The result array at an index. -/
theorem out_apply (r : Fin 32) (n : Fin 1024) :
    Value.G8 (F := Ideal) x0 x1 x2 x3 x4 x5 x6 x7 (ix2 r n) = layerOf x0 x1 x2 x3 x4 x5 x6 x7 r n := by
  rw [layerOf]
  refine (pay1_apply _ _ _ _ _ _ _ _ _ _ r n).trans ?_
  rw [first_chunk, ffn, sum_chunks]
  simp only [pay2_ld, pay3_ld]
  rw [chunk_of x6 x7 _ 0 (by omega) _ _ (fun k f => up_ld x6 0 _ k f (by omega)) (fun f n => down_ld x7 0 _ f n (by omega)),
    chunk_of x6 x7 _ 1024 (by omega) _ _ (fun k f => up_ld x6 1024 _ k f (by omega)) (fun f n => down_ld x7 1024 _ f n (by omega)),
    chunk_of x6 x7 _ 2048 (by omega) _ _ (fun k f => up_ld x6 2048 _ k f (by omega)) (fun f n => down_ld x7 2048 _ f n (by omega)),
    chunk_of x6 x7 _ 3072 (by omega) _ _ (fun k f => up_ld x6 3072 _ k f (by omega)) (fun f n => down_ld x7 3072 _ f n (by omega))]
  simp only [Nat.zero_add, add_assoc, mergedS]

end Cert.MergeSampleIdeal.Hand

end
-- ==== Proof.RefSample.lean ====
module

public import proofs.«01_k».proof.Proof.Ffn
public import proofs.«01_k».proof.Proof.Gen.MergeSampleReferenceIdeal.Run
public import Idealize.ShloMosaic.Lib.Pointwise

@[expose] public section

set_option maxRecDepth 16384

noncomputable section

namespace Cert.MergeSampleReferenceIdeal.Hand

open Idealize.ShloMosaic Idealize.ShloMosaic.TcCoe Idealize.SL.Sem
open Cert.MergeSampleReferenceIdeal.Gen Cert.Ffn

/-! The sample's merge: its reference: its result at an index. -/

variable (m : (ℓ : Loc nD τ sig) → Buf (Elt Ideal) ℓ) (c : Dev nD)

/-- The layer's input; -/
abbrev argX : FVec Ideal S32x1024 .f32 := m ((c.tc : Thread nD τ).loc main_arg0)
/-- the attention heads; -/
abbrev argA : FVec Ideal S32x512 .bf16 := m ((c.tc : Thread nD τ).loc main_arg1)
/-- the pooling heads; -/
abbrev argP : FVec Ideal S32x256 .bf16 := m ((c.tc : Thread nD τ).loc main_arg2)
/-- the convolution heads; -/
abbrev argC : FVec Ideal S32x256 .bf16 := m ((c.tc : Thread nD τ).loc main_arg3)
/-- the output projection; -/
abbrev argW : FVec Ideal S1024x1024 .bf16 := m ((c.tc : Thread nD τ).loc main_arg4)
/-- the gain; -/
abbrev argG : FVec Ideal S1x1024 .f32 := m ((c.tc : Thread nD τ).loc main_arg5)
/-- the up projection; -/
abbrev argU : FVec Ideal S1024x4096 .bf16 := m ((c.tc : Thread nD τ).loc main_arg6)
/-- the down projection. -/
abbrev argD : FVec Ideal S4096x1024 .bf16 := m ((c.tc : Thread nD τ).loc main_arg7)

/-- The rows after the merge. -/
def mergeV (x : FVec Ideal S32x1024 .f32) (a : FVec Ideal S32x512 .bf16) (p q : FVec Ideal S32x256 .bf16) (w : FVec Ideal S1024x1024 .bf16) : FVec Ideal S32x1024 .f32 :=
  addf x (Host.dotGeneral dot_S32x1024_S1024x1024_S32x1024_1_0_0_1_n_n none
    (concatenate S32x1024 1 [⟨S32x512, (extf .f32 a bitsLt_bf16_f32 : FVec Ideal S32x512 .f32)⟩,
      ⟨S32x256, (extf .f32 p bitsLt_bf16_f32 : FVec Ideal S32x256 .f32)⟩, ⟨S32x256, (extf .f32 q bitsLt_bf16_f32 : FVec Ideal S32x256 .f32)⟩]
      concatenates_S32x512_S32x256_S32x256_S32x1024_d1 : FVec Ideal S32x1024 .f32)
    (extf .f32 w bitsLt_bf16_f32))

/-- The rows normalised. -/
def normV (x : FVec Ideal S32x1024 .f32) (g : FVec Ideal S1x1024 .f32) : FVec Ideal S32x1024 .f32 :=
  mulf (mulf x (broadcastInDim S32x1024 ![0, 1] bcast_S32x1_S32x1024_0_1 (Host.rsqrt (addf (Host.divf
    (broadcastInDim S32x1 ![0] bcast_S32_S32x1_0 (Host.reduceAdd (mulf x x) (constant S_ .f32 0x00000000#32) reducesTo_S32x1024_S32_d1 h_S_))
    (broadcastInDim S32x1 ![] bcast_S_S32x1 (constant S_ .f32 0x44800000#32))) (broadcastInDim S32x1 ![] bcast_S_S32x1 (constant S_ .f32 0x358637BD#32))))))
    (broadcastInDim S32x1024 ![0, 1] bcast_S1x1024_S32x1024_0_1 g)

/-- The positive parts of the hidden units. -/
def reluV (h : FVec Ideal S32x1024 .f32) (u : FVec Ideal S1024x4096 .bf16) : FVec Ideal S32x4096 .f32 :=
  maximumf (Host.dotGeneral dot_S32x1024_S1024x4096_S32x4096_1_0_0_1_n_n none h (extf .f32 u bitsLt_bf16_f32))
    (broadcastInDim S32x4096 ![] bcast_S_S32x4096 (constant S_ .f32 0x00000000#32))

/-- The rows after the feed-forward part. -/
def ffnV (x : FVec Ideal S32x1024 .f32) (g : FVec Ideal S1x1024 .f32) (u : FVec Ideal S1024x4096 .bf16) (d : FVec Ideal S4096x1024 .bf16) : FVec Ideal S32x1024 .f32 :=
  addf x (Host.dotGeneral dot_S32x4096_S4096x1024_S32x1024_1_0_0_1_n_n none (mulf (reluV (normV x g) u) (reluV (normV x g) u)) (extf .f32 d bitsLt_bf16_f32))

theorem res_eq : Value.res_out0 m c = ffnV (mergeV (argX m c) (argA m c) (argP m c) (argC m c) (argW m c)) (argG m c) (argU m c) (argD m c) := rfl

theorem mergeV_apply (x : FVec Ideal S32x1024 .f32) (a : FVec Ideal S32x512 .bf16) (p q : FVec Ideal S32x256 .bf16) (w : FVec Ideal S1024x1024 .bf16) (r : Fin 32) (n : Fin 1024) :
    mergeV x a p q w (ix2 r n) = merged (fun j => x (ix2 r j)) (fun k => a (ix2 r k))
      (fun k => p (ix2 r k)) (fun k => q (ix2 r k)) (fun k j => w (ix2 k j)) n := by
  unfold mergeV merged
  pointwise
  rw [sum_groups]
  refine congrArg (fun y : EReal => x (ix2 r n) + y) (congrArg₂ (fun y z : EReal => y + z) (congrArg₂ (fun y z : EReal => y + z) ?_ ?_) ?_)
  · exact Finset.sum_congr (M := EReal) rfl fun k _ => congrArg (fun y : EReal => y * _) (dif_pos k.isLt)
  · refine Finset.sum_congr (M := EReal) rfl fun k _ => congrArg (fun y : EReal => y * _) ?_
    rw [dif_neg (show ¬ 512 + k.val < 512 by omega), dif_pos (show 512 + k.val - 512 < 256 by omega)]
    exact congrArg p (congrArg (ix2 r) (Fin.ext (show 512 + k.val - 512 = k.val by omega)))
  · refine Finset.sum_congr (M := EReal) rfl fun k _ => congrArg (fun y : EReal => y * _) ?_
    rw [dif_neg (show ¬ 768 + k.val < 512 by omega), dif_neg (show ¬ 768 + k.val - 512 < 256 by omega)]
    exact congrArg q (congrArg (ix2 r) (Fin.ext (show 768 + k.val - 512 - 256 = k.val by omega)))

theorem normV_apply (x : FVec Ideal S32x1024 .f32) (g : FVec Ideal S1x1024 .f32) (r : Fin 32) (k : Fin 1024) :
    normV x g (ix2 r k) = normed (fun j => x (ix2 r j)) (fun j => g (ix2 0 j)) k := by
  pointwise [normV, normed]

theorem ffnV_apply (x : FVec Ideal S32x1024 .f32) (g : FVec Ideal S1x1024 .f32) (u : FVec Ideal S1024x4096 .bf16) (d : FVec Ideal S4096x1024 .bf16) (r : Fin 32) (n : Fin 1024) :
    ffnV x g u d (ix2 r n) = ffn (fun j => x (ix2 r j)) (fun j => g (ix2 0 j)) (fun k f => u (ix2 k f)) (fun f j => d (ix2 f j)) n := by
  unfold ffnV ffn hid reluV
  pointwise
  simp only [normV_apply]

/-- The reference's result array. -/
theorem result_at (r : Fin 32) (n : Fin 1024) :
    Value.res_out0 m c (ix2 r n) = layerOf (argX m c) (argA m c) (argP m c) (argC m c) (argW m c) (argG m c) (argU m c) (argD m c) r n := by
  rw [res_eq, ffnV_apply, layerOf]
  simp only [mergeV_apply]

end Cert.MergeSampleReferenceIdeal.Hand

end
-- ==== Proof.PromptRow.lean ====
module

public import proofs.«01_k».proof.Proof.Mix

@[expose] public section

noncomputable section

namespace Cert.Mix

open Idealize.ShloMosaic Cert.Ffn

/-! The prompt's rows of the input projection, over the extended reals. -/

/-- The columns of the row at position `t` of sequence `b`, from the argument arrays. -/
def colsP (x : Vec Ideal ⟨3, ![2, 8192, 1024]⟩ .f32) (g : Vec Ideal ⟨1, ![1024]⟩ .f32) (w : Vec Ideal ⟨2, ![1024, 2304]⟩ .f32) (b : Fin 2) (t : Fin 8192) : Fin 2304 → EReal :=
  projRow (fun j => x (ix3 b t j)) (fun j => g (ix1 j)) (fun k n => w (ix2 k n))

/-! A key, a value, an input of the pooling and a gated input of the convolution at position `t` of sequence `b`. -/

def promptK (x : Vec Ideal ⟨3, ![2, 8192, 1024]⟩ .f32) (g : Vec Ideal ⟨1, ![1024]⟩ .f32) (w : Vec Ideal ⟨2, ![1024, 2304]⟩ .f32) (gh : Vec Ideal ⟨1, ![64]⟩ .f32) (b : Fin 2) (t : Fin 8192) (j : Fin 512) : EReal :=
  headNormed (fun k => colsP x g w b t ⟨512 + k.val, by omega⟩) (fun d => gh (ix1 d)) j
def promptV (x : Vec Ideal ⟨3, ![2, 8192, 1024]⟩ .f32) (g : Vec Ideal ⟨1, ![1024]⟩ .f32) (w : Vec Ideal ⟨2, ![1024, 2304]⟩ .f32) (b : Fin 2) (t : Fin 8192) (j : Fin 512) : EReal := colsP x g w b t ⟨1024 + j.val, by omega⟩
def promptU (x : Vec Ideal ⟨3, ![2, 8192, 1024]⟩ .f32) (g : Vec Ideal ⟨1, ![1024]⟩ .f32) (w : Vec Ideal ⟨2, ![1024, 2304]⟩ .f32) (b : Fin 2) (t : Fin 8192) (j : Fin 256) : EReal := colsP x g w b t ⟨1536 + j.val, by omega⟩
def promptH (x : Vec Ideal ⟨3, ![2, 8192, 1024]⟩ .f32) (g : Vec Ideal ⟨1, ![1024]⟩ .f32) (w : Vec Ideal ⟨2, ![1024, 2304]⟩ .f32) (b : Fin 2) (t : Fin 8192) (j : Fin 256) : EReal := gated (colsP x g w b t ⟨1792 + j.val, by omega⟩) (colsP x g w b t ⟨2048 + j.val, by omega⟩)

/-- The column of feature `d` of head `h`. -/
def col (h : Fin 8) (d : Fin 64) : Fin 512 := ⟨h.val * 64 + d.val, by omega⟩

/-- Two layers' keys or values, positions last: the first layer's as given, the last layer's from a row per position. -/
def stacked (old : Vec Ideal ⟨5, ![2, 2, 8, 64, 8192]⟩ .f32) (row : Fin 2 → Fin 8192 → Fin 512 → EReal) (l : Fin 2) (b : Fin 2) (h : Fin 8) (d : Fin 64) (t : Fin 8192) : EReal :=
  if l.val = 0 then old (ix5 l b h d t) else row b t (col h d)

end Cert.Mix

end
-- ==== Proof.PromptBody.lean ====
module

public import proofs.«01_k».proof.Proof.PromptRow
public import proofs.«01_k».proof.Proof.Gen.InprojPromptIdeal.Skeleton
public import Idealize.ShloMosaic.Lib.Pipeline.Value
public import Idealize.ShloMosaic.Lib.Pointwise

@[expose] public section

set_option maxRecDepth 16384

noncomputable section

namespace Cert.InprojPromptIdeal.Hand

open Idealize.ShloMosaic Idealize.SL.Sem
open Cert.InprojPromptIdeal.Gen Cert.Ffn Cert.Mix

/-! What the body of the prompt's input projection computes from the blocks it loads, at an index. -/

variable (v0 : Vec Ideal S1x256x1024 .f32) (v1 : Vec Ideal S1x1024 .f32) (v3 : Vec Ideal S1024x2304 .bf16) (r : Fin 256)

/-- The columns of a row of the block. -/
def colsB : Fin 2304 → EReal := projRow (fun j => v0 (ix3 0 r j)) (fun j => v1 (ix2 0 j)) (fun k n => v3 (ix2 k n))

theorem pay4_apply (n : Fin 2304) : k0_pay4 v0 v1 v3 (ix2 r n) = colsB v0 v1 v3 r n := by
  pointwise [k0_pay4, colsB, projRow, normed]

theorem pay5_apply (j : Fin 512) : k0_pay5 v0 v1 v3 (ix2 r j) = colsB v0 v1 v3 r ⟨512 + j.val, by omega⟩ := by
  unfold k0_pay5
  refine Eq.trans ?_ (pay4_apply v0 v1 v3 r _)
  generalize k0_pay4 v0 v1 v3 = x
  pointwise

theorem pay6_apply (j : Fin 512) : k0_pay6 v0 v1 v3 (ix2 r j) = colsB v0 v1 v3 r ⟨1024 + j.val, by omega⟩ := by
  unfold k0_pay6
  refine Eq.trans ?_ (pay4_apply v0 v1 v3 r _)
  generalize k0_pay4 v0 v1 v3 = x
  pointwise

theorem pay7_apply (j : Fin 256) : k0_pay7 v0 v1 v3 (ix2 r j) = colsB v0 v1 v3 r ⟨1536 + j.val, by omega⟩ := by
  unfold k0_pay7
  refine Eq.trans ?_ (pay4_apply v0 v1 v3 r _)
  generalize k0_pay4 v0 v1 v3 = x
  pointwise

theorem pay8_apply (j : Fin 256) : k0_pay8 v0 v1 v3 (ix2 r j) = colsB v0 v1 v3 r ⟨1792 + j.val, by omega⟩ := by
  unfold k0_pay8
  refine Eq.trans ?_ (pay4_apply v0 v1 v3 r _)
  generalize k0_pay4 v0 v1 v3 = x
  pointwise

theorem pay9_apply (j : Fin 256) : k0_pay9 v0 v1 v3 (ix2 r j) = colsB v0 v1 v3 r ⟨2048 + j.val, by omega⟩ := by
  unfold k0_pay9
  refine Eq.trans ?_ (pay4_apply v0 v1 v3 r _)
  generalize k0_pay4 v0 v1 v3 = x
  pointwise

theorem pay13_apply (a : FVec Ideal S256x256 .f32) (j : Fin 256) : k0_pay13 a (ix3 0 r j) = a (ix2 r j) := by
  pointwise [k0_pay13]

theorem pay14_apply (a b : FVec Ideal S256x256 .f32) (j : Fin 256) : k0_pay14 a b (ix3 0 r j) = gated (a (ix2 r j)) (b (ix2 r j)) := by
  pointwise [k0_pay14, gated]
  rfl

/-- The matrix that takes the mean over a head. -/
def IsMean (v9 : Vec Ideal S512x512 .bf16) : Prop := ∀ c j : Fin 512, v9 (ix2 c j) = if c.val / 64 = j.val / 64 then ((1 / 64 : ℝ) : EReal) else 0

/-- The gain of a head, once per head. -/
def IsTiled (v5 : Vec Ideal S1x512 .f32) (g : Fin 64 → EReal) : Prop := ∀ j : Fin 512, v5 (ix2 0 j) = g ⟨j.val % 64, by omega⟩

theorem pay12_apply (v8 : Vec Ideal S1x512 .f32) (v10 : Vec Ideal S512x512 .bf16) (v26 : FVec Ideal S256x512 .f32) (g : Fin 64 → EReal) (h8 : IsTiled v8 g) (h10 : IsMean v10)
    (j : Fin 512) : k0_pay12 (k0_pay2 v8) (k0_pay3 v10) v26 (ix2 r j) = headNormed (fun c => v26 (ix2 r c)) g j := by
  unfold headNormed
  rw [← head_mean (fun c => v26 (ix2 r c) * v26 (ix2 r c)) j, ← h8 j]
  simp only [← h10 _ j]
  pointwise [k0_pay12, k0_pay2, k0_pay3]

theorem pay17_apply (a : FVec Ideal S1x512 .f32) (b : FVec Ideal S512x512 .bf16) (x : FVec Ideal S256x512 .f32) (j : Fin 512) :
    k0_pay17 a b x (ix2 j r) = k0_pay12 a b x (ix2 r j) := by
  unfold k0_pay17
  generalize k0_pay12 a b x = y
  pointwise

theorem pay18_apply (x : FVec Ideal S256x512 .f32) (j : Fin 512) : k0_pay18 x (ix2 j r) = x (ix2 r j) := by
  pointwise [k0_pay18]

/-! One head's features, positions last. -/

theorem key0_apply (x : FVec Ideal S512x256 .f32) (d : Fin 64) : k0_pay23 x (ix5 0 0 0 d r) = x (ix2 (col 0 d) r) := by
  pointwise [k0_pay23, col]

theorem val0_apply (x : FVec Ideal S512x256 .f32) (d : Fin 64) : k0_pay24 x (ix5 0 0 0 d r) = x (ix2 (col 0 d) r) := by
  pointwise [k0_pay24, col]

theorem key1_apply (x : FVec Ideal S512x256 .f32) (d : Fin 64) : k0_pay29 x (ix5 0 0 0 d r) = x (ix2 (col 1 d) r) := by
  pointwise [k0_pay29, col]

theorem val1_apply (x : FVec Ideal S512x256 .f32) (d : Fin 64) : k0_pay30 x (ix5 0 0 0 d r) = x (ix2 (col 1 d) r) := by
  pointwise [k0_pay30, col]

theorem key2_apply (x : FVec Ideal S512x256 .f32) (d : Fin 64) : k0_pay35 x (ix5 0 0 0 d r) = x (ix2 (col 2 d) r) := by
  pointwise [k0_pay35, col]

theorem val2_apply (x : FVec Ideal S512x256 .f32) (d : Fin 64) : k0_pay36 x (ix5 0 0 0 d r) = x (ix2 (col 2 d) r) := by
  pointwise [k0_pay36, col]

theorem key3_apply (x : FVec Ideal S512x256 .f32) (d : Fin 64) : k0_pay42 x (ix5 0 0 0 d r) = x (ix2 (col 3 d) r) := by
  pointwise [k0_pay42, col]

theorem val3_apply (x : FVec Ideal S512x256 .f32) (d : Fin 64) : k0_pay43 x (ix5 0 0 0 d r) = x (ix2 (col 3 d) r) := by
  pointwise [k0_pay43, col]

theorem key4_apply (x : FVec Ideal S512x256 .f32) (d : Fin 64) : k0_pay49 x (ix5 0 0 0 d r) = x (ix2 (col 4 d) r) := by
  pointwise [k0_pay49, col]

theorem val4_apply (x : FVec Ideal S512x256 .f32) (d : Fin 64) : k0_pay50 x (ix5 0 0 0 d r) = x (ix2 (col 4 d) r) := by
  pointwise [k0_pay50, col]

theorem key5_apply (x : FVec Ideal S512x256 .f32) (d : Fin 64) : k0_pay56 x (ix5 0 0 0 d r) = x (ix2 (col 5 d) r) := by
  pointwise [k0_pay56, col]

theorem val5_apply (x : FVec Ideal S512x256 .f32) (d : Fin 64) : k0_pay57 x (ix5 0 0 0 d r) = x (ix2 (col 5 d) r) := by
  pointwise [k0_pay57, col]

theorem key6_apply (x : FVec Ideal S512x256 .f32) (d : Fin 64) : k0_pay63 x (ix5 0 0 0 d r) = x (ix2 (col 6 d) r) := by
  pointwise [k0_pay63, col]

theorem val6_apply (x : FVec Ideal S512x256 .f32) (d : Fin 64) : k0_pay64 x (ix5 0 0 0 d r) = x (ix2 (col 6 d) r) := by
  pointwise [k0_pay64, col]

theorem key7_apply (x : FVec Ideal S512x256 .f32) (d : Fin 64) : k0_pay69 x (ix5 0 0 0 d r) = x (ix2 (col 7 d) r) := by
  pointwise [k0_pay69, col]

theorem val7_apply (x : FVec Ideal S512x256 .f32) (d : Fin 64) : k0_pay1 (k0_pay70 x) (ix5 0 0 0 d r) = x (ix2 (col 7 d) r) := by
  pointwise [k0_pay1, k0_pay70, col]

end Cert.InprojPromptIdeal.Hand

end
-- ==== Proof.PromptBlock.lean ====
module

public import proofs.«01_k».proof.Proof.PromptBody
public import proofs.«01_k».proof.Proof.Gen.InprojPromptIdeal.Frame
public import Idealize.ShloMosaic.Lib.Pipeline.Value
public import Idealize.ShloMosaic.Lib.VecWindow

@[expose] public section

set_option maxRecDepth 16384

noncomputable section

namespace Cert.InprojPromptIdeal.Hand

open Idealize.ShloMosaic Idealize.SL.Sem
open Cert.InprojPromptIdeal.Gen Cert.Ffn Cert.Mix

/-! What the body of the prompt's input projection leaves in its blocks. -/

variable (c : Dev nD) (i : grid0.Coords) (arg1 : Memref sig .tc .vmem S1x256x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S64x256 .bf16) (harg9 : arg9.IsWhole) (arg12 : Memref sig .tc .vmem S1x8x128x256 .bf16) (harg12 : arg12.IsWhole) (arg13 : Memref sig .tc .vmem S1x8x1x256x128 .bf16) (harg13 : arg13.IsWhole) (arg14 : Memref sig .tc .vmem S1x8x1x64x256 .bf16) (harg14 : arg14.IsWhole) (arg15 : Memref sig .tc .vmem S1x1x8x64x256 .f32) (harg15 : arg15.IsWhole) (arg16 : Memref sig .tc .vmem S1x1x8x64x256 .f32) (harg16 : arg16.IsWhole) (arg17 : Memref sig .tc .vmem S1x256x256 .f32) (harg17 : arg17.IsWhole) (arg18 : Memref sig .tc .vmem S1x256x256 .f32) (harg18 : arg18.IsWhole)
    (x0 : Vec Ideal S1x256x1024 .f32) (x1 : Vec Ideal S1x1024 .f32) (x2 : Vec Ideal S1024x2304 .bf16) (x3 : Vec Ideal S1x512 .f32) (x4 : Vec Ideal S1x512 .f32) (x5 : Vec Ideal S512x512 .bf16) (x6 : Vec Ideal S512x1024 .bf16) (x7 : Vec Ideal S1x1024 .f32) (x8 : Vec Ideal S64x256 .bf16)

theorem hz3 : (![0, 0, 0] : Fin 3 → ℕ) = fun _ => 0 := by funext a; fin_cases a <;> rfl

/-- The features of the keys, by column and position. -/
theorem r11_apply (g : Fin 64 → EReal) (h4 : IsTiled x4 g) (h5 : IsMean x5) (j : Fin 512) (r : Fin 256) :
    kernelRun0_A.sl.r_11 c arg1 harg1 arg2 harg2 arg3 harg3 arg5 harg5 arg6 harg6 x0 x1 x2 x4 x5 (ix2 j r) = headNormed (fun k => colsB x0 x1 x2 r ⟨512 + k.val, by omega⟩) g j := by
  unfold kernelRun0_A.sl.r_11 kernelRun0_A.sl.r kernelRun0_A.sl.r_1 kernelRun0_A.sl.r_2
  rw [View.readAt_full (s := S1x512), View.readAt_full (s := S512x512), View.readAt_full (s := S1x256x1024), View.readAt_full (s := S1x1024), View.readAt_full (s := S1024x2304),
    harg1.read_unread, harg2.read_unread, harg3.read_unread, harg5.read_unread, harg6.read_unread, pay17_apply, pay12_apply r x4 x5 _ g h4 h5 j]
  simp only [pay5_apply]

/-- The features of the values, by column and position. -/
theorem r12_apply (j : Fin 512) (r : Fin 256) : kernelRun0_A.sl.r_12 c arg1 harg1 arg2 harg2 arg3 harg3 x0 x1 x2 (ix2 j r) = colsB x0 x1 x2 r ⟨1024 + j.val, by omega⟩ := by
  unfold kernelRun0_A.sl.r_12 kernelRun0_A.sl.r_3
  rw [View.readAt_full (s := S1x256x1024), View.readAt_full (s := S1x1024), View.readAt_full (s := S1024x2304),
    harg1.read_unread, harg2.read_unread, harg3.read_unread, pay18_apply, pay6_apply]

/-- The index of a head's block. -/
theorem eq_head (x : S1x1x1x64x256.Idx) : x = (ix5 0 0 0 (x 3) (x 4) : S1x1x1x64x256.Idx) := by
  refine (eq_ix5 x).trans ?_
  rw [show x 0 = (0 : Fin 1) from Subsingleton.elim (α := Fin 1) _ _, show x 1 = (0 : Fin 1) from Subsingleton.elim (α := Fin 1) _ _, show x 2 = (0 : Fin 1) from Subsingleton.elim (α := Fin 1) _ _]

/-- Head `h`'s block, in the block of all the heads. -/
theorem head_emb (h : Fin 8) (inb) (x : S1x1x1x64x256.Idx) :
    ((Rect.unit (s := S1x1x8x64x256) ![0, 0, h.val, 0, 0] ![1, 1, 1, 64, 256] inb).emb x : S1x1x8x64x256.Idx) = (ix5 0 0 h (x 3) (x 4) : S1x1x8x64x256.Idx) := by
  funext a
  refine Fin.ext ?_
  have h0 : (x 0).val < 1 := (x 0).isLt
  have h1 : (x 1).val < 1 := (x 1).isLt
  have h2 : (x 2).val < 1 := (x 2).isLt
  match a with
  | ⟨0, _⟩ => show 0 + 1 * (x 0).val = 0; omega
  | ⟨1, _⟩ => show 0 + 1 * (x 1).val = 0; omega
  | ⟨2, _⟩ => show h.val + 1 * (x 2).val = h.val; omega
  | ⟨3, _⟩ => show 0 + 1 * (x 3).val = (x 3).val; omega
  | ⟨4, _⟩ => show 0 + 1 * (x 4).val = (x 4).val; omega

variable {c i arg1 harg1 arg2 harg2 arg3 harg3 arg4 harg4 arg5 harg5 arg6 harg6 arg7 harg7 arg8 harg8 arg9 harg9 arg12 harg12 arg13 harg13 arg14 harg14 arg15 harg15 arg16 harg16 arg17 harg17 arg18 harg18 x0 x1 x2 x3 x4 x5 x6 x7 x8}

/-- The keys' block: head `h`, feature `d`, position `r`. -/
theorem k_block (g : Fin 64 → EReal) (h4 : IsTiled x4 g) (h5 : IsMean x5) (h : Fin 8) (d : Fin 64) (r : Fin 256) :
    out0_A_12 c i arg1 harg1 arg2 harg2 arg3 harg3 arg4 harg4 arg5 harg5 arg6 harg6 arg7 harg7 arg8 harg8 arg9 harg9 arg12 harg12 arg13 harg13 arg14 harg14 arg15 harg15 arg16 harg16 arg17 harg17 arg18 harg18 x0 x1 x2 x3 x4 x5 x6 x7 x8 (ix5 0 0 h d r : S1x1x8x64x256.Idx) = headNormed (fun k => colsB x0 x1 x2 r ⟨512 + k.val, by omega⟩) g (col h d) := by
  unfold out0_A_12
  rw [View.read_writes_junk_eq_canon]
  refine (View.canon_apply_of_pieces (fun y : S1x1x8x64x256.Idx => headNormed (fun k => colsB x0 x1 x2 (y 4) ⟨512 + k.val, by omega⟩) g (col (y 2) (y 3))) _ ?_ _ (cover0_A_12 c i arg1 harg1 arg2 harg2 arg3 harg3 arg4 harg4 arg5 harg5 arg6 harg6 arg7 harg7 arg8 harg8 arg9 harg9 arg12 harg12 arg13 harg13 arg14 harg14 arg15 harg15 arg16 harg16 arg17 harg17 arg18 harg18 x0 x1 x2 x3 x4 x5 x6 x7 x8 _))
  delta kernelRun0_A
  dsimp only
  intro p hp
  simp only [List.mem_cons, List.not_mem_nil, or_false] at hp
  rcases hp with rfl | rfl | rfl | rfl | rfl | rfl | rfl | rfl
  · intro x
    refine Eq.trans ?_ (congrArg (fun y : S1x1x8x64x256.Idx => headNormed (fun k => colsB x0 x1 x2 (y 4) ⟨512 + k.val, by omega⟩) g (col (y 2) (y 3))) (head_emb 7 inb_S1x1x8x64x256_S1x1x1x64x256_0_0_7_0_0 x)).symm
    exact ((congrArg _ (eq_head x)).trans (key7_apply (x 4) _ (x 3))).trans (r11_apply c arg1 harg1 arg2 harg2 arg3 harg3 arg5 harg5 arg6 harg6 x0 x1 x2 x4 x5 g h4 h5 _ _)
  · intro x
    refine Eq.trans ?_ (congrArg (fun y : S1x1x8x64x256.Idx => headNormed (fun k => colsB x0 x1 x2 (y 4) ⟨512 + k.val, by omega⟩) g (col (y 2) (y 3))) (head_emb 6 inb_S1x1x8x64x256_S1x1x1x64x256_0_0_6_0_0 x)).symm
    exact ((congrArg _ (eq_head x)).trans (key6_apply (x 4) _ (x 3))).trans (r11_apply c arg1 harg1 arg2 harg2 arg3 harg3 arg5 harg5 arg6 harg6 x0 x1 x2 x4 x5 g h4 h5 _ _)
  · intro x
    refine Eq.trans ?_ (congrArg (fun y : S1x1x8x64x256.Idx => headNormed (fun k => colsB x0 x1 x2 (y 4) ⟨512 + k.val, by omega⟩) g (col (y 2) (y 3))) (head_emb 5 inb_S1x1x8x64x256_S1x1x1x64x256_0_0_5_0_0 x)).symm
    exact ((congrArg _ (eq_head x)).trans (key5_apply (x 4) _ (x 3))).trans (r11_apply c arg1 harg1 arg2 harg2 arg3 harg3 arg5 harg5 arg6 harg6 x0 x1 x2 x4 x5 g h4 h5 _ _)
  · intro x
    refine Eq.trans ?_ (congrArg (fun y : S1x1x8x64x256.Idx => headNormed (fun k => colsB x0 x1 x2 (y 4) ⟨512 + k.val, by omega⟩) g (col (y 2) (y 3))) (head_emb 4 inb_S1x1x8x64x256_S1x1x1x64x256_0_0_4_0_0 x)).symm
    exact ((congrArg _ (eq_head x)).trans (key4_apply (x 4) _ (x 3))).trans (r11_apply c arg1 harg1 arg2 harg2 arg3 harg3 arg5 harg5 arg6 harg6 x0 x1 x2 x4 x5 g h4 h5 _ _)
  · intro x
    refine Eq.trans ?_ (congrArg (fun y : S1x1x8x64x256.Idx => headNormed (fun k => colsB x0 x1 x2 (y 4) ⟨512 + k.val, by omega⟩) g (col (y 2) (y 3))) (head_emb 3 inb_S1x1x8x64x256_S1x1x1x64x256_0_0_3_0_0 x)).symm
    exact ((congrArg _ (eq_head x)).trans (key3_apply (x 4) _ (x 3))).trans (r11_apply c arg1 harg1 arg2 harg2 arg3 harg3 arg5 harg5 arg6 harg6 x0 x1 x2 x4 x5 g h4 h5 _ _)
  · intro x
    refine Eq.trans ?_ (congrArg (fun y : S1x1x8x64x256.Idx => headNormed (fun k => colsB x0 x1 x2 (y 4) ⟨512 + k.val, by omega⟩) g (col (y 2) (y 3))) (head_emb 2 inb_S1x1x8x64x256_S1x1x1x64x256_0_0_2_0_0 x)).symm
    exact ((congrArg _ (eq_head x)).trans (key2_apply (x 4) _ (x 3))).trans (r11_apply c arg1 harg1 arg2 harg2 arg3 harg3 arg5 harg5 arg6 harg6 x0 x1 x2 x4 x5 g h4 h5 _ _)
  · intro x
    refine Eq.trans ?_ (congrArg (fun y : S1x1x8x64x256.Idx => headNormed (fun k => colsB x0 x1 x2 (y 4) ⟨512 + k.val, by omega⟩) g (col (y 2) (y 3))) (head_emb 1 inb_S1x1x8x64x256_S1x1x1x64x256_0_0_1_0_0 x)).symm
    exact ((congrArg _ (eq_head x)).trans (key1_apply (x 4) _ (x 3))).trans (r11_apply c arg1 harg1 arg2 harg2 arg3 harg3 arg5 harg5 arg6 harg6 x0 x1 x2 x4 x5 g h4 h5 _ _)
  · intro x
    refine Eq.trans ?_ (congrArg (fun y : S1x1x8x64x256.Idx => headNormed (fun k => colsB x0 x1 x2 (y 4) ⟨512 + k.val, by omega⟩) g (col (y 2) (y 3))) (head_emb 0 inb_S1x1x8x64x256_S1x1x1x64x256_0_0_0_0_0 x)).symm
    exact ((congrArg _ (eq_head x)).trans (key0_apply (x 4) _ (x 3))).trans (r11_apply c arg1 harg1 arg2 harg2 arg3 harg3 arg5 harg5 arg6 harg6 x0 x1 x2 x4 x5 g h4 h5 _ _)

/-- The values' block: head `h`, feature `d`, position `r`. -/
theorem v_block (h : Fin 8) (d : Fin 64) (r : Fin 256) :
    out0_A_13 c i arg1 harg1 arg2 harg2 arg3 harg3 arg4 harg4 arg5 harg5 arg6 harg6 arg7 harg7 arg8 harg8 arg9 harg9 arg12 harg12 arg13 harg13 arg14 harg14 arg15 harg15 arg16 harg16 arg17 harg17 arg18 harg18 x0 x1 x2 x3 x4 x5 x6 x7 x8 (ix5 0 0 h d r : S1x1x8x64x256.Idx) = colsB x0 x1 x2 r ⟨1024 + (col h d).val, by omega⟩ := by
  unfold out0_A_13
  rw [View.read_writes_junk_eq_canon]
  refine (View.canon_apply_of_pieces (fun y : S1x1x8x64x256.Idx => colsB x0 x1 x2 (y 4) ⟨1024 + (col (y 2) (y 3)).val, by omega⟩) _ ?_ _ (cover0_A_13 c i arg1 harg1 arg2 harg2 arg3 harg3 arg4 harg4 arg5 harg5 arg6 harg6 arg7 harg7 arg8 harg8 arg9 harg9 arg12 harg12 arg13 harg13 arg14 harg14 arg15 harg15 arg16 harg16 arg17 harg17 arg18 harg18 x0 x1 x2 x3 x4 x5 x6 x7 x8 _))
  delta kernelRun0_A
  dsimp only
  intro p hp
  simp only [List.mem_cons, List.not_mem_nil, or_false] at hp
  rcases hp with rfl | rfl | rfl | rfl | rfl | rfl | rfl | rfl
  · intro x
    refine Eq.trans ?_ (congrArg (fun y : S1x1x8x64x256.Idx => colsB x0 x1 x2 (y 4) ⟨1024 + (col (y 2) (y 3)).val, by omega⟩) (head_emb 7 inb_S1x1x8x64x256_S1x1x1x64x256_0_0_7_0_0 x)).symm
    exact ((congrArg _ (eq_head x)).trans (val7_apply (x 4) _ (x 3))).trans (r12_apply c arg1 harg1 arg2 harg2 arg3 harg3 x0 x1 x2 _ _)
  · intro x
    refine Eq.trans ?_ (congrArg (fun y : S1x1x8x64x256.Idx => colsB x0 x1 x2 (y 4) ⟨1024 + (col (y 2) (y 3)).val, by omega⟩) (head_emb 6 inb_S1x1x8x64x256_S1x1x1x64x256_0_0_6_0_0 x)).symm
    exact ((congrArg _ (eq_head x)).trans (val6_apply (x 4) _ (x 3))).trans (r12_apply c arg1 harg1 arg2 harg2 arg3 harg3 x0 x1 x2 _ _)
  · intro x
    refine Eq.trans ?_ (congrArg (fun y : S1x1x8x64x256.Idx => colsB x0 x1 x2 (y 4) ⟨1024 + (col (y 2) (y 3)).val, by omega⟩) (head_emb 5 inb_S1x1x8x64x256_S1x1x1x64x256_0_0_5_0_0 x)).symm
    exact ((congrArg _ (eq_head x)).trans (val5_apply (x 4) _ (x 3))).trans (r12_apply c arg1 harg1 arg2 harg2 arg3 harg3 x0 x1 x2 _ _)
  · intro x
    refine Eq.trans ?_ (congrArg (fun y : S1x1x8x64x256.Idx => colsB x0 x1 x2 (y 4) ⟨1024 + (col (y 2) (y 3)).val, by omega⟩) (head_emb 4 inb_S1x1x8x64x256_S1x1x1x64x256_0_0_4_0_0 x)).symm
    exact ((congrArg _ (eq_head x)).trans (val4_apply (x 4) _ (x 3))).trans (r12_apply c arg1 harg1 arg2 harg2 arg3 harg3 x0 x1 x2 _ _)
  · intro x
    refine Eq.trans ?_ (congrArg (fun y : S1x1x8x64x256.Idx => colsB x0 x1 x2 (y 4) ⟨1024 + (col (y 2) (y 3)).val, by omega⟩) (head_emb 3 inb_S1x1x8x64x256_S1x1x1x64x256_0_0_3_0_0 x)).symm
    exact ((congrArg _ (eq_head x)).trans (val3_apply (x 4) _ (x 3))).trans (r12_apply c arg1 harg1 arg2 harg2 arg3 harg3 x0 x1 x2 _ _)
  · intro x
    refine Eq.trans ?_ (congrArg (fun y : S1x1x8x64x256.Idx => colsB x0 x1 x2 (y 4) ⟨1024 + (col (y 2) (y 3)).val, by omega⟩) (head_emb 2 inb_S1x1x8x64x256_S1x1x1x64x256_0_0_2_0_0 x)).symm
    exact ((congrArg _ (eq_head x)).trans (val2_apply (x 4) _ (x 3))).trans (r12_apply c arg1 harg1 arg2 harg2 arg3 harg3 x0 x1 x2 _ _)
  · intro x
    refine Eq.trans ?_ (congrArg (fun y : S1x1x8x64x256.Idx => colsB x0 x1 x2 (y 4) ⟨1024 + (col (y 2) (y 3)).val, by omega⟩) (head_emb 1 inb_S1x1x8x64x256_S1x1x1x64x256_0_0_1_0_0 x)).symm
    exact ((congrArg _ (eq_head x)).trans (val1_apply (x 4) _ (x 3))).trans (r12_apply c arg1 harg1 arg2 harg2 arg3 harg3 x0 x1 x2 _ _)
  · intro x
    refine Eq.trans ?_ (congrArg (fun y : S1x1x8x64x256.Idx => colsB x0 x1 x2 (y 4) ⟨1024 + (col (y 2) (y 3)).val, by omega⟩) (head_emb 0 inb_S1x1x8x64x256_S1x1x1x64x256_0_0_0_0_0 x)).symm
    exact ((congrArg _ (eq_head x)).trans (val0_apply (x 4) _ (x 3))).trans (r12_apply c arg1 harg1 arg2 harg2 arg3 harg3 x0 x1 x2 _ _)

/-- The block of the pooling's inputs. -/
theorem u_block (r : Fin 256) (j : Fin 256) : out0_A_14 c i arg1 harg1 arg2 harg2 arg3 harg3 arg4 harg4 arg5 harg5 arg6 harg6 arg7 harg7 arg8 harg8 arg9 harg9 arg12 harg12 arg13 harg13 arg14 harg14 arg15 harg15 arg16 harg16 arg17 harg17 arg18 harg18 x0 x1 x2 x3 x4 x5 x6 x7 x8 (ix3 0 r j : S1x256x256.Idx) = colsB x0 x1 x2 r ⟨1536 + j.val, by omega⟩ := by
  unfold out0_A_14
  rw [View.read_writes_junk_eq_canon]
  delta kernelRun0_A
  dsimp only
  rw [View.canon_unit_zero (S := S1x256x256) hz3]
  unfold kernelRun0_A.sl.r_4
  rw [View.readAt_full (s := S1x256x1024), View.readAt_full (s := S1x1024), View.readAt_full (s := S1024x2304), harg1.read_unread, harg2.read_unread, harg3.read_unread, pay13_apply, pay7_apply]

/-- The block of the gated inputs of the convolution. -/
theorem h_block (r : Fin 256) (j : Fin 256) : out0_A_15 c i arg1 harg1 arg2 harg2 arg3 harg3 arg4 harg4 arg5 harg5 arg6 harg6 arg7 harg7 arg8 harg8 arg9 harg9 arg12 harg12 arg13 harg13 arg14 harg14 arg15 harg15 arg16 harg16 arg17 harg17 arg18 harg18 x0 x1 x2 x3 x4 x5 x6 x7 x8 (ix3 0 r j : S1x256x256.Idx) = gated (colsB x0 x1 x2 r ⟨1792 + j.val, by omega⟩) (colsB x0 x1 x2 r ⟨2048 + j.val, by omega⟩) := by
  unfold out0_A_15
  rw [View.read_writes_junk_eq_canon]
  delta kernelRun0_A
  dsimp only
  rw [View.canon_unit_zero (S := S1x256x256) hz3]
  unfold kernelRun0_A.sl.r_5 kernelRun0_A.sl.r_6
  rw [View.readAt_full (s := S1x256x1024), View.readAt_full (s := S1x1024), View.readAt_full (s := S1024x2304), harg1.read_unread, harg2.read_unread, harg3.read_unread, pay14_apply, pay8_apply, pay9_apply]

end Cert.InprojPromptIdeal.Hand

end
-- ==== Proof.PromptHost.lean ====
module

public import proofs.«01_k».proof.Proof.PromptBlock
public import proofs.«01_k».proof.Proof.Gen.InprojPromptIdeal.Value
public import Idealize.ShloMosaic.Lib.Pipeline.ValueKit
public import Idealize.ShloMosaic.Lib.WordCmp

@[expose] public section

set_option maxRecDepth 16384

noncomputable section

namespace Cert.InprojPromptIdeal.Hand

open Idealize.ShloMosaic Idealize.ShloMosaic.TcCoe Idealize.SL.Sem
open Cert.InprojPromptIdeal.Gen Cert.Ffn Cert.Mix

/-! What the prompt's input projection leaves in its blocks, from the argument arrays. -/

variable (m : (ℓ : Loc nD τ sig) → Buf (Elt Ideal) ℓ) (c : Dev nD)

/-- The layer's input; -/
abbrev argX : Vec Ideal S2x8192x1024 .f32 := m ((c.tc : Thread nD τ).loc main_arg0)
/-- the gain of a row; -/
abbrev argG : Vec Ideal S1024 .f32 := m ((c.tc : Thread nD τ).loc main_arg1)
/-- the input projection; -/
abbrev argW : Vec Ideal S1024x2304 .f32 := m ((c.tc : Thread nD τ).loc main_arg2)
/-- the gain of a key; -/
abbrev argGk : Vec Ideal S64 .f32 := m ((c.tc : Thread nD τ).loc main_arg4)
/-- the stacked keys and -/
abbrev argKt : Vec Ideal S2x2x8x64x8192 .f32 := m ((c.tc : Thread nD τ).loc main_arg8)
/-- the stacked values that are carried in. -/
abbrev argVt : Vec Ideal S2x2x8x64x8192 .f32 := m ((c.tc : Thread nD τ).loc main_arg9)

/-! The arrays that are prepared before the call. -/

theorem mean_host : IsMean (V m c main_v12 : Vec Ideal S512x512 .bf16) := by
  intro a b
  entry_read
  pointwise
  rw [show IntOp.addi (BitVec.ofNat 32 (a.val / 64)) 0#32 = BitVec.ofNat 32 (a.val / 64) from BitVec.add_zero _, WordCmp.cmpi_eq_ofNat (by omega) (by omega), ofBits_64th]
  show ((((BitVec.ofBool (decide (a.val / 64 = b.val / 64))).toNat : ℝ)) : EReal) * _ = _
  by_cases h : a.val / 64 = b.val / 64
  · refine Eq.trans ?_ (if_pos h).symm
    rw [decide_eq_true h]; simp
  · refine Eq.trans ?_ (if_neg h).symm
    rw [decide_eq_false h]; simp

theorem g_host (j : Fin 1024) : (V m c main_v13 : Vec Ideal S1x1024 .f32) (ix2 0 j) = argG m c (ix1 j) := by
  entry_read
  pointwise

theorem w_host (k : Fin 1024) (n : Fin 2304) : (V m c main_v14 : Vec Ideal S1024x2304 .bf16) (ix2 k n) = argW m c (ix2 k n) := by
  entry_read
  pointwise

theorem gk_host : IsTiled (V m c main_v22 : Vec Ideal S1x512 .f32) (fun d => argGk m c (ix1 d)) := by
  intro j
  entry_read
  pointwise

theorem kt_host : (V m c main_v23_3 : Vec Ideal S2x2x8x64x8192 .f32) = argKt m c := by
  funext y
  entry_read
  rfl

theorem vt_host : (V m c main_v23_4 : Vec Ideal S2x2x8x64x8192 .f32) = argVt m c := by
  funext y
  entry_read
  rfl

/-! The blocks: 32 blocks of 256 positions for each of the two sequences. -/

theorem idx0_0 : ∀ t : Fin cfg0.N, win0_0.index t = ![t.val / 32, t.val % 32, 0] := by decide +kernel
theorem idx0_1 : ∀ t : Fin cfg0.N, win0_1.index t = ![0, 0] := by decide +kernel
theorem idx0_2 : ∀ t : Fin cfg0.N, win0_2.index t = ![0, 0] := by decide +kernel
theorem idx0_4 : ∀ t : Fin cfg0.N, win0_4.index t = ![0, 0] := by decide +kernel
theorem idx0_5 : ∀ t : Fin cfg0.N, win0_5.index t = ![0, 0] := by decide +kernel
theorem idx0_12 : ∀ t : Fin cfg0.N, win0_12.index t = ![1, t.val / 32, 0, 0, t.val % 32] := by decide +kernel
theorem idx0_13 : ∀ t : Fin cfg0.N, win0_13.index t = ![1, t.val / 32, 0, 0, t.val % 32] := by decide +kernel
theorem idx0_14 : ∀ t : Fin cfg0.N, win0_14.index t = ![t.val / 32, t.val % 32, 0] := by decide +kernel
theorem idx0_15 : ∀ t : Fin cfg0.N, win0_15.index t = ![t.val / 32, t.val % 32, 0] := by decide +kernel

theorem pt_lt : ∀ t : Fin cfg0.N, t.val < 64 := by decide +kernel

/-- The sequence of grid point `t`, and -/
def seqOf (t : Fin cfg0.N) : Fin 2 := ⟨t.val / 32, by have := pt_lt t; omega⟩
/-- position `r` of its block. -/
def posOf (t : Fin cfg0.N) (r : Fin 256) : Fin 8192 := ⟨t.val % 32 * 256 + r.val, by omega⟩

theorem x_blk (t : Fin cfg0.N) (r : Fin 256) (j : Fin 1024) : (iblk m c 0 t : Vec Ideal S1x256x1024 .f32) (ix3 0 r j) = argX m c (ix3 (seqOf t) (posOf t r) j) := by
  refine (congrFun (V_main_arg0 m c) _).trans (congrArg (argX m c) (funext fun a => Fin.ext ?_))
  match a with
  | ⟨0, _⟩ => blk_simp [idx0_0]; rfl
  | ⟨1, _⟩ => blk_simp [idx0_0]; rfl
  | ⟨2, _⟩ => blk_simp [idx0_0]

theorem g_blk (t : Fin cfg0.N) : (iblk m c 1 t : Vec Ideal S1x1024 .f32) = V m c main_v13 := by
  funext y
  refine congrArg (V m c main_v13 : Vec Ideal S1x1024 .f32) (funext fun a => Fin.ext ?_)
  match a with
  | ⟨0, _⟩ => blk_simp [idx0_1]
  | ⟨1, _⟩ => blk_simp [idx0_1]

theorem w_blk (t : Fin cfg0.N) : (iblk m c 2 t : Vec Ideal S1024x2304 .bf16) = V m c main_v14 := by
  funext y
  refine congrArg (V m c main_v14 : Vec Ideal S1024x2304 .bf16) (funext fun a => Fin.ext ?_)
  match a with
  | ⟨0, _⟩ => blk_simp [idx0_2]
  | ⟨1, _⟩ => blk_simp [idx0_2]

theorem gk_blk (t : Fin cfg0.N) : (iblk m c 4 t : Vec Ideal S1x512 .f32) = V m c main_v22 := by
  funext y
  refine congrArg (V m c main_v22 : Vec Ideal S1x512 .f32) (funext fun a => Fin.ext ?_)
  match a with
  | ⟨0, _⟩ => blk_simp [idx0_4]
  | ⟨1, _⟩ => blk_simp [idx0_4]

theorem mean_blk (t : Fin cfg0.N) : (iblk m c 5 t : Vec Ideal S512x512 .bf16) = V m c main_v12 := by
  funext y
  refine congrArg (V m c main_v12 : Vec Ideal S512x512 .bf16) (funext fun a => Fin.ext ?_)
  match a with
  | ⟨0, _⟩ => blk_simp [idx0_5]
  | ⟨1, _⟩ => blk_simp [idx0_5]

/-- A position's columns of the projection, from the arguments. -/
theorem cols_blk (t : Fin cfg0.N) (r : Fin 256) : colsB (iblk m c 0 t : Vec Ideal S1x256x1024 .f32) (iblk m c 1 t : Vec Ideal S1x1024 .f32) (iblk m c 2 t : Vec Ideal S1024x2304 .bf16) r
    = colsP (argX m c) (argG m c) (argW m c) (seqOf t) (posOf t r) := by
  unfold colsB colsP
  congr 1
  · exact funext fun j => x_blk m c t r j
  · exact funext fun j => (congrFun (g_blk m c t) _).trans (g_host m c j)
  · exact funext fun k => funext fun n => (congrFun (w_blk m c t) _).trans (w_host m c k n)

theorem gk_tiled (t : Fin cfg0.N) : IsTiled (iblk m c 4 t : Vec Ideal S1x512 .f32) (fun d => argGk m c (ix1 d)) := by
  intro j
  exact (congrFun (gk_blk m c t) _).trans (gk_host m c j)

theorem mean_is (t : Fin cfg0.N) : IsMean (iblk m c 5 t : Vec Ideal S512x512 .bf16) := by
  intro a b
  exact (congrFun (mean_blk m c t) _).trans (mean_host m c a b)

end Cert.InprojPromptIdeal.Hand

end
-- ==== Proof.PromptValue.lean ====
module

public import proofs.«01_k».proof.Proof.PromptHost
public import Idealize.ShloMosaic.Lib.Pipeline.ValueKit

@[expose] public section

set_option maxRecDepth 16384

noncomputable section

namespace Cert.InprojPromptIdeal.Hand

open Idealize.ShloMosaic Idealize.ShloMosaic.TcCoe Idealize.SL.Sem
open Cert.InprojPromptIdeal.Gen Cert.Ffn Cert.Mix

variable (m : (ℓ : Loc nD τ sig) → Buf (Elt Ideal) ℓ) (c : Dev nD)

/-! The prompt's input projection: four of its result arrays, from the argument arrays. -/

/-- The keys; -/
def resK : Vec Ideal S2x2x8x64x8192 .f32 := fun y => stacked (argKt m c) (promptK (argX m c) (argG m c) (argW m c) (argGk m c)) (y 0) (y 1) (y 2) (y 3) (y 4)
/-- the values; -/
def resV : Vec Ideal S2x2x8x64x8192 .f32 := fun y => stacked (argVt m c) (promptV (argX m c) (argG m c) (argW m c)) (y 0) (y 1) (y 2) (y 3) (y 4)
/-- the inputs of the pooling; -/
def resU : Vec Ideal S2x8192x256 .f32 := fun y => promptU (argX m c) (argG m c) (argW m c) (y 0) (y 1) (y 2)
/-- the gated inputs of the convolution. -/
def resH : Vec Ideal S2x8192x256 .f32 := fun y => promptH (argX m c) (argG m c) (argW m c) (y 0) (y 1) (y 2)

theorem eq_row (y : S1x256x256.Idx) : ∃ (r : Fin 256) (n : Fin 256), y = (ix3 0 r n : S1x256x256.Idx) :=
  ⟨y 1, y 2, (eq_ix3 y).trans (by rw [show y 0 = (0 : Fin 1) from Subsingleton.elim (α := Fin 1) _ _])⟩

theorem arr_u : (dats m 0 c).arrAt 14 cfg0.N = resU m c := by
  refine (dats m 0 c).arrAt_eq_of_covers 14 _ (by decide +kernel) fun t hf y => ?_
  blk_simp
  rw [after0_14]
  unfold outsAt0
  dsimp only
  obtain ⟨r, n, rfl⟩ := eq_row y
  refine (u_block r n).trans ?_
  rw [cols_blk]
  have e : (win0_14.blk t).view.emb (ix3 0 r n : S1x256x256.Idx) = (ix3 (seqOf t) (posOf t r) n : S2x8192x256.Idx) := by
    funext a
    refine Fin.ext ?_
    match a with
    | ⟨0, _⟩ => blk_simp [idx0_14]; rfl
    | ⟨1, _⟩ => blk_simp [idx0_14]; rfl
    | ⟨2, _⟩ => blk_simp [idx0_14]
  exact (congrArg (resU m c) e).symm

theorem arr_h : (dats m 0 c).arrAt 15 cfg0.N = resH m c := by
  refine (dats m 0 c).arrAt_eq_of_covers 15 _ (by decide +kernel) fun t hf y => ?_
  blk_simp
  rw [after0_15]
  unfold outsAt0
  dsimp only
  obtain ⟨r, n, rfl⟩ := eq_row y
  refine (h_block r n).trans ?_
  rw [cols_blk]
  have e : (win0_15.blk t).view.emb (ix3 0 r n : S1x256x256.Idx) = (ix3 (seqOf t) (posOf t r) n : S2x8192x256.Idx) := by
    funext a
    refine Fin.ext ?_
    match a with
    | ⟨0, _⟩ => blk_simp [idx0_15]; rfl
    | ⟨1, _⟩ => blk_simp [idx0_15]; rfl
    | ⟨2, _⟩ => blk_simp [idx0_15]
  exact (congrArg (resH m c) e).symm

theorem at_k (t : Fin cfg0.N) (h : Fin 8) (d : Fin 64) (r : Fin 256) :
    (dats m 0 c).arrAt 12 cfg0.N (ix5 1 (seqOf t) h d (posOf t r) : S2x2x8x64x8192.Idx) = promptK (argX m c) (argG m c) (argW m c) (argGk m c) (seqOf t) (posOf t r) (col h d) := by
  have e := congrFun (Value.blocks12 m c t ((by decide +kernel : ∀ t : Fin cfg0.N, (cfg0.win 12).flush t = true) t)) (ix5 0 0 h d r : S1x1x8x64x256.Idx)
  rw [Value.flushed12_A] at e
  blk_simp at e
  have hi : (win0_12.blk t).view.emb (ix5 0 0 h d r : S1x1x8x64x256.Idx) = (ix5 1 (seqOf t) h d (posOf t r) : S2x2x8x64x8192.Idx) := by
    funext a
    refine Fin.ext ?_
    match a with
    | ⟨0, _⟩ => blk_simp [idx0_12]; rfl
    | ⟨1, _⟩ => blk_simp [idx0_12]; rfl
    | ⟨2, _⟩ => blk_simp [idx0_12]
    | ⟨3, _⟩ => blk_simp [idx0_12]
    | ⟨4, _⟩ => blk_simp [idx0_12]; rfl
  refine (congrArg _ hi.symm).trans (e.trans ((k_block _ (gk_tiled m c t) (mean_is m c t) h d r).trans ?_))
  rw [cols_blk]
  rfl

theorem at_v (t : Fin cfg0.N) (h : Fin 8) (d : Fin 64) (r : Fin 256) :
    (dats m 0 c).arrAt 13 cfg0.N (ix5 1 (seqOf t) h d (posOf t r) : S2x2x8x64x8192.Idx) = promptV (argX m c) (argG m c) (argW m c) (seqOf t) (posOf t r) (col h d) := by
  have e := congrFun (Value.blocks13 m c t ((by decide +kernel : ∀ t : Fin cfg0.N, (cfg0.win 13).flush t = true) t)) (ix5 0 0 h d r : S1x1x8x64x256.Idx)
  rw [Value.flushed13_A] at e
  blk_simp at e
  have hi : (win0_13.blk t).view.emb (ix5 0 0 h d r : S1x1x8x64x256.Idx) = (ix5 1 (seqOf t) h d (posOf t r) : S2x2x8x64x8192.Idx) := by
    funext a
    refine Fin.ext ?_
    match a with
    | ⟨0, _⟩ => blk_simp [idx0_13]; rfl
    | ⟨1, _⟩ => blk_simp [idx0_13]; rfl
    | ⟨2, _⟩ => blk_simp [idx0_13]
    | ⟨3, _⟩ => blk_simp [idx0_13]
    | ⟨4, _⟩ => blk_simp [idx0_13]; rfl
  refine (congrArg _ hi.symm).trans (e.trans ((v_block h d r).trans ?_))
  rw [cols_blk]
  rfl

/-- Every position is one of a grid point's. -/
theorem exists_pt (b : Fin 2) (p : Fin 8192) : ∃ (t : Fin cfg0.N) (r : Fin 256), b = seqOf t ∧ p = posOf t r := by
  have hN : cfg0.N = 64 := by decide +kernel
  refine ⟨⟨b.val * 32 + p.val / 256, by omega⟩, ⟨p.val % 256, by omega⟩, Fin.ext ?_, Fin.ext ?_⟩
  · show b.val = (b.val * 32 + p.val / 256) / 32; omega
  · show p.val = (b.val * 32 + p.val / 256) % 32 * 256 + p.val % 256; omega

/-- No block of the keys is one of the first layer's. -/
theorem first_k (i : S2x2x8x64x8192.Idx) (hi : (i 0).val = 0) (t : Fin cfg0.N) : i ∉ ((cfg0.win 12).blk t).view.set := by
  show i ∉ ((View.whole main_v23_3).slice (win0_12.rect t)).set
  rw [View.set_slice_whole, Rect.mem_set_unit]
  have e : ∀ t : Fin cfg0.N, win0_12.index t 0 * win0_12.size 0 = 1 := by decide +kernel
  intro h
  have h0 : win0_12.index t 0 * win0_12.size 0 ≤ (i 0 : Nat) := (h 0).1
  rw [e t, hi] at h0
  exact absurd h0 (by decide)

/-- No block of the values is one of the first layer's. -/
theorem first_v (i : S2x2x8x64x8192.Idx) (hi : (i 0).val = 0) (t : Fin cfg0.N) : i ∉ ((cfg0.win 13).blk t).view.set := by
  show i ∉ ((View.whole main_v23_4).slice (win0_13.rect t)).set
  rw [View.set_slice_whole, Rect.mem_set_unit]
  have e : ∀ t : Fin cfg0.N, win0_13.index t 0 * win0_13.size 0 = 1 := by decide +kernel
  intro h
  have h0 : win0_13.index t 0 * win0_13.size 0 ≤ (i 0 : Nat) := (h 0).1
  rw [e t, hi] at h0
  exact absurd h0 (by decide)

theorem arr_k : (dats m 0 c).arrAt 12 cfg0.N = resK m c := by
  funext y
  obtain ⟨l, b, h, d, p, rfl⟩ : ∃ (l : Fin 2) (b : Fin 2) (h : Fin 8) (d : Fin 64) (p : Fin 8192), y = (ix5 l b h d p : S2x2x8x64x8192.Idx) := ⟨y 0, y 1, y 2, y 3, y 4, eq_ix5 y⟩
  show _ = stacked (argKt m c) (promptK (argX m c) (argG m c) (argW m c) (argGk m c)) l b h d p
  unfold stacked
  by_cases hl : l.val = 0
  · rw [if_pos hl, Value.entry12 m c (ix5 l b h d p) fun t _ => first_k (ix5 l b h d p) hl t]
    exact congrFun (kt_host m c) _
  · rw [if_neg hl]
    obtain ⟨t, r, rfl, rfl⟩ := exists_pt b p
    obtain rfl : l = 1 := Fin.ext (by show l.val = 1; omega)
    exact at_k m c t h d r

theorem arr_v : (dats m 0 c).arrAt 13 cfg0.N = resV m c := by
  funext y
  obtain ⟨l, b, h, d, p, rfl⟩ : ∃ (l : Fin 2) (b : Fin 2) (h : Fin 8) (d : Fin 64) (p : Fin 8192), y = (ix5 l b h d p : S2x2x8x64x8192.Idx) := ⟨y 0, y 1, y 2, y 3, y 4, eq_ix5 y⟩
  show _ = stacked (argVt m c) (promptV (argX m c) (argG m c) (argW m c)) l b h d p
  unfold stacked
  by_cases hl : l.val = 0
  · rw [if_pos hl, Value.entry13 m c (ix5 l b h d p) fun t _ => first_v (ix5 l b h d p) hl t]
    exact congrFun (vt_host m c) _
  · rw [if_neg hl]
    obtain ⟨t, r, rfl, rfl⟩ := exists_pt b p
    obtain rfl : l = 1 := Fin.ext (by show l.val = 1; omega)
    exact at_v m c t h d r

end Cert.InprojPromptIdeal.Hand

end
-- ==== Proof.RefPrompt.lean ====
module

public import proofs.«01_k».proof.Proof.PromptRow
public import proofs.«01_k».proof.Proof.Gen.InprojPromptReferenceIdeal.Run
public import Idealize.ShloMosaic.Lib.Pointwise

@[expose] public section

set_option maxRecDepth 16384

noncomputable section

namespace Cert.InprojPromptReferenceIdeal.Hand

open Idealize.ShloMosaic Idealize.ShloMosaic.TcCoe Idealize.SL.Sem
open Cert.InprojPromptReferenceIdeal.Gen Cert.Ffn Cert.Mix

/-! The prompt's input projection, its reference: its four results at an index. -/

/-- The columns of the projection. -/
def projV (x : FVec Ideal S2x8192x1024 .f32) (g : FVec Ideal S1024 .f32) (w : FVec Ideal S1024x2304 .f32) : FVec Ideal S2x8192x2304 .f32 :=
  Host.dotGeneral dot_S2x8192x1024_S1024x2304_S2x8192x2304_2_0_01_1_n_n none (mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf x x) (constant S_ .f32 0x00000000#32) reducesTo_S2x8192x1024_S2x8192_d2 h_S_))
    (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))) w

/-- The rows of eight heads, normalised head by head. -/
def headV (t : FVec Ideal S2x8192x512 .f32) (g : FVec Ideal S64 .f32) : FVec Ideal S2x8192x8x64 .f32 :=
  mulf (mulf (shapeCast _ t shapeCasts_S2x8192x512_S2x8192x8x64) (broadcastInDim S2x8192x8x64 ![0, 1, 2, 3] bcast_S2x8192x8x1_S2x8192x8x64_0_1_2_3 (Host.rsqrt (addf (Host.divf
    (broadcastInDim S2x8192x8x1 ![0, 1, 2] bcast_S2x8192x8_S2x8192x8x1_0_1_2 (Host.reduceAdd (mulf (shapeCast _ t shapeCasts_S2x8192x512_S2x8192x8x64) (shapeCast _ t shapeCasts_S2x8192x512_S2x8192x8x64))
      (constant S_ .f32 0x00000000#32) reducesTo_S2x8192x8x64_S2x8192x8_d3 h_S_)) (broadcastInDim S2x8192x8x1 ![] bcast_S_S2x8192x8x1 (constant S_ .f32 0x42800000#32)))
    (broadcastInDim S2x8192x8x1 ![] bcast_S_S2x8192x8x1 (constant S_ .f32 0x358637BD#32)))))) (broadcastInDim S2x8192x8x64 ![0, 1, 2, 3] bcast_S1x1x1x64_S2x8192x8x64_0_1_2_3
    (broadcastInDim S1x1x1x64 ![3] bcast_S64_S1x1x1x64_3 g))

/-- Two layers, positions last: the first layer's as given, the last layer's from its rows. -/
def stackV (old : FVec Ideal S2x2x8x64x8192 .f32) (new : FVec Ideal S2x8192x8x64 .f32) : FVec Ideal S2x2x8x64x8192 .f32 :=
  concatenate S2x2x8x64x8192 0 [⟨S1x2x8x64x8192, (broadcastInDim S1x2x8x64x8192 ![1, 2, 3, 4] bcast_S2x8x64x8192_S1x2x8x64x8192_1_2_3_4
    (shapeCast _ (extractStridedSlice S1x2x8x64x8192 ![0, 0, 0, 0, 0] old slices_S2x2x8x64x8192_S1x2x8x64x8192_0_0_0_0_0) shapeCasts_S1x2x8x64x8192_S2x8x64x8192))⟩,
    ⟨S1x2x8x64x8192, (broadcastInDim S1x2x8x64x8192 ![1, 2, 3, 4] bcast_S2x8x64x8192_S1x2x8x64x8192_1_2_3_4
    (transpose S2x8x64x8192 [0, 2, 3, 1] new transposes_S2x8192x8x64_S2x8x64x8192_0_2_3_1))⟩] concatenates_S1x2x8x64x8192_S1x2x8x64x8192_S2x2x8x64x8192_d0

/-- The gate. -/
def gateV (a b : FVec Ideal S2x8192x256 .f32) : FVec Ideal S2x8192x256 .f32 :=
  mulf a (Host.divf (broadcastInDim S2x8192x256 ![] bcast_S_S2x8192x256 (constant S_ .f32 0x3F800000#32))
    (addf (broadcastInDim S2x8192x256 ![] bcast_S_S2x8192x256 (constant S_ .f32 0x3F800000#32)) (Host.exp (Host.negf b))))

theorem projV_apply (x : FVec Ideal S2x8192x1024 .f32) (g : FVec Ideal S1024 .f32) (w : FVec Ideal S1024x2304 .f32) (b : Fin 2) (t : Fin 8192) (n : Fin 2304) :
    projV x g w (ix3 b t n) = colsP x g w b t n := by
  pointwise [projV, colsP, projRow, normed]

theorem headV_apply (x : FVec Ideal S2x8192x512 .f32) (g : FVec Ideal S64 .f32) (b : Fin 2) (t : Fin 8192) (h : Fin 8) (d : Fin 64) :
    headV x g (ix4 b t h d) = headNormed (fun k => x (ix3 b t k)) (fun d => g (ix1 d)) (col h d) := by
  have e1 : (h.val * 64 + d.val) / 64 = h.val := by omega
  have e2 : (h.val * 64 + d.val) % 64 = d.val := by omega
  pointwise [headV, headNormed, col]
  simp only [e1, e2]

theorem stackV_apply (old : FVec Ideal S2x2x8x64x8192 .f32) (new : FVec Ideal S2x8192x8x64 .f32) (l b : Fin 2) (h : Fin 8) (d : Fin 64) (t : Fin 8192) :
    stackV old new (ix5 l b h d t) = if l.val = 0 then old (ix5 l b h d t) else new (ix4 b t h d) := by
  pointwise [stackV]
  by_cases hl : l.val = 0
  · rw [dif_pos (by omega), if_pos hl, show (0 : Fin 2) = l from Fin.ext hl.symm]
  · rw [dif_neg (by omega), if_neg hl]

theorem gateV_apply (x y : FVec Ideal S2x8192x256 .f32) (b : Fin 2) (t : Fin 8192) (j : Fin 256) : gateV x y (ix3 b t j) = gated (x (ix3 b t j)) (y (ix3 b t j)) := by
  pointwise [gateV, gated]

variable (old : FVec Ideal S2x2x8x64x8192 .f32) (x : FVec Ideal S2x8192x1024 .f32) (g : FVec Ideal S1024 .f32) (w : FVec Ideal S1024x2304 .f32) (gh : FVec Ideal S64 .f32) (b : Fin 2) (t : Fin 8192)

theorem k_apply (l : Fin 2) (b : Fin 2) (h : Fin 8) (d : Fin 64) (t : Fin 8192) :
    stackV old (headV (extractStridedSlice S2x8192x512 ![0, 0, 512] (projV x g w) slices_S2x8192x2304_S2x8192x512_0_0_512) gh) (ix5 l b h d t)
      = stacked old (promptK x g w gh) l b h d t := by
  rw [stackV_apply, stacked, promptK, headV_apply]
  simp only [← projV_apply]
  generalize projV x g w = p
  pointwise

theorem v_apply (l : Fin 2) (b : Fin 2) (h : Fin 8) (d : Fin 64) (t : Fin 8192) :
    stackV old (shapeCast S2x8192x8x64 (extractStridedSlice S2x8192x512 ![0, 0, 1024] (projV x g w) slices_S2x8192x2304_S2x8192x512_0_0_1024) shapeCasts_S2x8192x512_S2x8192x8x64) (ix5 l b h d t)
      = stacked old (promptV x g w) l b h d t := by
  rw [stackV_apply, stacked, promptV, ← projV_apply]
  generalize projV x g w = p
  pointwise [col]

theorem u_apply (b : Fin 2) (t : Fin 8192) (j : Fin 256) : extractStridedSlice S2x8192x256 ![0, 0, 1536] (projV x g w) slices_S2x8192x2304_S2x8192x256_0_0_1536 (ix3 b t j) = promptU x g w b t j := by
  rw [promptU, ← projV_apply]
  generalize projV x g w = p
  pointwise

theorem h_apply (b : Fin 2) (t : Fin 8192) (j : Fin 256) : gateV (extractStridedSlice S2x8192x256 ![0, 0, 1792] (projV x g w) slices_S2x8192x2304_S2x8192x256_0_0_1792)
    (extractStridedSlice S2x8192x256 ![0, 0, 2048] (projV x g w) slices_S2x8192x2304_S2x8192x256_0_0_2048) (ix3 b t j) = promptH x g w b t j := by
  rw [promptH, gateV_apply, ← projV_apply, ← projV_apply]
  generalize projV x g w = p
  pointwise

/-- The reference's run: its four results, index by index, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = (fun y => stacked (m ((c.tc : Thread nD τ).loc main_arg8)) (promptK (m ((c.tc : Thread nD τ).loc main_arg0)) (m ((c.tc : Thread nD τ).loc main_arg1)) (m ((c.tc : Thread nD τ).loc main_arg2)) (m ((c.tc : Thread nD τ).loc main_arg4))) (y 0) (y 1) (y 2) (y 3) (y 4) : Vec Ideal S2x2x8x64x8192 .f32)
      ∧ r.2.mem ((c.tc : Thread nD τ).loc main_v67) = (fun y => stacked (m ((c.tc : Thread nD τ).loc main_arg9)) (promptV (m ((c.tc : Thread nD τ).loc main_arg0)) (m ((c.tc : Thread nD τ).loc main_arg1)) (m ((c.tc : Thread nD τ).loc main_arg2))) (y 0) (y 1) (y 2) (y 3) (y 4) : Vec Ideal S2x2x8x64x8192 .f32)
      ∧ r.2.mem ((c.tc : Thread nD τ).loc main_v17) = (fun y => promptU (m ((c.tc : Thread nD τ).loc main_arg0)) (m ((c.tc : Thread nD τ).loc main_arg1)) (m ((c.tc : Thread nD τ).loc main_arg2)) (y 0) (y 1) (y 2) : Vec Ideal S2x8192x256 .f32)
      ∧ r.2.mem ((c.tc : Thread nD τ).loc main_v54) = (fun y => promptH (m ((c.tc : Thread nD τ).loc main_arg0)) (m ((c.tc : Thread nD τ).loc main_arg1)) (m ((c.tc : Thread nD τ).loc main_arg2)) (y 0) (y 1) (y 2) : Vec Ideal S2x8192x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ?_) (Value.run (F := Ideal) m ρ)
  obtain ⟨h0, h1, h2, h3, hk⟩ := h c
  exact ⟨h0.trans (funext fun y => (congrArg _ (eq_ix5 y)).trans (k_apply (m ((c.tc : Thread nD τ).loc main_arg8)) (m ((c.tc : Thread nD τ).loc main_arg0)) (m ((c.tc : Thread nD τ).loc main_arg1)) (m ((c.tc : Thread nD τ).loc main_arg2)) (m ((c.tc : Thread nD τ).loc main_arg4)) (y 0) (y 1) (y 2) (y 3) (y 4))),
    h1.trans (funext fun y => (congrArg _ (eq_ix5 y)).trans (v_apply (m ((c.tc : Thread nD τ).loc main_arg9)) (m ((c.tc : Thread nD τ).loc main_arg0)) (m ((c.tc : Thread nD τ).loc main_arg1)) (m ((c.tc : Thread nD τ).loc main_arg2)) (y 0) (y 1) (y 2) (y 3) (y 4))),
    h2.trans (funext fun y => (congrArg _ (eq_ix3 y)).trans (u_apply (m ((c.tc : Thread nD τ).loc main_arg0)) (m ((c.tc : Thread nD τ).loc main_arg1)) (m ((c.tc : Thread nD τ).loc main_arg2)) (y 0) (y 1) (y 2))),
    h3.trans (funext fun y => (congrArg _ (eq_ix3 y)).trans (h_apply (m ((c.tc : Thread nD τ).loc main_arg0)) (m ((c.tc : Thread nD τ).loc main_arg1)) (m ((c.tc : Thread nD τ).loc main_arg2)) (y 0) (y 1) (y 2))), hk⟩

end Cert.InprojPromptReferenceIdeal.Hand

end
-- ==== Proof.lean ====
module

public import proofs.«01_k».proof.Defs
public import proofs.«01_k».proof.Proof.KernelFrame
public import proofs.«01_k».proof.Proof.KernelIdealFrame
public import proofs.«01_k».proof.Proof.KernelValue
public import proofs.«01_k».proof.Proof.RefValue
public import proofs.«01_k».proof.Proof.Small
public import proofs.«01_k».proof.Proof.MergeValue
public import proofs.«01_k».proof.Proof.RefMerge
public import proofs.«01_k».proof.Proof.InprojValue
public import proofs.«01_k».proof.Proof.RefInproj
public import proofs.«01_k».proof.Proof.SampleValue
public import proofs.«01_k».proof.Proof.RefSample
public import proofs.«01_k».proof.Proof.PromptValue
public import proofs.«01_k».proof.Proof.RefPrompt
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.MergeSample
public import proofs.«01_k».proof.Proof.Gen.MergeSample.Frame
public import proofs.«01_k».proof.Proof.Gen.MergeSampleIdeal
public import proofs.«01_k».proof.Proof.Gen.MergeSampleIdeal.Frame
public import proofs.«01_k».proof.Proof.Gen.MergeSampleIdeal.Value
public import proofs.«01_k».proof.Proof.Gen.MergeSampleReferenceIdeal
public import proofs.«01_k».proof.Proof.Gen.MergeSampleReferenceIdeal.Run
public import proofs.«01_k».proof.Proof.Gen.InprojPrompt
public import proofs.«01_k».proof.Proof.Gen.InprojPrompt.Frame
public import proofs.«01_k».proof.Proof.Gen.InprojPromptIdeal
public import proofs.«01_k».proof.Proof.Gen.InprojPromptIdeal.Frame
public import proofs.«01_k».proof.Proof.Gen.InprojPromptIdeal.Value
public import proofs.«01_k».proof.Proof.Gen.InprojPromptReferenceIdeal
public import proofs.«01_k».proof.Proof.Gen.InprojPromptReferenceIdeal.Run
public import Idealize.ShloMosaic.Adequacy
public import Idealize.ShloMosaic.Init

@[expose] public section

noncomputable section

namespace Cert.Proof

open Idealize.ShloMosaic Idealize.SL.Sem

instance preFacts : Cert.Pre_scores_at_most_100.Facts := Cert.Pre_scores_at_most_100.facts

theorem frame_p : Cert.quiescent_Kernel := fun m g _ => Cert.Kernel.Hand.frame m g

theorem frame_pi : Cert.quiescent_KernelIdeal := fun m g _ => Cert.KernelIdeal.Hand.frame m g

theorem frame_pi_pre : Cert.quiescent_KernelIdeal_pre_scores_at_most_100 := fun m g _ => Cert.KernelIdeal.Hand.frame m g

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_pre : Cert.quiescent_ReferenceIdeal_pre_scores_at_most_100 := fun m g _ => frame_ri m g trivial

/-- The named constant's value is the one that the ledger states. -/
theorem preserves : Cert.preserves_Kernel_KernelIdeal :=
  IdealRules.named_const.statement Cert.KernelIdeal.κ "log2e" .f32 0x3FB8AA3B#32 (((Real.log 2)⁻¹ : ℝ) : EReal) rfl

/-- The kernel's result array and the reference's are one: the attention of every query. -/
theorem algebraic : Cert.algebraic_KernelIdeal_ReferenceIdeal_pre_scores_at_most_100 := by
  intro m g m' g' hp hagree
  have hs : ∀ c, Cert.Attn.AtMost100 (Cert.KernelIdeal.Hand.argQ m c) (Cert.KernelIdeal.Hand.argK m c) :=
    fun c => Cert.Pre_scores_at_most_100.atMost _ _ _ (hp c)
  refine ⟨_, Cert.KernelIdeal.Hand.run_value m g hs, ?_⟩
  refine (θ_run Cert.ReferenceIdeal.defs _ _).mono (fun _ h c => ⟨(h c).1.trans ?_, (h c).2⟩)
    (Cert.ReferenceIdeal.Value.run (F := Ideal) m' g')
  obtain ⟨e0, e1, e2⟩ := hagree c
  have hs' : Cert.Attn.AtMost100 (Cert.ReferenceIdeal.Hand.argQ m' c) (Cert.ReferenceIdeal.Hand.argK m' c) := by
    unfold Cert.ReferenceIdeal.Hand.argQ Cert.ReferenceIdeal.Hand.argK
    rw [e0, e1]
    exact hs c
  funext y
  refine (congrArg _ (eq_ix4 y)).trans ((Cert.ReferenceIdeal.Hand.result_at m' c hs' (y 0) (y 1) (y 2) (y 3)).trans ?_)
  unfold Cert.ReferenceIdeal.Hand.argQ Cert.ReferenceIdeal.Hand.argK Cert.ReferenceIdeal.Hand.argV
  rw [e0, e1, e2]
  rfl

theorem frame_p2 : Cert.quiescent_Merge := fun m g _ => Cert.Merge.Gen.frame m g

theorem frame_pi2 : Cert.quiescent_MergeIdeal := fun m g _ => Cert.MergeIdeal.Gen.frame m g

theorem frame_ri2 : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run (F := Ideal) m g)

/-- The merge's result array and its reference's are one: every row after the merge and the feed-forward part. -/
theorem algebraic2 : Cert.algebraic_MergeIdeal_MergeReferenceIdeal := by
  intro m g m' g' hp hagree
  refine ⟨_, (θ_run Cert.MergeIdeal.defs _ _).mono (fun _ h c => ⟨(h c).1.trans (Cert.MergeIdeal.Hand.arr_eq m c), (h c).2⟩)
    (Cert.MergeIdeal.Value.run_blocks (F := Ideal) m g), ?_⟩
  refine (θ_run Cert.MergeReferenceIdeal.defs _ _).mono (fun _ h c => ⟨(h c).1.trans ?_, (h c).2⟩)
    (Cert.MergeReferenceIdeal.Value.run (F := Ideal) m' g')
  obtain ⟨e0, e1, e2, e3, e4, e5, e6, e7⟩ := hagree c
  funext y
  refine (congrArg _ (eq_ix2 y)).trans ((Cert.MergeReferenceIdeal.Hand.result_at m' c (y 0) (y 1)).trans ?_)
  unfold Cert.MergeReferenceIdeal.Hand.argX Cert.MergeReferenceIdeal.Hand.argA Cert.MergeReferenceIdeal.Hand.argP Cert.MergeReferenceIdeal.Hand.argC
    Cert.MergeReferenceIdeal.Hand.argW Cert.MergeReferenceIdeal.Hand.argG Cert.MergeReferenceIdeal.Hand.argU Cert.MergeReferenceIdeal.Hand.argD
  rw [e0, e1, e2, e3, e4, e5, e6, e7]
  rfl

theorem frame_p3 : Cert.quiescent_Inproj := fun m g _ => Cert.Inproj.Gen.frame m g

theorem frame_pi3 : Cert.quiescent_InprojIdeal := fun m g _ => Cert.InprojIdeal.Gen.frame m g

theorem frame_ri3 : Cert.quiescent_InprojReferenceIdeal := fun m g _ =>
  (θ_run Cert.InprojReferenceIdeal.defs _ _).mono (fun r h => ⟨fun c => (h c).2.2.2.2.2, sem_eq_zero_of_no_sems (by decide) r.2⟩)
    (Cert.InprojReferenceIdeal.Hand.run_value m g)

/-- The queries' scale is the one that the ledger states. -/
theorem preserves3 : Cert.preserves_Inproj_InprojIdeal :=
  IdealRules.named_const.statement Cert.InprojIdeal.κ "q_scale" .f32 0x3E38AA3B#32 (((Real.log 256)⁻¹ : ℝ) : EReal) rfl

/-- The input projection's five result arrays and its reference's are one. -/
theorem algebraic3 : Cert.algebraic_InprojIdeal_InprojReferenceIdeal := by
  intro m g m' g' hp hagree
  refine ⟨_, _, _, _, _, (θ_run Cert.InprojIdeal.defs _ _).mono (fun _ h c => ⟨(h c).1.trans (Cert.InprojIdeal.Hand.arr_q m c),
      (h c).2.1.trans (Cert.InprojIdeal.Hand.arr_k m c), (h c).2.2.1.trans (Cert.InprojIdeal.Hand.arr_v m c),
      (h c).2.2.2.1.trans (Cert.InprojIdeal.Hand.arr_u m c), (h c).2.2.2.2.1.trans (Cert.InprojIdeal.Hand.arr_h m c), (h c).2.2.2.2.2⟩)
    (Cert.InprojIdeal.Value.run_blocks (F := Ideal) m g), ?_⟩
  refine (θ_run Cert.InprojReferenceIdeal.defs _ _).mono (fun _ h c => ?_) (Cert.InprojReferenceIdeal.Hand.run_value m' g')
  obtain ⟨e0, e1, e2, e3, e4⟩ := hagree c
  obtain ⟨h0, h1, h2, h3, h4, hk⟩ := h c
  rw [e0, e1, e2, e3] at h0
  rw [e0, e1, e2, e4] at h1
  rw [e0, e1, e2] at h2 h3 h4
  exact ⟨h0, h1, h2, h3, h4, hk⟩

theorem frame_p4 : Cert.quiescent_MergeSample := fun m g _ => Cert.MergeSample.Gen.frame m g

theorem frame_pi4 : Cert.quiescent_MergeSampleIdeal := fun m g _ => Cert.MergeSampleIdeal.Gen.frame m g

theorem frame_ri4 : Cert.quiescent_MergeSampleReferenceIdeal := fun m g _ =>
  (θ_run Cert.MergeSampleReferenceIdeal.defs _ _).mono (fun r h => ⟨fun c => (h c).2, sem_eq_zero_of_no_sems (by decide) r.2⟩)
    (Cert.MergeSampleReferenceIdeal.Value.run (F := Ideal) m g)

/-- The sample's merge: its result array and its reference's are one. -/
theorem algebraic4 : Cert.algebraic_MergeSampleIdeal_MergeSampleReferenceIdeal := by
  intro m g m' g' hp hagree
  refine ⟨_, Cert.MergeSampleIdeal.Value.run (F := Ideal) m g, ?_⟩
  refine (θ_run Cert.MergeSampleReferenceIdeal.defs _ _).mono (fun _ h c => ⟨(h c).1.trans ?_, (h c).2⟩)
    (Cert.MergeSampleReferenceIdeal.Value.run (F := Ideal) m' g')
  obtain ⟨e0, e1, e2, e3, e4, e5, e6, e7⟩ := hagree c
  funext y
  refine (congrArg _ (eq_ix2 y)).trans ((Cert.MergeSampleReferenceIdeal.Hand.result_at m' c (y 0) (y 1)).trans ?_)
  unfold Cert.MergeSampleReferenceIdeal.Hand.argX Cert.MergeSampleReferenceIdeal.Hand.argA Cert.MergeSampleReferenceIdeal.Hand.argP
    Cert.MergeSampleReferenceIdeal.Hand.argC Cert.MergeSampleReferenceIdeal.Hand.argW Cert.MergeSampleReferenceIdeal.Hand.argG
    Cert.MergeSampleReferenceIdeal.Hand.argU Cert.MergeSampleReferenceIdeal.Hand.argD
  rw [e0, e1, e2, e3, e4, e5, e6, e7]
  exact ((congrArg _ (eq_ix2 y)).trans (Cert.MergeSampleIdeal.Hand.out_apply _ _ _ _ _ _ _ _ (y 0) (y 1))).symm

theorem frame_p5 : Cert.quiescent_InprojPrompt := fun m g _ => Cert.InprojPrompt.Gen.frame m g

theorem frame_pi5 : Cert.quiescent_InprojPromptIdeal := fun m g _ => Cert.InprojPromptIdeal.Gen.frame m g

theorem frame_ri5 : Cert.quiescent_InprojPromptReferenceIdeal := fun m g _ =>
  (θ_run Cert.InprojPromptReferenceIdeal.defs _ _).mono (fun r h => ⟨fun c => (h c).2.2.2.2, sem_eq_zero_of_no_sems (by decide) r.2⟩)
    (Cert.InprojPromptReferenceIdeal.Hand.run_value m g)

/-- The queries' scale is the one that the ledger states. -/
theorem preserves5 : Cert.preserves_InprojPrompt_InprojPromptIdeal :=
  IdealRules.named_const.statement Cert.InprojPromptIdeal.κ "q_scale" .f32 0x3E38AA3B#32 (((Real.log 256)⁻¹ : ℝ) : EReal) rfl

/-- The prompt's input projection: its keys, values, pooling inputs and gated inputs and its reference's are one. -/
theorem algebraic5 : Cert.algebraic_InprojPromptIdeal_InprojPromptReferenceIdeal := by
  intro m g m' g' hp hagree
  refine ⟨_, _, _, _, (θ_run Cert.InprojPromptIdeal.defs _ _).mono (fun _ h c => ⟨(h c).2.2.2.1.trans (Cert.InprojPromptIdeal.Hand.arr_k m c),
      (h c).2.2.2.2.1.trans (Cert.InprojPromptIdeal.Hand.arr_v m c), (h c).2.2.2.2.2.1.trans (Cert.InprojPromptIdeal.Hand.arr_u m c),
      (h c).2.2.2.2.2.2.1.trans (Cert.InprojPromptIdeal.Hand.arr_h m c), (h c).2.2.2.2.2.2.2⟩)
    (Cert.InprojPromptIdeal.Value.run_blocks (F := Ideal) m g), ?_⟩
  refine (θ_run Cert.InprojPromptReferenceIdeal.defs _ _).mono (fun _ h c => ?_) (Cert.InprojPromptReferenceIdeal.Hand.run_value m' g')
  obtain ⟨e0, e1, e2, e3, e4, e5, e6, e7, e8, e9⟩ := hagree c
  obtain ⟨h0, h1, h2, h3, hk⟩ := h c
  rw [e0, e1, e2, e4, e8] at h0
  rw [e0, e1, e2, e9] at h1
  rw [e0, e1, e2] at h2 h3
  exact ⟨h0, h1, h2, h3, hk⟩

theorem claim : Cert.Claim :=
  ⟨Cert.Kernel.Gen.facts, Cert.KernelIdeal.Gen.facts, Cert.ReferenceIdeal.Gen.facts, Cert.Merge.Gen.facts, Cert.MergeIdeal.Gen.facts, Cert.MergeReferenceIdeal.Gen.facts,
    Cert.Inproj.Gen.facts, Cert.InprojIdeal.Gen.facts, Cert.InprojReferenceIdeal.Gen.facts,
    Cert.MergeSample.Gen.facts, Cert.MergeSampleIdeal.Gen.facts, Cert.MergeSampleReferenceIdeal.Gen.facts,
    Cert.InprojPrompt.Gen.facts, Cert.InprojPromptIdeal.Gen.facts, Cert.InprojPromptReferenceIdeal.Gen.facts, preFacts,
    frame_p, frame_pi, frame_pi_pre, frame_ri, frame_ri_pre, frame_p2, frame_pi2, frame_ri2, frame_p3, frame_pi3, frame_ri3, frame_p4, frame_pi4, frame_ri4, frame_p5, frame_pi5, frame_ri5,
    preserves, algebraic, trivial, algebraic2, preserves3, algebraic3, trivial, algebraic4, preserves5, algebraic5⟩

end Cert.Proof

end
